-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "gelu_cubic" .f32 0x3D122279#32 ((80338380498831 / 2251799813685248 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_v91) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x2048x6144 : Shape := ⟨3, ![4, 2048, 6144]⟩
abbrev S4x32x1024 : Shape := ⟨3, ![4, 32, 1024]⟩
abbrev S2048x2048 : Shape := ⟨2, ![2048, 2048]⟩
abbrev S2x2048 : Shape := ⟨2, ![2, 2048]⟩
abbrev S4x2048x2048 : Shape := ⟨3, ![4, 2048, 2048]⟩
abbrev S2048x6144 : Shape := ⟨2, ![2048, 6144]⟩
abbrev S12x2048x512 : Shape := ⟨3, ![12, 2048, 512]⟩
abbrev S1x512x1024 : Shape := ⟨3, ![1, 512, 1024]⟩
abbrev S1x512x2048 : Shape := ⟨3, ![1, 512, 2048]⟩
abbrev S1x8x1024 : Shape := ⟨3, ![1, 8, 1024]⟩
abbrev S128x6144 : Shape := ⟨2, ![128, 6144]⟩
abbrev S12x128x512 : Shape := ⟨3, ![12, 128, 512]⟩
abbrev S4x256x512 : Shape := ⟨3, ![4, 256, 512]⟩
abbrev S512x2048 : Shape := ⟨2, ![512, 2048]⟩
abbrev S128x512 : Shape := ⟨2, ![128, 512]⟩
abbrev S1x128x512 : Shape := ⟨3, ![1, 128, 512]⟩
abbrev S1x1x256 : Shape := ⟨3, ![1, 1, 256]⟩
abbrev S1x256 : Shape := ⟨2, ![1, 256]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S256x512 : Shape := ⟨2, ![256, 512]⟩
abbrev S128x256 : Shape := ⟨2, ![128, 256]⟩
abbrev S256x128 : Shape := ⟨2, ![256, 128]⟩
abbrev S1x256x128 : Shape := ⟨3, ![1, 256, 128]⟩
abbrev S1x256x512 : Shape := ⟨3, ![1, 256, 512]⟩
abbrev S64 : Shape := ⟨1, ![64]⟩
abbrev S64x1 : Shape := ⟨2, ![64, 1]⟩
abbrev S1x2048 : Shape := ⟨2, ![1, 2048]⟩
abbrev S512 : Shape := ⟨1, ![512]⟩
abbrev S512x1 : Shape := ⟨2, ![512, 1]⟩

abbrev nBuf : Space → Nat
  | .hbm => 8
  | .vmem => 22
  | .smem => 0
  | _ => 0

abbrev bufTy : (tb : Table) → Fin (tcTables nBuf tb) → BufTy
  | .hbm, ⟨0, _⟩ => ⟨S4x2048x6144, .bf16⟩
  | .hbm, ⟨1, _⟩ => ⟨S4x32x1024, .f32⟩
  | .hbm, ⟨2, _⟩ => ⟨S2048x2048, .bf16⟩
  | .hbm, ⟨3, _⟩ => ⟨S2x2048, .f32⟩
  | .hbm, ⟨4, _⟩ => ⟨S4x2048x2048, .f32⟩
  | .hbm, ⟨5, _⟩ => ⟨S2048x6144, .f32⟩
  | .hbm, ⟨6, _⟩ => ⟨S4x2048x2048, .f32⟩
  | .hbm, ⟨7, _⟩ => ⟨S12x2048x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x8x1024, .f32⟩
  | .local _ .vmem, ⟨9, _⟩ => ⟨S1x8x1024, .f32⟩
  | .local _ .vmem, ⟨10, _⟩ => ⟨S2048x2048, .bf16⟩
  | .local _ .vmem, ⟨11, _⟩ => ⟨S2x2048, .f32⟩
  | .local _ .vmem, ⟨12, _⟩ => ⟨S1x512x2048, .f32⟩
  | .local _ .vmem, ⟨13, _⟩ => ⟨S1x512x2048, .f32⟩
  | .local _ .vmem, ⟨14, _⟩ => ⟨S128x6144, .f32⟩
  | .local _ .vmem, ⟨15, _⟩ => ⟨S128x6144, .f32⟩
  | .local _ .vmem, ⟨16, _⟩ => ⟨S1x512x2048, .f32⟩
  | .local _ .vmem, ⟨17, _⟩ => ⟨S1x512x2048, .f32⟩
  | .local _ .vmem, ⟨18, _⟩ => ⟨S12x128x512, .bf16⟩
  | .local _ .vmem, ⟨19, _⟩ => ⟨S12x128x512, .bf16⟩
  | .local _ .vmem, ⟨20, _⟩ => ⟨S4x256x512, .f32⟩
  | .local _ .vmem, ⟨21, _⟩ => ⟨S512x2048, .bf16⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S12x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x2048x6144 : Shape := ⟨3, ![4, 2048, 6144]⟩
abbrev S4x32x1024 : Shape := ⟨3, ![4, 32, 1024]⟩
abbrev S2048x2048 : Shape := ⟨2, ![2048, 2048]⟩
abbrev S2x2048 : Shape := ⟨2, ![2, 2048]⟩
abbrev S4x2048x2048 : Shape := ⟨3, ![4, 2048, 2048]⟩
abbrev S2048x6144 : Shape := ⟨2, ![2048, 6144]⟩
abbrev S4x2048x1024 : Shape := ⟨3, ![4, 2048, 1024]⟩
abbrev S4x32x64x4x256 : Shape := ⟨5, ![4, 32, 64, 4, 256]⟩
abbrev S32x4x4x64x256 : Shape := ⟨5, ![32, 4, 4, 64, 256]⟩
abbrev S_ : Shape := ⟨0, ![]⟩
abbrev S4x32x64x4x512 : Shape := ⟨5, ![4, 32, 64, 4, 512]⟩
abbrev S32x4x4x64x512 : Shape := ⟨5, ![32, 4, 4, 64, 512]⟩
abbrev S4x32x4x256 : Shape := ⟨4, ![4, 32, 4, 256]⟩
abbrev S32x4x4x256 : Shape := ⟨4, ![32, 4, 4, 256]⟩
abbrev S4x4x256x512 : Shape := ⟨4, ![4, 4, 256, 512]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S1x4x4x256 : Shape := ⟨4, ![1, 4, 4, 256]⟩
abbrev S4x4x256 : Shape := ⟨3, ![4, 4, 256]⟩
abbrev S4x4x256x1 : Shape := ⟨4, ![4, 4, 256, 1]⟩
abbrev S4x2048x4x512 : Shape := ⟨4, ![4, 2048, 4, 512]⟩
abbrev S4x2048x4 : Shape := ⟨3, ![4, 2048, 4]⟩
abbrev S4x2048x4x1 : Shape := ⟨4, ![4, 2048, 4, 1]⟩
abbrev S4x2048 : Shape := ⟨2, ![4, 2048]⟩
abbrev S4x2048x1 : Shape := ⟨3, ![4, 2048, 1]⟩
abbrev S1x2048 : Shape := ⟨2, ![1, 2048]⟩
abbrev S2048 : Shape := ⟨1, ![2048]⟩
abbrev S1x1x2048 : Shape := ⟨3, ![1, 1, 2048]⟩
abbrev S2048x12x512 : Shape := ⟨3, ![2048, 12, 512]⟩
abbrev S12x2048x512 : Shape := ⟨3, ![12, 2048, 512]⟩

abbrev nBuf : Space → Nat
  | .hbm => 117
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S4x32x1024, .f32⟩
  | .hbm, ⟨2, _⟩ => ⟨S2048x2048, .bf16⟩
  | .hbm, ⟨3, _⟩ => ⟨S2x2048, .f32⟩
  | .hbm, ⟨4, _⟩ => ⟨S4x2048x2048, .f32⟩
  | .hbm, ⟨5, _⟩ => ⟨S2048x6144, .f32⟩
  | .hbm, ⟨6, _⟩ => ⟨S4x2048x1024, .bf16⟩
  | .hbm, ⟨7, _⟩ => ⟨S4x2048x1024, .bf16⟩
  | .hbm, ⟨8, _⟩ => ⟨S4x2048x2048, .bf16⟩
  | .hbm, ⟨9, _⟩ => ⟨S4x2048x1024, .f32⟩
  | .hbm, ⟨10, _⟩ => ⟨S4x32x64x4x256, .f32⟩
  | .hbm, ⟨11, _⟩ => ⟨S32x4x4x64x256, .f32⟩
  | .hbm, ⟨12, _⟩ => ⟨S_, .f32⟩
  | .hbm, ⟨13, _⟩ => ⟨S32x4x4x64x256, .f32⟩
  | .hbm, ⟨14, _⟩ => ⟨S32x4x4x64x256, .f32⟩
  | .hbm, ⟨15, _⟩ => ⟨S4x2048x1024, .f32⟩
  | .hbm, ⟨16, _⟩ => ⟨S4x32x64x4x256, .f32⟩
  | .hbm, ⟨17, _⟩ => ⟨S32x4x4x64x256, .f32⟩
  | .hbm, ⟨18, _⟩ => ⟨S4x2048x2048, .f32⟩
  | .hbm, ⟨19, _⟩ => ⟨S4x32x64x4x512, .f32⟩
  | .hbm, ⟨20, _⟩ => ⟨S32x4x4x64x512, .f32⟩
  | .hbm, ⟨21, _⟩ => ⟨S4x32x4x256, .f32⟩
  | .hbm, ⟨22, _⟩ => ⟨S32x4x4x256, .f32⟩
  | .hbm, ⟨23, _⟩ => ⟨S_, .f32⟩
  | .hbm, ⟨24, _⟩ => ⟨S4x4x256x512, .f32⟩
  | .hbm, ⟨25, _⟩ => ⟨S_, .f32⟩
  | .hbm, ⟨26, _⟩ => ⟨S32x4x4x64x512, .f32⟩
  | .hbm, ⟨27, _⟩ => ⟨S_, .i32⟩
  | .hbm, ⟨28, _⟩ => ⟨S32x4x4x64x256, .f32⟩
  | .hbm, ⟨29, _⟩ => ⟨S32x4x4x64x256, .f32⟩
  | .hbm, ⟨30, _⟩ => ⟨S32x4x4x64x512, .f32⟩
  | .hbm, ⟨31, _⟩ => ⟨S32x4x4x256, .f32⟩
  | .hbm, ⟨32, _⟩ => ⟨S_, .i32⟩
  | .hbm, ⟨33, _⟩ => ⟨S4x4x256x512, .f32⟩
  | .hbm, ⟨34, _⟩ => ⟨S32x4x4x64x512, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x4x4x64x256, .f32⟩
  | .hbm, ⟨42, _⟩ => ⟨S4x4x64x256, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x4x64x256, .f32⟩
  | .hbm, ⟨48, _⟩ => ⟨S4x4x64x256, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x4x4x64x512, .f32⟩
  | .hbm, ⟨54, _⟩ => ⟨S4x4x64x512, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x4x4x256, .f32⟩
  | .hbm, ⟨59, _⟩ => ⟨S4x4x256, .f32⟩
  | .hbm, ⟨60, _⟩ => ⟨S4x4x256x1, .f32⟩
  | .hbm, ⟨61, _⟩ => ⟨S4x4x256x512, .f32⟩
  | .hbm, ⟨62, _⟩ => ⟨S4x4x256x512, .f32⟩
  | .hbm, ⟨63, _⟩ => ⟨S4x4x256x512, .f32⟩
  | .hbm, ⟨64, _⟩ => ⟨S4x4x256x512, .f32⟩
  | .hbm, ⟨65, _⟩ => ⟨S4x4x64x512, .f32⟩
  | .hbm, ⟨66, _⟩ => ⟨S1x4x4x64x512, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S32x4x4x64x512, .f32⟩
  | .hbm, ⟨72, _⟩ => ⟨S_, .i32⟩
  | .hbm, ⟨73, _⟩ => ⟨S_, .i32⟩
  | .hbm, ⟨74, _⟩ => ⟨S4x32x64x4x512, .f32⟩
  | .hbm, ⟨75, _⟩ => ⟨S4x2048x4x512, .f32⟩
  | .hbm, ⟨76, _⟩ => ⟨S4x2048x4x512, .f32⟩
  | .hbm, ⟨77, _⟩ => ⟨S_, .f32⟩
  | .hbm, ⟨78, _⟩ => ⟨S4x2048x4, .f32⟩
  | .hbm, ⟨79, _⟩ => ⟨S4x2048x4x1, .f32⟩
  | .hbm, ⟨80, _⟩ => ⟨S_, .f32⟩
  | .hbm, ⟨81, _⟩ => ⟨S4x2048x4x1, .f32⟩
  | .hbm, ⟨82, _⟩ => ⟨S4x2048x4x1, .f32⟩
  | .hbm, ⟨83, _⟩ => ⟨S_, .f32⟩
  | .hbm, ⟨84, _⟩ => ⟨S4x2048x4x1, .f32⟩
  | .hbm, ⟨85, _⟩ => ⟨S4x2048x4x1, .f32⟩
  | .hbm, ⟨86, _⟩ => ⟨S4x2048x4x1, .f32⟩
  | .hbm, ⟨87, _⟩ => ⟨S4x2048x4x512, .f32⟩
  | .hbm, ⟨88, _⟩ => ⟨S4x2048x4x512, .f32⟩
  | .hbm, ⟨89, _⟩ => ⟨S4x2048x2048, .f32⟩
  | .hbm, ⟨90, _⟩ => ⟨S4x2048x2048, .bf16⟩
  | .hbm, ⟨91, _⟩ => ⟨S4x2048x2048, .f32⟩
  | .hbm, ⟨92, _⟩ => ⟨S4x2048x2048, .f32⟩
  | .hbm, ⟨93, _⟩ => ⟨S2048x2048, .f32⟩
  | .hbm, ⟨94, _⟩ => ⟨S4x2048x2048, .f32⟩
  | .hbm, ⟨95, _⟩ => ⟨S4x2048x2048, .f32⟩
  | .hbm, ⟨96, _⟩ => ⟨S_, .f32⟩
  | .hbm, ⟨97, _⟩ => ⟨S4x2048, .f32⟩
  | .hbm, ⟨98, _⟩ => ⟨S4x2048x1, .f32⟩
  | .hbm, ⟨99, _⟩ => ⟨S_, .f32⟩
  | .hbm, ⟨100, _⟩ => ⟨S4x2048x1, .f32⟩
  | .hbm, ⟨101, _⟩ => ⟨S4x2048x1, .f32⟩
  | .hbm, ⟨102, _⟩ => ⟨S_, .f32⟩
  | .hbm, ⟨103, _⟩ => ⟨S4x2048x1, .f32⟩
  | .hbm, ⟨104, _⟩ => ⟨S4x2048x1, .f32⟩
  | .hbm, ⟨105, _⟩ => ⟨S4x2048x1, .f32⟩
  | .hbm, ⟨106, _⟩ => ⟨S4x2048x2048, .f32⟩
  | .hbm, ⟨107, _⟩ => ⟨S4x2048x2048, .f32⟩
  | .hbm, ⟨108, _⟩ => ⟨S1x2048, .f32⟩
  | .hbm, ⟨109, _⟩ => ⟨S2048, .f32⟩
  | .hbm, ⟨110, _⟩ => ⟨S1x1x2048, .f32⟩
  | .hbm, ⟨111, _⟩ => ⟨S4x2048x2048, .f32⟩
  | .hbm, ⟨112, _⟩ => ⟨S4x2048x2048, .f32⟩
  | .hbm, ⟨113, _⟩ => ⟨S4x2048x2048, .f32⟩
  | .hbm, ⟨114, _⟩ => ⟨S2048x6144, .bf16⟩
  | .hbm, ⟨115, _⟩ => ⟨S2048x12x512, .bf16⟩
  | .hbm, ⟨116, _⟩ => ⟨S12x2048x512, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_c : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev main_v18_5 : Ref sig .tc := ⟨.hbm, 33, rfl⟩
abbrev main_v18_6 : Ref sig .tc := ⟨.hbm, 34, rfl⟩
abbrev main_while0c_c_14 : Ref sig .tc := ⟨.hbm, 35, rfl⟩
abbrev main_while0c_v56 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_c_2 : Ref sig .tc := ⟨.hbm, 40, rfl⟩
abbrev main_while0b_call0_v0 : Ref sig .tc := ⟨.hbm, 41, rfl⟩
abbrev main_while0b_v56 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_call1_v0 : Ref sig .tc := ⟨.hbm, 47, rfl⟩
abbrev main_while0b_v57 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_c_2 : Ref sig .tc := ⟨.hbm, 52, rfl⟩
abbrev main_while0b_call2_v0 : Ref sig .tc := ⟨.hbm, 53, rfl⟩
abbrev main_while0b_v58 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_v0 : Ref sig .tc := ⟨.hbm, 58, rfl⟩
abbrev main_while0b_v59 : Ref sig .tc := ⟨.hbm, 59, rfl⟩
abbrev main_while0b_v60 : Ref sig .tc := ⟨.hbm, 60, rfl⟩
abbrev main_while0b_v61 : Ref sig .tc := ⟨.hbm, 61, rfl⟩
abbrev main_while0b_v62 : Ref sig .tc := ⟨.hbm, 62, rfl⟩
abbrev main_while0b_v63 : Ref sig .tc := ⟨.hbm, 63, rfl⟩
abbrev main_while0b_v64 : Ref sig .tc := ⟨.hbm, 64, rfl⟩
abbrev main_while0b_v65 : Ref sig .tc := ⟨.hbm, 65, rfl⟩
abbrev main_while0b_call4_v0 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_v66 : Ref sig .tc := ⟨.hbm, 71, rfl⟩
abbrev main_while0b_c_14 : Ref sig .tc := ⟨.hbm, 72, rfl⟩
abbrev main_while0b_v67 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_cst_2 : Ref sig .tc := ⟨.hbm, 77, rfl⟩
abbrev main_v22 : Ref sig .tc := ⟨.hbm, 78, rfl⟩
abbrev main_v23 : Ref sig .tc := ⟨.hbm, 79, rfl⟩
abbrev main_cst_3 : Ref sig .tc := ⟨.hbm, 80, rfl⟩
abbrev main_v24 : Ref sig .tc := ⟨.hbm, 81, rfl⟩
abbrev main_v25 : Ref sig .tc := ⟨.hbm, 82, rfl⟩
abbrev main_cst_4 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_5 : Ref sig .tc := ⟨.hbm, 96, rfl⟩
abbrev main_v38 : Ref sig .tc := ⟨.hbm, 97, rfl⟩
abbrev main_v39 : Ref sig .tc := ⟨.hbm, 98, rfl⟩
abbrev main_cst_6 : Ref sig .tc := ⟨.hbm, 99, rfl⟩
abbrev main_v40 : Ref sig .tc := ⟨.hbm, 100, rfl⟩
abbrev main_v41 : Ref sig .tc := ⟨.hbm, 101, rfl⟩
abbrev main_cst_7 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x2048 : Shape := ⟨2, ![8192, 2048]⟩
abbrev S2x2048 : Shape := ⟨2, ![2, 2048]⟩
abbrev S12x2048x512 : Shape := ⟨3, ![12, 2048, 512]⟩
abbrev S2048x2048 : Shape := ⟨2, ![2048, 2048]⟩
abbrev S1x2048 : Shape := ⟨2, ![1, 2048]⟩
abbrev S8x128x128 : Shape := ⟨3, ![8, 128, 128]⟩
abbrev S8x128 : Shape := ⟨2, ![8, 128]⟩
abbrev S512x2048 : Shape := ⟨2, ![512, 2048]⟩
abbrev S128x2048 : Shape := ⟨2, ![128, 2048]⟩
abbrev S128x128 : Shape := ⟨2, ![128, 128]⟩
abbrev S1x128x128 : Shape := ⟨3, ![1, 128, 128]⟩
abbrev S1x128 : Shape := ⟨2, ![1, 128]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S16x128 : Shape := ⟨2, ![16, 128]⟩
abbrev S16x2048 : Shape := ⟨2, ![16, 2048]⟩
abbrev S16 : Shape := ⟨1, ![16]⟩
abbrev S16x1 : Shape := ⟨2, ![16, 1]⟩
abbrev S128x256 : Shape := ⟨2, ![128, 256]⟩

abbrev nBuf : Space → Nat
  | .hbm => 10
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S12x2048x512, .bf16⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S8x128x128, .f32⟩
  | .hbm, ⟨7, _⟩ => ⟨S8x128, .f32⟩
  | .hbm, ⟨8, _⟩ => ⟨S8192x2048, .bf16⟩
  | .hbm, ⟨9, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S2x2048, .f32⟩
  | .local _ .vmem, ⟨3, _⟩ => ⟨S12x2048x512, .bf16⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S8x128, .f32⟩
  | .local _ .vmem, ⟨10, _⟩ => ⟨S512x2048, .bf16⟩
  | .local _ .vmem, ⟨11, _⟩ => ⟨S512x2048, .bf16⟩
  | .local _ .vmem, ⟨12, _⟩ => ⟨S128x2048, .bf16⟩
  | .local _ .vmem, ⟨13, _⟩ => ⟨S128x2048, .bf16⟩
  | .local _ .vmem, ⟨14, _⟩ => ⟨S8x128x128, .bf16⟩
  | .local _ .vmem, ⟨15, _⟩ => ⟨S128x2048, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
variable {F : FTy → Type} [FloatOps F] [Named F]
def κ : String → Option EReal := fun
  | "gelu_cubic" => some ((80338380498831 / 2251799813685248 : ℝ) : EReal)
  | _ => none
-- ==== Reference2Ideal.lean ====
abbrev S8192x2048 : Shape := ⟨2, ![8192, 2048]⟩
abbrev S2x2048 : Shape := ⟨2, ![2, 2048]⟩
abbrev S12x2048x512 : Shape := ⟨3, ![12, 2048, 512]⟩
abbrev S2048x2048 : Shape := ⟨2, ![2048, 2048]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S2048 : Shape := ⟨1, ![2048]⟩
abbrev S2048x12x512 : Shape := ⟨3, ![2048, 12, 512]⟩
abbrev S2048x6144 : Shape := ⟨2, ![2048, 6144]⟩
abbrev S8192x6144 : Shape := ⟨2, ![8192, 6144]⟩
abbrev S64x128x8x256 : Shape := ⟨4, ![64, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 145
  | .vmem => 0
  | .smem => 0
  | _ => 0

abbrev hbmTy0_0 (i : Nat) : BufTy := match i % 128 with
  | 0 => ⟨S8192x2048, .f32⟩
  | 1 => ⟨S2x2048, .f32⟩
  | 2 => ⟨S12x2048x512, .bf16⟩
  | 3 => ⟨S2048x2048, .f32⟩
  | 4 => ⟨S1x2048, .f32⟩
  | 5 => ⟨S1x2048, .f32⟩
  | 6 => ⟨S8x128x128, .f32⟩
  | 7 => ⟨S8x128, .f32⟩
  | 8 => ⟨S8192x2048, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x2048, .f32⟩
  | 20 => ⟨S8192x2048, .f32⟩
  | 21 => ⟨S1x2048, .f32⟩
  | 22 => ⟨S2048, .f32⟩
  | 23 => ⟨S1x2048, .f32⟩
  | 24 => ⟨S8192x2048, .f32⟩
  | 25 => ⟨S8192x2048, .f32⟩
  | 26 => ⟨S12x2048x512, .f32⟩
  | 27 => ⟨S2048x12x512, .f32⟩
  | 28 => ⟨S2048x6144, .f32⟩
  | 29 => ⟨S8192x6144, .f32⟩
  | 30 => ⟨S8192x2048, .f32⟩
  | 31 => ⟨S8192x2048, .f32⟩
  | 32 => ⟨S8192x2048, .f32⟩
  | 33 => ⟨S8192x2048, .f32⟩
  | 34 => ⟨S8192x2048, .f32⟩
  | 35 => ⟨S_, .f32⟩
  | 36 => ⟨S8192x2048, .f32⟩
  | 37 => ⟨S8192x2048, .f32⟩
  | 38 => ⟨S8192x2048, .f32⟩
  | 39 => ⟨S_, .f32⟩
  | 40 => ⟨S8192x2048, .f32⟩
  | 41 => ⟨S8192x2048, .f32⟩
  | 42 => ⟨S8192x2048, .f32⟩
  | 43 => ⟨S_, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S_, .f32⟩
  | 53 => ⟨S8192x2048, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S8192x2048, .f32⟩
  | 60 => ⟨S_, .f32⟩
  | 61 => ⟨S8192x2048, .f32⟩
  | 62 => ⟨S8192x2048, .f32⟩
  | 63 => ⟨S_, .f32⟩
  | 64 => ⟨S8192x2048, .f32⟩
  | 65 => ⟨S8192x2048, .f32⟩
  | 66 => ⟨S8192x2048, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S8192x2048, .f32⟩
  | 74 => ⟨S8192x2048, .f32⟩
  | 75 => ⟨S8192x2048, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S8192x2048, .f32⟩
  | 83 => ⟨S8192x2048, .f32⟩
  | 84 => ⟨S_, .f32⟩
  | 85 => ⟨S8192x1, .f32⟩
  | 86 => ⟨S8192x1, .f32⟩
  | 87 => ⟨S8192x1, .f32⟩
  | 88 => ⟨S8192x2048, .f32⟩
  | 89 => ⟨S8192x2048, .f32⟩
  | 90 => ⟨S8192x2048, .f32⟩
  | 91 => ⟨S8192x2048, .f32⟩
  | 92 => ⟨S8192x2048, .f32⟩
  | 93 => ⟨S8192x2048, .f32⟩
  | 94 => ⟨S64x128x8x256, .f32⟩
  | 95 => ⟨S128, .i32⟩
  | 96 => ⟨S_, .i32⟩
  | 97 => ⟨S_, .i32⟩
  | 98 => ⟨S128, .i32⟩
  | 99 => ⟨S128, .i32⟩
  | 100 => ⟨S128, .i32⟩
  | 101 => ⟨S_, .i32⟩
  | 102 => ⟨S128, .i32⟩
  | 103 => ⟨S128, .i1⟩
  | 104 => ⟨S128, .i32⟩
  | 105 => ⟨S128, .i32⟩
  | 106 => ⟨S_, .i32⟩
  | 107 => ⟨S128, .i32⟩
  | 108 => ⟨S128, .i1⟩
  | 109 => ⟨S128, .i1⟩
  | 110 => ⟨S_, .i32⟩
  | 111 => ⟨S128, .i32⟩
  | 112 => ⟨S128, .i32⟩
  | 113 => ⟨S128, .i32⟩
  | 114 => ⟨S128x1, .i32⟩
  | 115 => ⟨S1x128, .i32⟩
  | 116 => ⟨S128x128, .i32⟩
  | 117 => ⟨S128x128, .i32⟩
  | 118 => ⟨S128x128, .i1⟩
  | 119 => ⟨S1x128x128, .i1⟩
  | 120 => ⟨S_, .i32⟩
  | 121 => ⟨S_, .f32⟩
  | 122 => ⟨S8x128x128, .i1⟩
  | 123 => ⟨S8x128x128, .f32⟩
  | 124 => ⟨S8x128x128, .f32⟩
  | 125 => ⟨S8x64x256x128, .f32⟩
  | 126 => ⟨S64x128x8x256, .f32⟩
  | 127 => ⟨S128x8, .f32⟩
  | _ => ⟨S8192x2048, .f32⟩

abbrev hbmTy0_1 (i : Nat) : BufTy := match i % 128 with
  | 0 => ⟨S1x128x8x1, .f32⟩
  | 1 => ⟨S64x128x8x256, .f32⟩
  | 2 => ⟨S64x128x8x256, .f32⟩
  | 3 => ⟨S8192x2048, .f32⟩
  | 4 => ⟨S8192x2048, .f32⟩
  | 5 => ⟨S8192x2048, .f32⟩
  | 6 => ⟨S8192x2048, .f32⟩
  | 7 => ⟨S_, .f32⟩
  | 8 => ⟨S8192x2048, .f32⟩
  | 9 => ⟨S8192x2048, .f32⟩
  | 10 => ⟨S_, .f32⟩
  | 11 => ⟨S8192x2048, .f32⟩
  | 12 => ⟨S8192x2048, .f32⟩
  | 13 => ⟨S8192x2048, .f32⟩
  | 14 => ⟨S8192x2048, .f32⟩
  | 15 => ⟨S8192x2048, .bf16⟩
  | 16 => ⟨S2048x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_v8 : Ref sig .tc := ⟨.hbm, 105, rfl⟩
abbrev main_call0_c : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_call0_c_0 : Ref sig .tc := ⟨.hbm, 110, rfl⟩
abbrev main_call0_v12 : Ref sig .tc := ⟨.hbm, 111, rfl⟩
abbrev main_call0_v13 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_15 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S2x2048 : Shape := ⟨2, ![2, 2048]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2x2048, .f32⟩
  | .hbm, ⟨3, _⟩ => ⟨S8192x2048, .f32⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x2048 : Shape := ⟨2, ![8192, 2048]⟩
abbrev S2048x2048 : Shape := ⟨2, ![2048, 2048]⟩
abbrev S2x2048 : Shape := ⟨2, ![2, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S8192x2048 : Shape := ⟨2, ![8192, 2048]⟩
abbrev S2x2048 : Shape := ⟨2, ![2, 2048]⟩
abbrev S6160x2048 : Shape := ⟨2, ![6160, 2048]⟩
abbrev S16x1024 : Shape := ⟨2, ![16, 1024]⟩
abbrev S1x1024 : Shape := ⟨2, ![1, 1024]⟩
abbrev S1x2048 : Shape := ⟨2, ![1, 2048]⟩
abbrev S2048x2048 : Shape := ⟨2, ![2048, 2048]⟩
abbrev S8192x6144 : Shape := ⟨2, ![8192, 6144]⟩
abbrev S128x1024 : Shape := ⟨2, ![128, 1024]⟩
abbrev S512x2048 : Shape := ⟨2, ![512, 2048]⟩
abbrev S16x2048 : Shape := ⟨2, ![16, 2048]⟩
abbrev S128x2048 : Shape := ⟨2, ![128, 2048]⟩
abbrev S512x6144 : Shape := ⟨2, ![512, 6144]⟩
abbrev S8x1024 : Shape := ⟨2, ![8, 1024]⟩
abbrev S6144x2048 : Shape := ⟨2, ![6144, 2048]⟩
abbrev S4x128x2048 : Shape := ⟨3, ![4, 128, 2048]⟩
abbrev S512x1024 : Shape := ⟨2, ![512, 1024]⟩
abbrev S4 : Shape := ⟨1, ![4]⟩
abbrev S1 : Shape := ⟨1, ![1]⟩
abbrev S_ : Shape := ⟨0, ![]⟩
abbrev S1x128x2048 : Shape := ⟨3, ![1, 128, 2048]⟩
abbrev S512 : Shape := ⟨1, ![512]⟩
abbrev S512x1 : Shape := ⟨2, ![512, 1]⟩
abbrev S256x256 : Shape := ⟨2, ![256, 256]⟩
abbrev S512x16 : Shape := ⟨2, ![512, 16]⟩
abbrev S512x512 : Shape := ⟨2, ![512, 512]⟩
abbrev S256x1024 : Shape := ⟨2, ![256, 1024]⟩
abbrev S64x1024 : Shape := ⟨2, ![64, 1024]⟩
abbrev S1x512 : Shape := ⟨2, ![1, 512]⟩

abbrev nBuf : Space → Nat
  | .hbm => 11
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S6160x2048, .f32⟩
  | .hbm, ⟨3, _⟩ => ⟨S6160x2048, .f32⟩
  | .hbm, ⟨4, _⟩ => ⟨S16x1024, .f32⟩
  | .hbm, ⟨5, _⟩ => ⟨S1x1024, .f32⟩
  | .hbm, ⟨6, _⟩ => ⟨S1x2048, .f32⟩
  | .hbm, ⟨7, _⟩ => ⟨S2048x2048, .f32⟩
  | .hbm, ⟨8, _⟩ => ⟨S8192x6144, .bf16⟩
  | .hbm, ⟨9, _⟩ => ⟨S128x1024, .f32⟩
  | .hbm, ⟨10, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S2x2048, .f32⟩
  | .local _ .vmem, ⟨3, _⟩ => ⟨S16x2048, .f32⟩
  | .local _ .vmem, ⟨4, _⟩ => ⟨S16x1024, .f32⟩
  | .local _ .vmem, ⟨5, _⟩ => ⟨S1x1024, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S512x6144, .bf16⟩
  | .local _ .vmem, ⟨10, _⟩ => ⟨S512x6144, .bf16⟩
  | .local _ .vmem, ⟨11, _⟩ => ⟨S8x1024, .f32⟩
  | .local _ .vmem, ⟨12, _⟩ => ⟨S8x1024, .f32⟩
  | .local _ .vmem, ⟨13, _⟩ => ⟨S128x2048, .bf16⟩
  | .local _ .vmem, ⟨14, _⟩ => ⟨S128x2048, .bf16⟩
  | .local _ .vmem, ⟨15, _⟩ => ⟨S6144x2048, .bf16⟩
  | .local _ .vmem, ⟨16, _⟩ => ⟨S4x128x2048, .f32⟩
  | .local _ .vmem, ⟨17, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c384_i32 : BitVec 32 := 384#32
  let c0_i32 : BitVec 32 := 0#32
  let c0_i32_0 : BitVec 32 := 0#32
  ![c384_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8192x2048 : Shape := ⟨2, ![8192, 2048]⟩
abbrev S2x2048 : Shape := ⟨2, ![2, 2048]⟩
abbrev S6160x2048 : Shape := ⟨2, ![6160, 2048]⟩
abbrev S16x1024 : Shape := ⟨2, ![16, 1024]⟩
abbrev S1x1024 : Shape := ⟨2, ![1, 1024]⟩
abbrev S1x2048 : Shape := ⟨2, ![1, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S6144x2048 : Shape := ⟨2, ![6144, 2048]⟩
abbrev S16x2048 : Shape := ⟨2, ![16, 2048]⟩
abbrev S2048x6160 : Shape := ⟨2, ![2048, 6160]⟩
abbrev S8192x6160 : Shape := ⟨2, ![8192, 6160]⟩
abbrev S8192x1024 : Shape := ⟨2, ![8192, 1024]⟩
abbrev S8192x16 : Shape := ⟨2, ![8192, 16]⟩
abbrev S128x64x1024 : Shape := ⟨3, ![128, 64, 1024]⟩
abbrev S128x1x1024 : Shape := ⟨3, ![128, 1, 1024]⟩
abbrev S128x1024 : Shape := ⟨2, ![128, 1024]⟩
abbrev S8192x6144 : Shape := ⟨2, ![8192, 6144]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S6160x2048, .f32⟩
  | .hbm, ⟨3, _⟩ => ⟨S6160x2048, .f32⟩
  | .hbm, ⟨4, _⟩ => ⟨S16x1024, .f32⟩
  | .hbm, ⟨5, _⟩ => ⟨S1x1024, .f32⟩
  | .hbm, ⟨6, _⟩ => ⟨S1x2048, .f32⟩
  | .hbm, ⟨7, _⟩ => ⟨S2048x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S6144x2048, .f32⟩
  | .hbm, ⟨27, _⟩ => ⟨S16x2048, .f32⟩
  | .hbm, ⟨28, _⟩ => ⟨S6160x2048, .f32⟩
  | .hbm, ⟨29, _⟩ => ⟨S2048x6160, .f32⟩
  | .hbm, ⟨30, _⟩ => ⟨S8192x6160, .f32⟩
  | .hbm, ⟨31, _⟩ => ⟨S8192x1024, .f32⟩
  | .hbm, ⟨32, _⟩ => ⟨S8192x1024, .f32⟩
  | .hbm, ⟨33, _⟩ => ⟨S8192x2048, .f32⟩
  | .hbm, ⟨34, _⟩ => ⟨S8192x2048, .f32⟩
  | .hbm, ⟨35, _⟩ => ⟨S8192x16, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .i1⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S128x64x1024, .f32⟩
  | .hbm, ⟨59, _⟩ => ⟨S_, .f32⟩
  | .hbm, ⟨60, _⟩ => ⟨S_, .f32⟩
  | .hbm, ⟨61, _⟩ => ⟨S128x64x1024, .f32⟩
  | .hbm, ⟨62, _⟩ => ⟨S128x1x1024, .f32⟩
  | .hbm, ⟨63, _⟩ => ⟨S128x64x1024, .f32⟩
  | .hbm, ⟨64, _⟩ => ⟨S128x64x1024, .f32⟩
  | .hbm, ⟨65, _⟩ => ⟨S128x64x1024, .f32⟩
  | .hbm, ⟨66, _⟩ => ⟨S8192x1024, .f32⟩
  | .hbm, ⟨67, _⟩ => ⟨S8192x1024, .f32⟩
  | .hbm, ⟨68, _⟩ => ⟨S128x1024, .f32⟩
  | .hbm, ⟨69, _⟩ => ⟨S128x1024, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x6144, .f32⟩
  | .hbm, ⟨82, _⟩ => ⟨S8192x6144, .bf16⟩
  | .hbm, ⟨83, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_call0_cst : Ref sig .tc := ⟨.hbm, 59, rfl⟩
abbrev main_call1_call0_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩

abbrev nD : Nat := 1
abbrev τ : Topo := Topo.v7x

variable {F : FTy → Type} [FloatOps F]
-- ==== Proof.InSlot.lean ====
module

public import Idealize.ShloMosaic.Harness.Basic
public import Idealize.ShloMosaic.Lib.Tactic

@[expose] public section

noncomputable section

/-! The four slots of the staging buffer: a slot read back after its own copy and after copies into other slots. -/

namespace Cert.Slot

open Idealize.ShloMosaic Idealize.ShloMosaic.TcCoe

/-- The staging buffer: four chunks of 128 rows. -/
abbrev SB : Shape := ⟨3, ![4, 128, 2048]⟩
/-- One slot of it. -/
abbrev S1 : Shape := ⟨3, ![1, 128, 2048]⟩
/-- One chunk. -/
abbrev SC : Shape := ⟨2, ![128, 2048]⟩

variable {sig : RefSig} {F : FTy → Type}

/-- A chunk, as the slab of one slot holds it. -/
def up (w : SC.Idx → Elt F .f32) : S1.Idx → Elt F .f32 := shapeCast S1 w (by decide)

/-- Slot `k` of a staging buffer, as a memref of one chunk. -/
abbrev at_ (A : Memref sig .tc .vmem SB .f32) (k : ℕ) (hk : ∀ a, (![k, 0, 0] : Fin 3 → ℕ) a + S1.size a ≤ SB.size a)
    (hs : ∀ a, (Rect.unit (s := SB) ![k, 0, 0] S1.size hk).stride a = 1) (hq : S1.Squeezes SC) : Memref sig .tc .vmem SC .f32 :=
  (A.slice (Rect.unit (s := SB) ![k, 0, 0] S1.size hk) hs).squeeze SC hq

/-- A slot read after its own copy is the chunk copied. -/
theorem read_self (A : Memref sig .tc .vmem SB .f32) (k : ℕ) (hk hs hq) (f : A.view.ty.Contents (Elt F)) (w : SC.Idx → Elt F .f32) :
    A.view.readAt (Elt F) (Rect.unit (s := SB) ![k, 0, 0] S1.size hk).toLoadRect
      ((at_ A k hk hs hq).view.write (Elt F) f w Finset.univ) = up w := by
  funext x
  have h := congrFun ((at_ A k hk hs hq).view.read_write_univ f w) (Shape.reshapeEquiv (show S1.numel = SC.numel by decide) x)
  have e : Shape.reshapeEquiv (show SC.numel = S1.numel by decide) (Shape.reshapeEquiv (show S1.numel = SC.numel by decide) x) = x := by
    simp [Shape.reshapeEquiv]
  refine Eq.trans ?_ h
  show A.view.read (Elt F) _ ((Rect.unit (s := SB) ![k, 0, 0] S1.size hk).emb x) = A.view.read (Elt F) _ ((Rect.unit (s := SB) ![k, 0, 0] S1.size hk).emb (Shape.reshapeEquiv _ (Shape.reshapeEquiv _ x)))
  rw [e]

/-- A slot read after a copy into another slot is what it was. -/
theorem read_other (A : Memref sig .tc .vmem SB .f32) (k j : ℕ) (hne : k ≠ j) (hk hj hs hq) (f : A.view.ty.Contents (Elt F)) (w : SC.Idx → Elt F .f32) :
    A.view.readAt (Elt F) (Rect.unit (s := SB) ![k, 0, 0] S1.size hk).toLoadRect
      ((at_ A j hj hs hq).view.write (Elt F) f w Finset.univ)
      = A.view.readAt (Elt F) (Rect.unit (s := SB) ![k, 0, 0] S1.size hk).toLoadRect f := by
  funext x
  have hn : A.view.emb ((Rect.unit (s := SB) ![k, 0, 0] S1.size hk).emb x) ∉ (at_ A j hj hs hq).view.setOn Finset.univ := by
    intro hm
    obtain ⟨y, -, hy⟩ := Finset.mem_map.mp hm
    have hy' : (Rect.unit (s := SB) ![j, 0, 0] S1.size hj).emb (Shape.reshapeEquiv hq.numel_eq y) = (Rect.unit (s := SB) ![k, 0, 0] S1.size hk).emb x := A.view.emb.injective hy
    have h0 := congrArg (fun i => (i 0).val) hy'
    have a0 : (Shape.reshapeEquiv hq.numel_eq y 0).val = 0 := Nat.lt_one_iff.mp (Shape.reshapeEquiv hq.numel_eq y 0).isLt
    have b0 : (x 0).val = 0 := Nat.lt_one_iff.mp (x 0).isLt
    have l0 : (((Rect.unit (s := SB) ![j, 0, 0] S1.size hj).emb (Shape.reshapeEquiv hq.numel_eq y)) 0).val = j + 1 * (Shape.reshapeEquiv hq.numel_eq y 0).val := rfl
    have r0 : (((Rect.unit (s := SB) ![k, 0, 0] S1.size hk).emb x) 0).val = k + 1 * (x 0).val := rfl
    simp only [l0, r0, a0, b0] at h0
    omega
  exact congrArg (_root_.cast _) (View.write_of_not_mem _ _ _ hn)

/-- A slot read after its own copy and after 1 later copy into other slots. -/
theorem read_self1 (A : Memref sig .tc .vmem SB .f32) (k a : ℕ) (ha : k ≠ a) (hk hs ia sa hq) (f : A.view.ty.Contents (Elt F))
    (w wa : SC.Idx → Elt F .f32) :
    A.view.readAt (Elt F) (Rect.unit (s := SB) ![k, 0, 0] S1.size hk).toLoadRect
      ((at_ A a ia sa hq).view.write (Elt F) ((at_ A k hk hs hq).view.write (Elt F) f w Finset.univ) wa Finset.univ) = up w := by
  rw [read_other A k a ha]
  exact read_self A k hk hs hq f w

/-- A slot read after its own copy and after 2 later copies into other slots. -/
theorem read_self2 (A : Memref sig .tc .vmem SB .f32) (k a b : ℕ) (ha : k ≠ a) (hb : k ≠ b) (hk hs ia sa ib sb hq) (f : A.view.ty.Contents (Elt F))
    (w wa wb : SC.Idx → Elt F .f32) :
    A.view.readAt (Elt F) (Rect.unit (s := SB) ![k, 0, 0] S1.size hk).toLoadRect
      ((at_ A b ib sb hq).view.write (Elt F) ((at_ A a ia sa hq).view.write (Elt F) ((at_ A k hk hs hq).view.write (Elt F) f w Finset.univ) wa Finset.univ) wb Finset.univ) = up w := by
  rw [read_other A k b hb, read_other A k a ha]
  exact read_self A k hk hs hq f w

/-- A slot read after its own copy and after 3 later copies into other slots. -/
theorem read_self3 (A : Memref sig .tc .vmem SB .f32) (k a b c : ℕ) (ha : k ≠ a) (hb : k ≠ b) (hc : k ≠ c) (hk hs ia sa ib sb ic sc hq) (f : A.view.ty.Contents (Elt F))
    (w wa wb wc : SC.Idx → Elt F .f32) :
    A.view.readAt (Elt F) (Rect.unit (s := SB) ![k, 0, 0] S1.size hk).toLoadRect
      ((at_ A c ic sc hq).view.write (Elt F) ((at_ A b ib sb hq).view.write (Elt F) ((at_ A a ia sa hq).view.write (Elt F) ((at_ A k hk hs hq).view.write (Elt F) f w Finset.univ) wa Finset.univ) wb Finset.univ) wc Finset.univ) = up w := by
  rw [read_other A k c hc, read_other A k b hb, read_other A k a ha]
  exact read_self A k hk hs hq f w

end Cert.Slot

end
-- ==== Proof.InRuns.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → cfg0.idle 8 (grid0.coords t) = false := by decide +kernel
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 7, through which its contents are stated (`View.read_writes_of_cover`: the
    choice does not matter). -/
abbrev VO0_7 : View sig .tc .vmem S512x6144 .bf16 := (Memref.whole cc0_stg7_0 : Memref sig .tc .vmem S512x6144 .bf16).view
/-- One staging buffer of output window 8, through which its contents are stated (`View.read_writes_of_cover`: the
    choice does not matter). -/
abbrev VO0_8 : View sig .tc .vmem S8x1024 .f32 := (Memref.whole cc0_stg8_0 : Memref sig .tc .vmem S8x1024 .f32).view
/-- One staging buffer of output window 9, through which its contents are stated (`View.read_writes_of_cover`: the
    choice does not matter). -/
abbrev VO0_9 : View sig .tc .vmem S128x2048 .bf16 := (Memref.whole cc0_stg9_0 : Memref sig .tc .vmem S128x2048 .bf16).view
/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x6144 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2048 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S6144x2048 .bf16 := Memref.whole cc0_scratch0
abbrev scM0_1 : Memref sig .tc .vmem S4x128x2048 .f32 := Memref.whole cc0_scratch1
abbrev scM0_2 : Memref sig .tc .vmem S512x1024 .bf16 := Memref.whole cc0_scratch2
/-- The scratch `arg12` the kernel carries between points, as a view: what it holds is stated through it. -/
abbrev VS0_0 : View sig .tc .vmem S6144x2048 .bf16 := scM0_0.view
/-- The operands left in HBM that the body copies into scratch itself, whole. -/
abbrev hbM0_0 : Memref sig .tc .hbm S6160x2048 .f32 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 15, SemLoc.dma 16, SemLoc.dma 17, SemLoc.dma 18] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg2))) := by
  rw [Pipeline.ΦD_eq, scopedRest0_eq, ownSems00_eq, hbmPts0_eq]; simp only [scM0_0, scM0_1, scM0_2, owns_whole]; try rfl

end Cert.Kernel4Ideal.In

end
-- ==== Proof.InRunA.lean ====
module

public import proofs.«01_k».proof.Proof.InRuns
public import proofs.«01_k».proof.Proof.InSlot

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 3568000 in set_option sl_exec.dmaWindow true in set_option sl_exec.dmaWindowSet true in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) :
    Σ' (L7 : List (View.Piece (Elt F) S512x6144 .bf16)), Σ' (L8 : List (View.Piece (Elt F) S8x1024 .f32)), Σ' (L9 : List (View.Piece (Elt F) S128x2048 .bf16)), Σ' (LS0 : List (View.Piece (Elt F) S6144x2048 .bf16)), { LT2 : List (View.Piece (Elt F) S512x1024 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} f) ∗ (∃ f, arg14.view.loc (c : Thread nD τ) ↦[arg14.view.set]{fullShare} arg14.view.writes (Elt F) f LT2) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ (∃ W', owes (c : Thread nD τ) 0 W')) -∗ K ⟨⟩))
          ⊢ wp frame (wpE (defs₀ (F := F)) Variants.none c none) Set.univ (cc0_gla_inproj i arg1 harg1 arg2 harg2 (Memref.whole main_arg2) (Memref.isWhole_whole _) arg4 harg4 arg5 harg5 arg6 harg6 arg7 harg7 arg8 harg8 arg9 harg9 arg10 harg10 arg11 harg11 arg12 harg12 arg13 harg13 arg14 harg14 cc0_scratch3) K } := by
  refine ⟨?_, ?_, ?_, ?_, ?_, fun W K => ?run⟩
  case run =>
    simp only [cc0_gla_inproj_eq_skeleton]; unfold cc0_gla_inproj_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    have hr0 := fun f w u v t => Slot.read_self3 (F := F) arg13 0 1 2 3 (by decide) (by decide) (by decide) inb_S4x128x2048_S1x128x2048_0_0_0 (fun _ => rfl) inb_S4x128x2048_S1x128x2048_1_0_0 (fun _ => rfl) inb_S4x128x2048_S1x128x2048_2_0_0 (fun _ => rfl) inb_S4x128x2048_S1x128x2048_3_0_0 (fun _ => rfl) squeezes_S1x128x2048_S128x2048 f w u v t
    have hr1 := fun f w u v t => Slot.read_self3 (F := F) arg13 1 2 3 0 (by decide) (by decide) (by decide) inb_S4x128x2048_S1x128x2048_1_0_0 (fun _ => rfl) inb_S4x128x2048_S1x128x2048_2_0_0 (fun _ => rfl) inb_S4x128x2048_S1x128x2048_3_0_0 (fun _ => rfl) inb_S4x128x2048_S1x128x2048_0_0_0 (fun _ => rfl) squeezes_S1x128x2048_S128x2048 f w u v t
    have hr2 := fun f w u v t => Slot.read_self3 (F := F) arg13 2 3 0 1 (by decide) (by decide) (by decide) inb_S4x128x2048_S1x128x2048_2_0_0 (fun _ => rfl) inb_S4x128x2048_S1x128x2048_3_0_0 (fun _ => rfl) inb_S4x128x2048_S1x128x2048_0_0_0 (fun _ => rfl) inb_S4x128x2048_S1x128x2048_1_0_0 (fun _ => rfl) squeezes_S1x128x2048_S128x2048 f w u v t
    have hr3 := fun f w u v t => Slot.read_self3 (F := F) arg13 3 0 1 2 (by decide) (by decide) (by decide) inb_S4x128x2048_S1x128x2048_3_0_0 (fun _ => rfl) inb_S4x128x2048_S1x128x2048_0_0_0 (fun _ => rfl) inb_S4x128x2048_S1x128x2048_1_0_0 (fun _ => rfl) inb_S4x128x2048_S1x128x2048_2_0_0 (fun _ => rfl) squeezes_S1x128x2048_S128x2048 f w u v t
    have hr5 := fun f w u v => Slot.read_self2 (F := F) arg13 1 2 3 (by decide) (by decide) inb_S4x128x2048_S1x128x2048_1_0_0 (fun _ => rfl) inb_S4x128x2048_S1x128x2048_2_0_0 (fun _ => rfl) inb_S4x128x2048_S1x128x2048_3_0_0 (fun _ => rfl) squeezes_S1x128x2048_S128x2048 f w u v
    have hr6 := fun f w u => Slot.read_self1 (F := F) arg13 2 3 (by decide) inb_S4x128x2048_S1x128x2048_2_0_0 (fun _ => rfl) inb_S4x128x2048_S1x128x2048_3_0_0 (fun _ => rfl) squeezes_S1x128x2048_S128x2048 f w u
    have hr7 := fun f w => Slot.read_self (F := F) arg13 3 inb_S4x128x2048_S1x128x2048_3_0_0 (fun _ => rfl) squeezes_S1x128x2048_S128x2048 f w
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hq0, Hq1, Hq2, Hq3, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hh0]; · iexact Hh0
    iexists _; iexact HW

end Cert.Kernel4Ideal.In

end
-- ==== Proof.InRunB.lean ====
module

public import proofs.«01_k».proof.Proof.InRunA

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken, `scf.if` 1 taken: points 1, 2, … 15: 15 of 16), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : ¬cond0_0 i) (hc1 : cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (xs0 : Vec F S6144x2048 .bf16) (fh0 : HbBuf0 (F := F) c hbM0_0) :
    Σ' (L7 : List (View.Piece (Elt F) S512x6144 .bf16)), Σ' (L8 : List (View.Piece (Elt F) S8x1024 .f32)), Σ' (L9 : List (View.Piece (Elt F) S128x2048 .bf16)), Σ' (LS0 : List (View.Piece (Elt F) S6144x2048 .bf16)), Σ' (LT1 : List (View.Piece (Elt F) S512x2048 .f32)), { LT2 : List (View.Piece (Elt F) S512x1024 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ (∃ d, owns (c : Thread nD τ) arg13 fullShare d) ∗ (∃ f, arg14.view.loc (c : Thread nD τ) ↦[arg14.view.set]{fullShare} arg14.view.writes (Elt F) f LT2) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ (∃ W', owes (c : Thread nD τ) 0 W')) -∗ K ⟨⟩))
          ⊢ wp frame (wpE (defs₀ (F := F)) Variants.none c none) Set.univ (cc0_gla_inproj i arg1 harg1 arg2 harg2 (Memref.whole main_arg2) (Memref.isWhole_whole _) arg4 harg4 arg5 harg5 arg6 harg6 arg7 harg7 arg8 harg8 arg9 harg9 arg10 harg10 arg11 harg11 arg12 harg12 arg13 harg13 arg14 harg14 cc0_scratch3) K } := by
  refine ⟨?_, ?_, ?_, [], [], ?_, fun W K => ?run⟩
  case run =>
    simp only [cc0_gla_inproj_eq_skeleton]; unfold cc0_gla_inproj_skel
    simp only [k0_part40_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, Hq0, Hq1, Hq2, Hq3, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]
    · iexists _; isplitr; · ipureintro; exact harg12.read_unread _
      iexact HS0
    isplitl [HS1]
    · iexists _, _; isplitr; swap; · iexact HS1
      ipureintro; rfl
    isplitl [HS2]; · iexists _; iexact HS2
    isplitl [Hq0]; · iexact Hq0
    isplitl [Hq1]; · iexact Hq1
    isplitl [Hq2]; · iexact Hq2
    isplitl [Hq3]; · iexact Hq3
    isplitl [Hh0]; · iexact Hh0
    iexists _; iexact HW

end Cert.Kernel4Ideal.In

end
-- ==== Proof.InFrame.lean ====
module

public import proofs.«01_k».proof.Proof.InRunB
public import Idealize.ShloMosaic.Lib.Claim

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 7 tile its block (12 stores of `S512x512`), so they cover it. -/
theorem cover0_A_7 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) (y : S512x6144.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).1 S512x512.size (by sl_kernel_rfl) y

/-- What case A leaves in output 7's staging buffer: its pieces read back over junk. -/
def out0_A_7 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) : Vec F S512x6144 .bf16 :=
  VO0_7.read (Elt F) (VO0_7.writes (Elt F) VO0_7.junk (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).1)

/-- Case A's pieces for output 8 tile its block (8 stores of `S1x1024`), so they cover it. -/
theorem cover0_A_8 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) (y : S8x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.1 S1x1024.size (by sl_kernel_rfl) y

/-- What case A leaves in output 8's staging buffer: its pieces read back over junk. -/
def out0_A_8 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) : Vec F S8x1024 .f32 :=
  VO0_8.read (Elt F) (VO0_8.writes (Elt F) VO0_8.junk (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.1)

/-- Case A's pieces for output 9 tile its block (1 store of `S128x2048`), so they cover it. -/
theorem cover0_A_9 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) (y : S128x2048.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.2.1 S128x2048.size (by sl_kernel_rfl) y

/-- What case A leaves in output 9's staging buffer: its pieces read back over junk. -/
def out0_A_9 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) : Vec F S128x2048 .bf16 :=
  VO0_9.read (Elt F) (VO0_9.writes (Elt F) VO0_9.junk (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.2.1)

/-- Case A's pieces for scratch `arg12`, which the kernel carries between points, cover it: 48 pieces of `S128x2048` tiling it (Lib/Ring.lean `Piece.tiledL`). -/
theorem scover0_A_0 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) (y : S6144x2048.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.2.2.1 S128x2048.size (by sl_kernel_rfl) y

/-- What case A leaves in scratch `arg12`: its pieces read back over junk. -/
def sout0_A_0 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : cond0_0 i) (hc1 : ¬cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (fh0 : HbBuf0 (F := F) c hbM0_0) : Vec F S6144x2048 .bf16 :=
  VS0_0.read (Elt F) (VS0_0.writes (Elt F) VS0_0.junk (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.2.2.1)

/-- Case B's pieces for output 7 tile its block (12 stores of `S512x512`), so they cover it. -/
theorem cover0_B_7 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : ¬cond0_0 i) (hc1 : cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (xs0 : Vec F S6144x2048 .bf16) (fh0 : HbBuf0 (F := F) c hbM0_0) (y : S512x6144.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).1 S512x512.size (by sl_kernel_rfl) y

/-- What case B leaves in output 7's staging buffer: its pieces read back over junk. -/
def out0_B_7 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : ¬cond0_0 i) (hc1 : cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (xs0 : Vec F S6144x2048 .bf16) (fh0 : HbBuf0 (F := F) c hbM0_0) : Vec F S512x6144 .bf16 :=
  VO0_7.read (Elt F) (VO0_7.writes (Elt F) VO0_7.junk (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).1)

/-- Case B's pieces for output 8 tile its block (8 stores of `S1x1024`), so they cover it. -/
theorem cover0_B_8 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : ¬cond0_0 i) (hc1 : cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (xs0 : Vec F S6144x2048 .bf16) (fh0 : HbBuf0 (F := F) c hbM0_0) (y : S8x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).2.1 S1x1024.size (by sl_kernel_rfl) y

/-- What case B leaves in output 8's staging buffer: its pieces read back over junk. -/
def out0_B_8 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : ¬cond0_0 i) (hc1 : cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (xs0 : Vec F S6144x2048 .bf16) (fh0 : HbBuf0 (F := F) c hbM0_0) : Vec F S8x1024 .f32 :=
  VO0_8.read (Elt F) (VO0_8.writes (Elt F) VO0_8.junk (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).2.1)

/-- Case B's pieces for output 9 tile its block (1 store of `S128x2048`), so they cover it. -/
theorem cover0_B_9 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : ¬cond0_0 i) (hc1 : cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (xs0 : Vec F S6144x2048 .bf16) (fh0 : HbBuf0 (F := F) c hbM0_0) (y : S128x2048.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).2.2.1 S128x2048.size (by sl_kernel_rfl) y

/-- What case B leaves in output 9's staging buffer: its pieces read back over junk. -/
def out0_B_9 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : ¬cond0_0 i) (hc1 : cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (xs0 : Vec F S6144x2048 .bf16) (fh0 : HbBuf0 (F := F) c hbM0_0) : Vec F S128x2048 .bf16 :=
  VO0_9.read (Elt F) (VO0_9.writes (Elt F) VO0_9.junk (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).2.2.1)

/-- Case B stores nothing into scratch `arg12`: it holds what the point before left. -/
def sout0_B_0 (c : Dev nD) (i : grid0.Coords) (arg1 : Memref sig .tc .vmem S512x2048 .f32) (harg1 : arg1.IsWhole) (arg2 : Memref sig .tc .vmem S2x2048 .f32) (harg2 : arg2.IsWhole) (arg4 : Memref sig .tc .vmem S16x2048 .f32) (harg4 : arg4.IsWhole) (arg5 : Memref sig .tc .vmem S16x1024 .f32) (harg5 : arg5.IsWhole) (arg6 : Memref sig .tc .vmem S1x1024 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S512x6144 .bf16) (harg9 : arg9.IsWhole) (arg10 : Memref sig .tc .vmem S8x1024 .f32) (harg10 : arg10.IsWhole) (arg11 : Memref sig .tc .vmem S128x2048 .bf16) (harg11 : arg11.IsWhole) (arg12 : Memref sig .tc .vmem S6144x2048 .bf16) (harg12 : arg12.IsWhole) (arg13 : Memref sig .tc .vmem S4x128x2048 .f32) (harg13 : arg13.IsWhole) (arg14 : Memref sig .tc .vmem S512x1024 .bf16) (harg14 : arg14.IsWhole) (hc0 : ¬cond0_0 i) (hc1 : cond0_1 i)
    (x0 : Vec F S512x2048 .f32) (x1 : Vec F S2x2048 .f32) (x2 : Vec F S16x2048 .f32) (x3 : Vec F S16x1024 .f32) (x4 : Vec F S1x1024 .f32) (x5 : Vec F S1x2048 .f32) (x6 : Vec F S128x2048 .f32) (xs0 : Vec F S6144x2048 .bf16) (fh0 : HbBuf0 (F := F) c hbM0_0) : Vec F S6144x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x6144 .bf16 × Vec F S8x1024 .f32 × Vec F S128x2048 .bf16 × Vec F S6144x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg2), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg2), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg2), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg2))
  | n + 1, hn =>
    if h0 : (n + 1) % 16 = 0 then
      if h1 : 1 ≤ (n + 1) then
        False.elim (by have hN : n + 1 < 16 := lt_of_lt_of_eq hn (show cfg0.N = 16 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg2), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg2), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg2), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg2))
    else
      if h1 : 1 ≤ (n + 1) then
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2 (V m c main_arg2), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2 (V m c main_arg2), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2 (V m c main_arg2), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2 (V m c main_arg2))
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg2), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg2), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg2), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg2)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : 1 ≤ t.val) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg2)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg2))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h))], after0_7]
      rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h))], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      by_cases hz : t.val = 0
      · rw [PhiS_castSucc m c t, PhiS_zero m c _ _ hz, PhiD0_eq]
        rw [outsAt0_A m c t h0 h1]
        unfold out0_A_7 out0_A_8 out0_A_9 sout0_A_0; (try dsimp only)
        iintro ⟨⟨⟨HS0, HS1, HS2⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg2)).2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hh0]; · iexact Hh0
        isplitl [HW]; · iexact HW
        iintro ⟨H0, H1, H2, H3, H4, H5, H6, ⟨%e7, H7⟩, ⟨%e8, H8⟩, ⟨%e9, H9⟩, ⟨%es0, HS0⟩, ⟨%fT1, HS1⟩, ⟨%fT2, HS2⟩, Hq0, Hq1, Hq2, Hq3, Hh0, ⟨%W', HW'⟩⟩
        isplitl [HS0 HS1 HS2 Hg Hq0 Hq1 Hq2 Hq3 Hh0]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            iexists _; unfold owns; iexists _; isplitr
            swap; · iexact HS2
            ipureintro; rfl
          isplitl [Hg]
          · iexact Hg
          isplitl [Hq0 Hq1 Hq2 Hq3]
          · isplitl [Hq0]; · iexact Hq0
            isplitl [Hq1]; · iexact Hq1
            isplitl [Hq2]; · iexact Hq2
            iexact Hq3
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _)
      · exfalso; have hN : t.val < 16 := lt_of_lt_of_eq t.isLt (show cfg0.N = 16 from N_0); omega
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_7 out0_B_8 out0_B_9 sout0_B_0; (try dsimp only)
        iintro ⟨⟨⟨HS0, HS1, HS2⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ (V m c main_arg2)).2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hh0]; · iexact Hh0
        isplitl [HW]; · iexact HW
        iintro ⟨H0, H1, H2, H3, H4, H5, H6, ⟨%e7, H7⟩, ⟨%e8, H8⟩, ⟨%e9, H9⟩, HS0, HS1, ⟨%fT2, HS2⟩, Hq0, Hq1, Hq2, Hq3, Hh0, ⟨%W', HW'⟩⟩
        isplitl [HS0 HS1 HS2 Hg Hq0 Hq1 Hq2 Hq3 Hh0]
        · isplitl [HS0 HS1 HS2]
          · isplitl [HS0]; · iexact HS0
            isplitl [HS1]; · iexact HS1
            iexists _; unfold owns; iexists _; isplitr
            swap; · iexact HS2
            ipureintro; rfl
          isplitl [Hg]
          · iexact Hg
          isplitl [Hq0 Hq1 Hq2 Hq3]
          · isplitl [Hq0]; · iexact Hq0
            isplitl [Hq1]; · iexact Hq1
            isplitl [Hq2]; · iexact Hq2
            iexact Hq3
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3⟩, Hh0⟩
  isplitl [HS0 HS1 HS2]
  · isplitl [HS0]
    · iexists _; iexact HS0
    isplitl [HS1]
    · iexact HS1
    iexact HS2
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel4Ideal`'s statement, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel4Ideal.In

end
-- ==== Proof.Pieces.lean ====
module

public import proofs.«01_k».proof.Proof.Gen.KernelIdeal.Frame

@[expose] public section

set_option maxRecDepth 65536

noncomputable section

namespace Cert.KernelIdeal.Scan

open Cert.KernelIdeal Cert.KernelIdeal.Gen Idealize.ShloMosaic Idealize.ShloMosaic.TcCoe

variable {F : FTy → Type} [FloatOps F]

/-! The state scratch is stored tile by tile: store `k` of a grid point updates, for the point's chunk
`k / 16`, the head `k % 16 / 4` and the block of 128 value columns `k % 4`. The rectangles of store `k`. -/

theorem inbState (k : ℕ) : ∀ a, (![k % 16 / 4, 0, 128 * (k % 4)] : Fin 3 → ℕ) a + S1x256x128.size a ≤ S4x256x512.size a := by
  refine Fin.forall_fin_succ.2 ⟨?_, Fin.forall_fin_succ.2 ⟨?_, Fin.forall_fin_succ.2 ⟨?_, fun a => a.elim0⟩⟩⟩
  · show k % 16 / 4 + 1 ≤ 4; omega
  · show 0 + 256 ≤ 256; omega
  · show 128 * (k % 4) + 128 ≤ 512; omega
theorem inbKey (k : ℕ) : ∀ a, (![0, 64 * (k / 16 % 8), 256 * (k % 16 / 4)] : Fin 3 → ℕ) a + S1x64x256.size a ≤ S1x512x1024.size a := by
  refine Fin.forall_fin_succ.2 ⟨?_, Fin.forall_fin_succ.2 ⟨?_, Fin.forall_fin_succ.2 ⟨?_, fun a => a.elim0⟩⟩⟩
  · show 0 + 1 ≤ 1; omega
  · show 64 * (k / 16 % 8) + 64 ≤ 512; omega
  · show 256 * (k % 16 / 4) + 256 ≤ 1024; omega
theorem inbVal (k : ℕ) : ∀ a, (![0, 64 * (k / 16 % 8), 512 * (k % 16 / 4)] : Fin 3 → ℕ) a + S1x64x512.size a ≤ S1x512x2048.size a := by
  refine Fin.forall_fin_succ.2 ⟨?_, Fin.forall_fin_succ.2 ⟨?_, Fin.forall_fin_succ.2 ⟨?_, fun a => a.elim0⟩⟩⟩
  · show 0 + 1 ≤ 1; omega
  · show 64 * (k / 16 % 8) + 64 ≤ 512; omega
  · show 512 * (k % 16 / 4) + 512 ≤ 2048; omega
theorem inbDec (k : ℕ) : ∀ a, (![0, k / 16 % 8, 256 * (k % 16 / 4)] : Fin 3 → ℕ) a + S1x1x256.size a ≤ S1x8x1024.size a := by
  refine Fin.forall_fin_succ.2 ⟨?_, Fin.forall_fin_succ.2 ⟨?_, Fin.forall_fin_succ.2 ⟨?_, fun a => a.elim0⟩⟩⟩
  · show 0 + 1 ≤ 1; omega
  · show k / 16 % 8 + 1 ≤ 8; omega
  · show 256 * (k % 16 / 4) + 256 ≤ 1024; omega

/-- The tile of the state that store `k` writes. -/
abbrev rState (k : ℕ) : Rect S4x256x512 := Rect.unit ![k % 16 / 4, 0, 128 * (k % 4)] S1x256x128.size (inbState k)
/-- The keys store `k` reads: its chunk's 64 rows, its head's 256 columns. -/
abbrev rKey (k : ℕ) : Rect S1x512x1024 := Rect.unit ![0, 64 * (k / 16 % 8), 256 * (k % 16 / 4)] S1x64x256.size (inbKey k)
/-- The values store `k` reads. -/
abbrev rVal (k : ℕ) : Rect S1x512x2048 := Rect.unit ![0, 64 * (k / 16 % 8), 512 * (k % 16 / 4)] S1x64x512.size (inbVal k)
/-- The decays store `k` reads. -/
abbrev rDec (k : ℕ) : Rect S1x8x1024 := Rect.unit ![0, k / 16 % 8, 256 * (k % 16 / 4)] S1x1x256.size (inbDec k)

theorem slicesCol (k : ℕ) : S256x512.Slices ![0, 128 * (k % 4)] S256x128 := by
  have h := Nat.mod_lt k (show 0 < 4 by omega)
  generalize k % 4 = j at h
  obtain rfl | rfl | rfl | rfl : j = 0 ∨ j = 1 ∨ j = 2 ∨ j = 3 := by omega
  all_goals decide

/-- What one store writes: the old tile times the decays, plus the tile of keysᵀ · values. -/
def upd (k : ℕ) (D : Vec F S1x1x256 .f32) (K : Vec F S1x64x256 .bf16) (V : Vec F S1x64x512 .bf16)
    (old : Vec F S1x256x128 .f32) : FVec F S1x256x128 .f32 :=
  shapeCast S1x256x128 (addf (mulf (k0_pay19 old) (k0_pay17 D))
    (extractStridedSlice S256x128 ![0, 128 * (k % 4)] (k0_pay16 K V) (slicesCol k))) shapeCasts_S256x128_S1x256x128

/-- The writes into the state scratch. -/
abbrev Writes (F : FTy → Type) := List (View.Piece (Elt F) S4x256x512 .f32)

section
variable (arg3 : Memref sig .tc .vmem S1x512x1024 .bf16) (harg3 : arg3.IsWhole) (arg4 : Memref sig .tc .vmem S1x512x2048 .bf16) (harg4 : arg4.IsWhole)
  (arg6 : Memref sig .tc .vmem S1x8x1024 .f32) (harg6 : arg6.IsWhole) (arg13 : Memref sig .tc .vmem S4x256x512 .f32) (harg13 : arg13.IsWhole)
  (x1 : Vec F S1x512x1024 .bf16) (x2 : Vec F S1x512x2048 .bf16) (x4 : Vec F S1x8x1024 .f32) (xs0 : Vec F S4x256x512 .f32)

/-- Store `k` over the old tile `old`. -/
def store (k : ℕ) (old : Vec F S1x256x128 .f32) : View.Piece (Elt F) S4x256x512 .f32 :=
  ⟨rState k, upd k (View.readAt (Elt F) arg6.view (rDec k).toLoadRect (harg6.unread x4))
    (View.readAt (Elt F) arg3.view (rKey k).toLoadRect (harg3.unread x1))
    (View.readAt (Elt F) arg4.view (rVal k).toLoadRect (harg4.unread x2)) old⟩

/-- The first `k` stores of a grid point, last first, over the earlier writes `base`; `old k L` is the tile store `k` reads. -/
def stores (old : ℕ → Writes F → Vec F S1x256x128 .f32) (base : Writes F) : ℕ → Writes F
  | 0 => base
  | k + 1 => store arg3 harg3 arg4 harg4 arg6 harg6 x1 x2 x4 k (old k (stores old base k)) :: stores old base k

/-- The tile store `k` reads at a sequence's first grid point: always of the writes so far (the fill with zeros included). -/
def oldA (k : ℕ) (L : Writes F) : Vec F S1x256x128 .f32 := arg13.view.readCov L (rState k).toLoadRect
/-- The tile store `k` reads at a later grid point: for the first chunk what the point before left, then the writes so far. -/
def oldB (k : ℕ) (L : Writes F) : Vec F S1x256x128 .f32 :=
  cond (Nat.blt k 16) (View.readAt (Elt F) arg13.view (rState k).toLoadRect (harg13.unread xs0)) (arg13.view.readCov L (rState k).toLoadRect)

/-- One more store on a list of stores. -/
theorem store_step (old : ℕ → Writes F → Vec F S1x256x128 .f32) (base L : Writes F) (p : View.Piece (Elt F) S4x256x512 .f32) (k : ℕ)
    (hL : L = stores arg3 harg3 arg4 harg4 arg6 harg6 x1 x2 x4 old base k)
    (hp : p = store arg3 harg3 arg4 harg4 arg6 harg6 x1 x2 x4 k (old k L)) :
    p :: L = stores arg3 harg3 arg4 harg4 arg6 harg6 x1 x2 x4 old base (k + 1) := by
  subst hL; subst hp; rfl

set_option maxHeartbeats 2000000 in
/-- The state scratch's writes at a later grid point are the 128 stores over nothing. -/
theorem writesB (c : Dev nD) : kernelRun0_B.sl.HS0_128 c arg3 harg3 arg4 harg4 arg6 harg6 arg13 harg13 x1 x2 x4 xs0
    = stores arg3 harg3 arg4 harg4 arg6 harg6 x1 x2 x4 (oldB arg13 harg13 xs0) [] 128 := by
  repeat refine store_step _ _ _ _ _ _ _ _ _ _ _ _ _ _ ?_ rfl
  rfl

set_option maxHeartbeats 2000000 in
/-- The state scratch's writes at a sequence's first grid point are the 128 stores over the fill with zeros. -/
theorem writesA (c : Dev nD) : kernelRun0_A.sl.HS0_129 c arg3 harg3 arg4 harg4 arg6 harg6 arg13 x1 x2 x4
    = stores arg3 harg3 arg4 harg4 arg6 harg6 x1 x2 x4 (oldA arg13) kernelRun0_A.sl.HS0_1 128 := by
  iterate 128 refine store_step _ _ _ _ _ _ _ _ _ _ _ _ _ _ ?_ rfl
  rfl
end

end Cert.KernelIdeal.Scan

end
-- ==== Proof.Gates.lean ====
module

public import proofs.«01_k».proof.Proof.Pieces

@[expose] public section

set_option maxRecDepth 65536

noncomputable section

namespace Cert.KernelIdeal.Scan

open Cert.KernelIdeal Cert.KernelIdeal.Gen Idealize.ShloMosaic Idealize.ShloMosaic.TcCoe

variable {F : FTy → Type} [FloatOps F]

/-! The gated attention outputs are stored block by block: store `k` of a grid point holds, for the point's chunk
`k / 4` and the head `k % 4`, 64 rows and 512 columns. The rectangles of store `k`. -/

theorem inbOut (k : ℕ) : ∀ a, (![64 * (k / 4 % 8), 512 * (k % 4)] : Fin 2 → ℕ) a + S64x512.size a ≤ S512x2048.size a := by
  refine Fin.forall_fin_succ.2 ⟨?_, Fin.forall_fin_succ.2 ⟨?_, fun a => a.elim0⟩⟩
  · show 64 * (k / 4 % 8) + 64 ≤ 512; omega
  · show 512 * (k % 4) + 512 ≤ 2048; omega
theorem inbQuery (k : ℕ) : ∀ a, (![0, 64 * (k / 4 % 8), 256 * (k % 4)] : Fin 3 → ℕ) a + S1x64x256.size a ≤ S1x512x1024.size a := by
  refine Fin.forall_fin_succ.2 ⟨?_, Fin.forall_fin_succ.2 ⟨?_, Fin.forall_fin_succ.2 ⟨?_, fun a => a.elim0⟩⟩⟩
  · show 0 + 1 ≤ 1; omega
  · show 64 * (k / 4 % 8) + 64 ≤ 512; omega
  · show 256 * (k % 4) + 256 ≤ 1024; omega
theorem inbGate (k : ℕ) : ∀ a, (![0, 64 * (k / 4 % 8), 512 * (k % 4)] : Fin 3 → ℕ) a + S1x64x512.size a ≤ S1x512x2048.size a := by
  refine Fin.forall_fin_succ.2 ⟨?_, Fin.forall_fin_succ.2 ⟨?_, Fin.forall_fin_succ.2 ⟨?_, fun a => a.elim0⟩⟩⟩
  · show 0 + 1 ≤ 1; omega
  · show 64 * (k / 4 % 8) + 64 ≤ 512; omega
  · show 512 * (k % 4) + 512 ≤ 2048; omega
theorem inbHead (k : ℕ) : ∀ a, (![k % 4, 0, 0] : Fin 3 → ℕ) a + S1x256x512.size a ≤ S4x256x512.size a := by
  refine Fin.forall_fin_succ.2 ⟨?_, Fin.forall_fin_succ.2 ⟨?_, Fin.forall_fin_succ.2 ⟨?_, fun a => a.elim0⟩⟩⟩
  · show k % 4 + 1 ≤ 4; omega
  · show 0 + 256 ≤ 256; omega
  · show 0 + 512 ≤ 512; omega

/-- The block of the gated outputs that store `k` writes. -/
abbrev rOut (k : ℕ) : Rect S512x2048 := Rect.unit ![64 * (k / 4 % 8), 512 * (k % 4)] S64x512.size (inbOut k)
/-- The queries store `k` reads. -/
abbrev rQuery (k : ℕ) : Rect S1x512x1024 := Rect.unit ![0, 64 * (k / 4 % 8), 256 * (k % 4)] S1x64x256.size (inbQuery k)
/-- The output gates store `k` reads. -/
abbrev rGate (k : ℕ) : Rect S1x512x2048 := Rect.unit ![0, 64 * (k / 4 % 8), 512 * (k % 4)] S1x64x512.size (inbGate k)
/-- The head's whole state, which store `k` reads. -/
abbrev rHead (k : ℕ) : Rect S4x256x512 := Rect.unit ![k % 4, 0, 0] S1x256x512.size (inbHead k)

/-- The writes into the scratch of gated outputs. -/
abbrev Outs (F : FTy → Type) := List (View.Piece (Elt F) S512x2048 .bf16)

section
variable (arg2 : Memref sig .tc .vmem S1x512x1024 .bf16) (harg2 : arg2.IsWhole) (arg5 : Memref sig .tc .vmem S1x512x2048 .bf16) (harg5 : arg5.IsWhole)
  (arg13 : Memref sig .tc .vmem S4x256x512 .f32)
  (x0 : Vec F S1x512x1024 .bf16) (x3 : Vec F S1x512x2048 .bf16) (W : Writes F)

/-- Gated output `k`, of the state writes `W`: it reads the head's state before the last `116 - 4k` of them. -/
def gated (k : ℕ) : View.Piece (Elt F) S512x2048 .bf16 :=
  ⟨rOut k, k0_pay37 (k0_pay36 (View.readAt (Elt F) arg2.view (rQuery k).toLoadRect (harg2.unread x0))
    (arg13.view.readCov (W.drop (116 - 4 * k)) (rHead k).toLoadRect)
    (View.readAt (Elt F) arg5.view (rGate k).toLoadRect (harg5.unread x3)))⟩

/-- The first `k` gated outputs of a grid point, last first. -/
def gates : ℕ → Outs F
  | 0 => []
  | k + 1 => gated arg2 harg2 arg5 harg5 arg13 x0 x3 W k :: gates k

theorem gate_step (L : Outs F) (p : View.Piece (Elt F) S512x2048 .bf16) (k : ℕ)
    (hL : L = gates arg2 harg2 arg5 harg5 arg13 x0 x3 W k)
    (hp : p = gated arg2 harg2 arg5 harg5 arg13 x0 x3 W k) :
    p :: L = gates arg2 harg2 arg5 harg5 arg13 x0 x3 W (k + 1) := by
  subst hL; subst hp; rfl
end

variable (arg2 : Memref sig .tc .vmem S1x512x1024 .bf16) (harg2 : arg2.IsWhole)
  (arg3 : Memref sig .tc .vmem S1x512x1024 .bf16) (harg3 : arg3.IsWhole) (arg4 : Memref sig .tc .vmem S1x512x2048 .bf16) (harg4 : arg4.IsWhole)
  (arg5 : Memref sig .tc .vmem S1x512x2048 .bf16) (harg5 : arg5.IsWhole)
  (arg6 : Memref sig .tc .vmem S1x8x1024 .f32) (harg6 : arg6.IsWhole) (arg13 : Memref sig .tc .vmem S4x256x512 .f32) (harg13 : arg13.IsWhole)
  (x0 : Vec F S1x512x1024 .bf16) (x1 : Vec F S1x512x1024 .bf16) (x2 : Vec F S1x512x2048 .bf16) (x3 : Vec F S1x512x2048 .bf16)
  (x4 : Vec F S1x8x1024 .f32) (xs0 : Vec F S4x256x512 .f32)

set_option maxHeartbeats 2000000 in
/-- The gated outputs' writes at a later grid point. -/
theorem outsB (c : Dev nD) : kernelRun0_B.sl.HS1_32 c arg2 harg2 arg3 harg3 arg4 harg4 arg5 harg5 arg6 harg6 arg13 harg13 x0 x1 x2 x3 x4 xs0
    = gates arg2 harg2 arg5 harg5 arg13 x0 x3 (kernelRun0_B.sl.HS0_128 c arg3 harg3 arg4 harg4 arg6 harg6 arg13 harg13 x1 x2 x4 xs0) 32 := by
  iterate 32 refine gate_step _ _ _ _ _ _ _ _ _ _ _ ?_ rfl
  rfl

set_option maxHeartbeats 2000000 in
/-- The gated outputs' writes at a sequence's first grid point. -/
theorem outsA (c : Dev nD) : kernelRun0_A.sl.HS1_32 c arg2 harg2 arg3 harg3 arg4 harg4 arg5 harg5 arg6 harg6 arg13 x0 x1 x2 x3 x4
    = gates arg2 harg2 arg5 harg5 arg13 x0 x3 (kernelRun0_A.sl.HS0_129 c arg3 harg3 arg4 harg4 arg6 harg6 arg13 x1 x2 x4) 32 := by
  iterate 32 refine gate_step _ _ _ _ _ _ _ _ _ _ _ ?_ rfl
  rfl

end Cert.KernelIdeal.Scan

end
-- ==== Proof.State.lean ====
module

public import proofs.«01_k».proof.Proof.Gates
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Scan

open Cert.KernelIdeal Cert.KernelIdeal.Gen Idealize.ShloMosaic Idealize.ShloMosaic.TcCoe Idealize.ShloMosaic.ValueKit

/-! The state after each chunk of a grid point, in the ideal numbers, and that the state scratch's writes leave it. -/

/-- A state: for each head, a matrix from key columns to value columns. -/
abbrev St := Fin 4 → Fin 256 → Fin 512 → EReal

/-- The state after chunk `n` of a block of keys, values and decays: the old state decayed, plus the chunk's keys against its values. -/
def adv (K : FVec Ideal S1x512x1024 .bf16) (V : FVec Ideal S1x512x2048 .bf16) (D : FVec Ideal S1x8x1024 .f32) (n : ℕ) (S : St) : St := fun h i c =>
  S h i c * D (ix3 (0 : Fin 1) (⟨n % 8, by omega⟩ : Fin 8) (⟨256 * h.val + i.val, by omega⟩ : Fin 1024))
    + ∑ r : Fin 64, K (ix3 (0 : Fin 1) (⟨64 * (n % 8) + r.val, by omega⟩ : Fin 512) (⟨256 * h.val + i.val, by omega⟩ : Fin 1024))
        * V (ix3 (0 : Fin 1) (⟨64 * (n % 8) + r.val, by omega⟩ : Fin 512) (⟨512 * h.val + c.val, by omega⟩ : Fin 2048))

/-- The state after the first `n` chunks of a block. -/
def spec (K : FVec Ideal S1x512x1024 .bf16) (V : FVec Ideal S1x512x2048 .bf16) (D : FVec Ideal S1x8x1024 .f32) (S0 : St) : ℕ → St
  | 0 => S0
  | n + 1 => adv K V D n (spec K V D S0 n)

/-- A store's value at an index. -/
theorem upd_at (k : ℕ) (D : FVec Ideal S1x1x256 .f32) (K : FVec Ideal S1x64x256 .bf16) (V : FVec Ideal S1x64x512 .bf16)
    (old : FVec Ideal S1x256x128 .f32) (i : Fin 256) (c : Fin 128) :
    upd (F := Ideal) k D K V old (ix3 (0 : Fin 1) i c)
      = old (ix3 (0 : Fin 1) i c) * D (ix3 (0 : Fin 1) (0 : Fin 1) i)
        + ∑ r : Fin 64, K (ix3 (0 : Fin 1) r i) * V (ix3 (0 : Fin 1) r (⟨128 * (k % 4) + c.val, by omega⟩ : Fin 512)) := by
  pointwise [upd, k0_pay19, k0_pay17, k0_pay16]

section
variable (arg3 : Memref sig .tc .vmem S1x512x1024 .bf16) (harg3 : arg3.IsWhole) (arg4 : Memref sig .tc .vmem S1x512x2048 .bf16) (harg4 : arg4.IsWhole)
  (arg6 : Memref sig .tc .vmem S1x8x1024 .f32) (harg6 : arg6.IsWhole) (arg13 : Memref sig .tc .vmem S4x256x512 .f32) (harg13 : arg13.IsWhole)
  (x1 : FVec Ideal S1x512x1024 .bf16) (x2 : FVec Ideal S1x512x2048 .bf16) (x4 : FVec Ideal S1x8x1024 .f32) (xs0 : FVec Ideal S4x256x512 .f32)

/-- A store's value, of the blocks: the state of its head and columns advanced by its chunk. -/
theorem store_at (k : ℕ) (old : FVec Ideal S1x256x128 .f32) (i : Fin 256) (c : Fin 128) :
    upd (F := Ideal) k (View.readAt (Elt Ideal) arg6.view (rDec k).toLoadRect (harg6.unread x4))
      (View.readAt (Elt Ideal) arg3.view (rKey k).toLoadRect (harg3.unread x1))
      (View.readAt (Elt Ideal) arg4.view (rVal k).toLoadRect (harg4.unread x2)) old (ix3 (0 : Fin 1) i c)
      = adv x1 x2 x4 (k / 16) (fun _ _ _ => old (ix3 (0 : Fin 1) i c)) (⟨k % 16 / 4, by omega⟩ : Fin 4) i (⟨128 * (k % 4) + c.val, by omega⟩ : Fin 512) := by
  rw [View.readAt_eq_ld, View.readAt_eq_ld, View.readAt_eq_ld, harg6.read_unread, harg3.read_unread, harg4.read_unread]
  refine (upd_at k _ _ _ old i c).trans ?_
  unfold adv
  congr 1
  · refine congrArg (_ * ·) (congrArg x4 ?_)
    funext a; apply Fin.ext
    obtain ⟨_ | _ | _ | a, ha⟩ := a
    · rfl
    · show k / 16 % 8 + 1 * 0 = k / 16 % 8; omega
    · show 256 * (k % 16 / 4) + 1 * i.val = 256 * (k % 16 / 4) + i.val; omega
    · exact absurd ha (by simp)
  · refine Finset.sum_congr rfl fun r _ => congrArg₂ (· * ·) (congrArg x1 ?_) (congrArg x2 ?_)
    · funext a; apply Fin.ext
      obtain ⟨_ | _ | _ | a, ha⟩ := a
      · rfl
      · show 64 * (k / 16 % 8) + 1 * r.val = 64 * (k / 16 % 8) + r.val; omega
      · show 256 * (k % 16 / 4) + 1 * i.val = 256 * (k % 16 / 4) + i.val; omega
      · exact absurd ha (by simp)
    · funext a; apply Fin.ext
      obtain ⟨_ | _ | _ | a, ha⟩ := a
      · rfl
      · show 64 * (k / 16 % 8) + 1 * r.val = 64 * (k / 16 % 8) + r.val; omega
      · show 512 * (k % 16 / 4) + 1 * (128 * (k % 4) + c.val) = 512 * (k % 16 / 4) + (128 * (k % 4) + c.val); omega
      · exact absurd ha (by simp)

/-- After `K` stores, a tile (of head `h` and column `c`) has been advanced by this many chunks. -/
def level (K : ℕ) (h : Fin 4) (c : Fin 512) : ℕ := (K + 15 - (4 * h.val + c.val / 128)) / 16

/-- After `K` stores the list holds, on every tile already written (on every tile, where `full`), the state after as many chunks. -/
def Inv (full : Prop) (S : ℕ → St) (K : ℕ) (L : Writes Ideal) : Prop :=
  ∀ (h : Fin 4) (i : Fin 256) (c : Fin 512), full ∨ 0 < level K h c → View.canon L (ix3 h i c) = S (level K h c) h i c

variable (full : Prop) (S0 : St) (old : ℕ → Writes Ideal → FVec Ideal S1x256x128 .f32)
  (hold : ∀ k L, Inv full (spec x1 x2 x4 S0) k L → ∀ (i : Fin 256) (c : Fin 128),
    old k L (ix3 (0 : Fin 1) i c) = spec x1 x2 x4 S0 (k / 16) (⟨k % 16 / 4, by omega⟩ : Fin 4) i (⟨128 * (k % 4) + c.val, by omega⟩ : Fin 512))

/-- An index of the tile of store `k`, as the tile's rectangle places it. -/
theorem emb_tile (k : ℕ) (h : Fin 4) (i : Fin 256) (c : Fin 512) (hh : h.val = k % 16 / 4) (hc : c.val / 128 = k % 4) :
    (ix3 h i c : S4x256x512.Idx) = (rState k).emb (ix3 (0 : Fin 1) i (⟨c.val - 128 * (k % 4), by omega⟩ : Fin 128)) := by
  funext a; apply Fin.ext
  obtain ⟨_ | _ | _ | a, ha⟩ := a
  · show h.val = k % 16 / 4 + 1 * 0; omega
  · show i.val = 0 + 1 * i.val; omega
  · show c.val = 128 * (k % 4) + 1 * (c.val - 128 * (k % 4)); omega
  · exact absurd ha (by simp)

include hold in
/-- The invariant passes one store. -/
theorem inv_step (k : ℕ) (L : Writes Ideal) (hL : Inv full (spec x1 x2 x4 S0) k L) :
    Inv full (spec x1 x2 x4 S0) (k + 1) (store arg3 harg3 arg4 harg4 arg6 harg6 x1 x2 x4 k (old k L) :: L) := by
  intro h i c hf
  by_cases hm : h.val = k % 16 / 4 ∧ c.val / 128 = k % 4
  · have hl : level (k + 1) h c = k / 16 + 1 := by unfold level; omega
    rw [hl, emb_tile k h i c hm.1 hm.2]
    refine (View.canon_cons_emb (rState k) _ L _).trans ?_
    refine (store_at arg3 harg3 arg4 harg4 arg6 harg6 x1 x2 x4 k (old k L) i _).trans ?_
    have e := hold k L hL i (⟨c.val - 128 * (k % 4), by omega⟩ : Fin 128)
    have eh : (⟨k % 16 / 4, by omega⟩ : Fin 4) = h := Fin.ext hm.1.symm
    have ec : (⟨128 * (k % 4) + (c.val - 128 * (k % 4)), by omega⟩ : Fin 512) = c := Fin.ext (by show 128 * (k % 4) + (c.val - 128 * (k % 4)) = c.val; omega)
    rw [e, eh]
    show adv x1 x2 x4 (k / 16) (fun _ _ _ => spec x1 x2 x4 S0 (k / 16) h i (⟨128 * (k % 4) + (c.val - 128 * (k % 4)), by omega⟩ : Fin 512)) h i (⟨128 * (k % 4) + (c.val - 128 * (k % 4)), by omega⟩ : Fin 512) = _
    rw [ec]
    rfl
  · have hl : level (k + 1) h c = level k h c := by unfold level; omega
    rw [hl] at hf ⊢
    rw [View.canon_cons_of_not_mem]
    · exact hL h i c hf
    · intro hy
      have hy' : (ix3 h i c : S4x256x512.Idx) ∈ (rState k).set := hy
      have hr := Rect.mem_set_unit.1 hy'
      have h0 := hr 0
      have h2 := hr 2
      apply hm
      have h0' : k % 16 / 4 ≤ h.val ∧ h.val < k % 16 / 4 + 1 := h0
      have h2' : 128 * (k % 4) ≤ c.val ∧ c.val < 128 * (k % 4) + 128 := h2
      omega

include hold in
/-- So it holds of all the stores. -/
theorem inv_stores (base : Writes Ideal) (hb : Inv full (spec x1 x2 x4 S0) 0 base) : ∀ K,
    Inv full (spec x1 x2 x4 S0) K (stores arg3 harg3 arg4 harg4 arg6 harg6 x1 x2 x4 old base K)
  | 0 => hb
  | K + 1 => inv_step arg3 harg3 arg4 harg4 arg6 harg6 x1 x2 x4 full S0 old hold K _ (inv_stores base hb K)

end

section
variable (arg3 : Memref sig .tc .vmem S1x512x1024 .bf16) (harg3 : arg3.IsWhole) (arg4 : Memref sig .tc .vmem S1x512x2048 .bf16) (harg4 : arg4.IsWhole)
  (arg6 : Memref sig .tc .vmem S1x8x1024 .f32) (harg6 : arg6.IsWhole) (arg13 : Memref sig .tc .vmem S4x256x512 .f32) (harg13 : arg13.IsWhole)
  (x1 : FVec Ideal S1x512x1024 .bf16) (x2 : FVec Ideal S1x512x2048 .bf16) (x4 : FVec Ideal S1x8x1024 .f32) (xs0 : FVec Ideal S4x256x512 .f32)

/-- A scratch's contents as a state. -/
def stOf (X : FVec Ideal S4x256x512 .f32) : St := fun h i c => X (ix3 h i c)

/-- The index of the tile of store `k` in the scratch. -/
theorem idx_tile (k : ℕ) (i : Fin 256) (c : Fin 128) :
    (rState k).toLoadRect.idx (ix3 (0 : Fin 1) i c) = (ix3 (⟨k % 16 / 4, by omega⟩ : Fin 4) i (⟨128 * (k % 4) + c.val, by omega⟩ : Fin 512) : S4x256x512.Idx) := by
  funext a; apply Fin.ext
  obtain ⟨_ | _ | _ | a, ha⟩ := a
  · show k % 16 / 4 + 1 * 0 = k % 16 / 4; omega
  · show 0 + 1 * i.val = i.val; omega
  · show 128 * (k % 4) + 1 * c.val = 128 * (k % 4) + c.val; omega
  · exact absurd ha (by simp)

theorem level_tile (k : ℕ) (c : Fin 128) : level k (⟨k % 16 / 4, by omega⟩ : Fin 4) (⟨128 * (k % 4) + c.val, by omega⟩ : Fin 512) = k / 16 := by
  show (k + 15 - (4 * (k % 16 / 4) + (128 * (k % 4) + c.val) / 128)) / 16 = k / 16; omega

/-- What a store reads of the writes so far is the state of its tile. -/
theorem readCov_tile (full : Prop) (S : ℕ → St) (k : ℕ) (hk : full ∨ 16 ≤ k) (L : Writes Ideal) (hL : Inv full S k L) (i : Fin 256) (c : Fin 128) :
    arg13.view.readCov (Val := Elt Ideal) L (rState k).toLoadRect (ix3 (0 : Fin 1) i c)
      = S (k / 16) (⟨k % 16 / 4, by omega⟩ : Fin 4) i (⟨128 * (k % 4) + c.val, by omega⟩ : Fin 512) := by
  rw [View.readCov_eq_canon']
  show View.canon L ((rState k).toLoadRect.idx (ix3 (0 : Fin 1) i c)) = _
  rw [idx_tile, hL _ _ _ ?_, level_tile]
  rw [level_tile]; rcases hk with h | h
  · exact .inl h
  · right; omega

theorem inbAll : ∀ a, (![0, 0, 0] : Fin 3 → ℕ) a + S4x256x512.size a ≤ S4x256x512.size a := by
  refine Fin.forall_fin_succ.2 ⟨Nat.le_of_eq (Nat.zero_add _), Fin.forall_fin_succ.2 ⟨Nat.le_of_eq (Nat.zero_add _), Fin.forall_fin_succ.2 ⟨Nat.le_of_eq (Nat.zero_add _), fun a => a.elim0⟩⟩⟩

/-- The zero state. -/
def zeroSt : St := fun _ _ _ => 0

/-- At a sequence's first grid point the stores leave the states from zero. -/
theorem invA (K : ℕ) : Inv True (spec x1 x2 x4 zeroSt) K
    (stores arg3 harg3 arg4 harg4 arg6 harg6 x1 x2 x4 (oldA (F := Ideal) arg13) kernelRun0_A.sl.HS0_1 K) := by
  refine inv_stores arg3 harg3 arg4 harg4 arg6 harg6 x1 x2 x4 True zeroSt _ (fun k L hL i c => ?_) _ ?_ K
  · exact readCov_tile arg13 True _ k (.inl trivial) L hL i c
  · intro h i c _
    have hl : level 0 h c = 0 := by unfold level; omega
    rw [hl]
    have hy : (ix3 h i c : S4x256x512.Idx) = (Rect.unit (s := S4x256x512) ![0, 0, 0] S4x256x512.size inbAll).emb (ix3 h i c) := by
      funext a; apply Fin.ext
      obtain ⟨_ | _ | _ | a, ha⟩ := a
      · show h.val = 0 + 1 * h.val; omega
      · show i.val = 0 + 1 * i.val; omega
      · show c.val = 0 + 1 * c.val; omega
      · exact absurd ha (by simp)
    refine (congrArg (View.canon kernelRun0_A.sl.HS0_1) hy).trans ((View.canon_cons_emb _ _ _ _).trans ?_)
    show k0_pay2 (F := Ideal) (ix3 h i c) = 0
    pointwise [k0_pay2]

/-- At a later grid point the stores leave the states from what the point before left. -/
theorem invB (K : ℕ) : Inv False (spec x1 x2 x4 (stOf xs0)) K
    (stores arg3 harg3 arg4 harg4 arg6 harg6 x1 x2 x4 (oldB (F := Ideal) arg13 harg13 xs0) [] K) := by
  refine inv_stores arg3 harg3 arg4 harg4 arg6 harg6 x1 x2 x4 False (stOf xs0) _ (fun k L hL i c => ?_) _ ?_ K
  · unfold oldB
    by_cases hk : k < 16
    · rw [(by simpa using hk : Nat.blt k 16 = true), cond_true, View.readAt_eq_ld, harg13.read_unread]
      have h0 : k / 16 = 0 := by omega
      rw [h0]
      exact congrArg xs0 (idx_tile k i c)
    · rw [(by rw [← Bool.not_eq_true, Nat.blt_eq]; exact hk : Nat.blt k 16 = false), cond_false]
      exact readCov_tile arg13 False _ k (.inr (by omega)) L hL i c
  · intro h i c hf
    rcases hf with hf | hf
    · exact hf.elim
    · exact absurd hf (by unfold level; omega)

end

end Cert.KernelIdeal.Scan

end
-- ==== Proof.BlockVal.lean ====
module

public import proofs.«01_k».proof.Proof.State

@[expose] public section

set_option maxRecDepth 16384

noncomputable section

namespace Cert.KernelIdeal.Scan

open Cert.KernelIdeal Cert.KernelIdeal.Gen Idealize.ShloMosaic Idealize.ShloMosaic.TcCoe Idealize.ShloMosaic.ValueKit

/-! The gated output and the projected output of one block, in the ideal numbers. -/

/-- A head's output row, normalised as the kernel does it: the row is sixteen times the attention's, and the scale divides it out. -/
def normed (o : Fin 512 → EReal) (v : Fin 512) : EReal :=
  o v * (Ideal.rsqrt (Ideal.div (∑ w : Fin 512, o w * o w) (Ideal.ofBits .f32 0x44000000#32) * Ideal.ofBits .f32 0x3B800000#32
    + Ideal.ofBits .f32 0x358637BD#32) * Ideal.ofBits .f32 0x3D800000#32)

theorem gate_at (q : FVec Ideal S1x64x256 .bf16) (S : FVec Ideal S1x256x512 .f32) (g : FVec Ideal S1x64x512 .bf16) (r : Fin 64) (v : Fin 512) :
    k0_pay37 (F := Ideal) (k0_pay36 q S g) (ix2 r v)
      = normed (fun w => ∑ i : Fin 256, q (ix3 (0 : Fin 1) r i) * S (ix3 (0 : Fin 1) i w)) v * g (ix3 (0 : Fin 1) r v) := by
  unfold normed
  pointwise [k0_pay37, k0_pay36]

/-- A row of the result: the residual plus the normalised projection, scaled. -/
def finish (x y : Fin 2048 → EReal) (g : Fin 2048 → EReal) (c : Fin 2048) : EReal :=
  x c + y c * Ideal.rsqrt (Ideal.div (∑ e : Fin 2048, y e * y e) (Ideal.ofBits .f32 0x45000000#32) + Ideal.ofBits .f32 0x358637BD#32) * g c

theorem finish_at (a : FVec Ideal S512x2048 .bf16) (w : FVec Ideal S2048x2048 .bf16) (x : FVec Ideal S1x512x2048 .f32) (g : FVec Ideal S1x2048 .f32)
    (r : Fin 512) (c : Fin 2048) :
    k0_pay1 (F := Ideal) (k0_pay312 a w) (k0_pay313 x) g (k0_pay314 a w) (ix3 (0 : Fin 1) r c)
      = finish (fun e => x (ix3 (0 : Fin 1) r e)) (fun e => ∑ l : Fin 2048, a (ix2 r l) * w (ix2 l e)) (fun e => g (ix2 (0 : Fin 1) e)) c := by
  unfold finish
  pointwise [k0_pay1, k0_pay312, k0_pay313, k0_pay314]

/-- The gated outputs of a block, of the state after each of its chunks. -/
def gatedOf (Q : FVec Ideal S1x512x1024 .bf16) (G : FVec Ideal S1x512x2048 .bf16) (T : ℕ → St) (r : Fin 512) (e : Fin 2048) : EReal :=
  normed (fun w => ∑ i : Fin 256, Q (ix3 (0 : Fin 1) r (⟨256 * (e.val / 512) + i.val, by omega⟩ : Fin 1024))
    * T (r.val / 64 + 1) (⟨e.val / 512, by omega⟩ : Fin 4) i w) (⟨e.val % 512, by omega⟩ : Fin 512) * G (ix3 (0 : Fin 1) r e)

end Cert.KernelIdeal.Scan

end
-- ==== Proof.Block.lean ====
module

public import proofs.«01_k».proof.Proof.BlockVal

@[expose] public section

set_option maxRecDepth 16384

noncomputable section

namespace Cert.KernelIdeal.Scan

open Cert.KernelIdeal Cert.KernelIdeal.Gen Idealize.ShloMosaic Idealize.ShloMosaic.TcCoe Idealize.ShloMosaic.ValueKit

/-! What a grid point leaves: the gated outputs' scratch, the result's block, the weight block and the state scratch. -/

section
variable (arg2 : Memref sig .tc .vmem S1x512x1024 .bf16) (harg2 : arg2.IsWhole)
  (arg3 : Memref sig .tc .vmem S1x512x1024 .bf16) (harg3 : arg3.IsWhole) (arg4 : Memref sig .tc .vmem S1x512x2048 .bf16) (harg4 : arg4.IsWhole)
  (arg5 : Memref sig .tc .vmem S1x512x2048 .bf16) (harg5 : arg5.IsWhole)
  (arg6 : Memref sig .tc .vmem S1x8x1024 .f32) (harg6 : arg6.IsWhole) (arg13 : Memref sig .tc .vmem S4x256x512 .f32)
  (x0 : FVec Ideal S1x512x1024 .bf16) (x1 : FVec Ideal S1x512x1024 .bf16) (x2 : FVec Ideal S1x512x2048 .bf16) (x3 : FVec Ideal S1x512x2048 .bf16)
  (x4 : FVec Ideal S1x8x1024 .f32)

/-- Dropping the last stores leaves the list of the earlier ones. -/
theorem drop_stores (old : ℕ → Writes Ideal → FVec Ideal S1x256x128 .f32) (base : Writes Ideal) (k : ℕ) : ∀ d,
    (stores arg3 harg3 arg4 harg4 arg6 harg6 x1 x2 x4 old base (k + d)).drop d = stores arg3 harg3 arg4 harg4 arg6 harg6 x1 x2 x4 old base k
  | 0 => rfl
  | d + 1 => by
    show (store arg3 harg3 arg4 harg4 arg6 harg6 x1 x2 x4 (k + d) _ :: stores arg3 harg3 arg4 harg4 arg6 harg6 x1 x2 x4 old base (k + d)).drop (d + 1) = _
    rw [List.drop_succ_cons]
    exact drop_stores old base k d

variable (full : Prop) (T : ℕ → St) (W : Writes Ideal) (hW : ∀ k, k < 32 → Inv full T (128 - (116 - 4 * k)) (W.drop (116 - 4 * k)))

include hW in
/-- The head's state that gated output `k` reads is the state after its chunk. -/
theorem readCov_head (k : ℕ) (hk : k < 32) (i : Fin 256) (v : Fin 512) :
    arg13.view.readCov (Val := Elt Ideal) (W.drop (116 - 4 * k)) (rHead k).toLoadRect (ix3 (0 : Fin 1) i v)
      = T (k / 4 + 1) (⟨k % 4, by omega⟩ : Fin 4) i v := by
  rw [View.readCov_eq_canon']
  have hy : (rHead k).toLoadRect.idx (ix3 (0 : Fin 1) i v) = (ix3 (⟨k % 4, by omega⟩ : Fin 4) i v : S4x256x512.Idx) := by
    funext a; apply Fin.ext
    obtain ⟨_ | _ | _ | a, ha⟩ := a
    · show k % 4 + 1 * 0 = k % 4; omega
    · show 0 + 1 * i.val = i.val; omega
    · show 0 + 1 * v.val = v.val; omega
    · exact absurd ha (by simp)
  show View.canon (W.drop (116 - 4 * k)) ((rHead k).toLoadRect.idx (ix3 (0 : Fin 1) i v)) = _
  have hl : level (128 - (116 - 4 * k)) (⟨k % 4, by omega⟩ : Fin 4) v = k / 4 + 1 := by
    show (128 - (116 - 4 * k) + 15 - (4 * (k % 4) + v.val / 128)) / 16 = k / 4 + 1
    omega
  rw [hy, hW k hk _ _ _ (.inr (by rw [hl]; omega)), hl]

theorem mem_gates (p : View.Piece (Elt Ideal) S512x2048 .bf16) : ∀ K, p ∈ gates arg2 harg2 arg5 harg5 arg13 x0 x3 W K →
    ∃ k, k < K ∧ p = gated arg2 harg2 arg5 harg5 arg13 x0 x3 W k
  | 0, h => absurd h (by simp [gates])
  | K + 1, h => by
    rcases List.mem_cons.1 h with h | h
    · exact ⟨K, Nat.lt_succ_self K, h⟩
    · obtain ⟨k, hk, e⟩ := mem_gates p K h
      exact ⟨k, Nat.lt_succ_of_lt hk, e⟩

theorem gates_mem (k : ℕ) : ∀ K, k < K → gated arg2 harg2 arg5 harg5 arg13 x0 x3 W k ∈ gates arg2 harg2 arg5 harg5 arg13 x0 x3 W K
  | 0, h => absurd h (Nat.not_lt_zero _)
  | K + 1, h => by
    rcases Nat.lt_succ_iff_lt_or_eq.1 h with h | h
    · exact List.mem_cons_of_mem _ (gates_mem k K h)
    · subst h; exact List.mem_cons_self

/-- The place in the gated outputs of an index of store `k`. -/
theorem emb_out (k : ℕ) (hk : k < 32) (r : Fin 64) (v : Fin 512) :
    (rOut k).emb (ix2 r v) = (ix2 (⟨64 * (k / 4) + r.val, by omega⟩ : Fin 512) (⟨512 * (k % 4) + v.val, by omega⟩ : Fin 2048) : S512x2048.Idx) := by
  funext a; apply Fin.ext
  obtain ⟨_ | _ | a, ha⟩ := a
  · show 64 * (k / 4 % 8) + 1 * r.val = 64 * (k / 4) + r.val; omega
  · show 512 * (k % 4) + 1 * v.val = 512 * (k % 4) + v.val; omega
  · exact absurd ha (by simp)

include hW in
/-- Gated output `k`, of the blocks. -/
theorem gated_at (k : ℕ) (hk : k < 32) (r : Fin 64) (v : Fin 512) :
    (gated (F := Ideal) arg2 harg2 arg5 harg5 arg13 x0 x3 W k).2 (ix2 r v)
      = gatedOf x0 x3 T (⟨64 * (k / 4) + r.val, by omega⟩ : Fin 512) (⟨512 * (k % 4) + v.val, by omega⟩ : Fin 2048) := by
  show k0_pay37 (F := Ideal) (k0_pay36 _ _ _) (ix2 r v) = _
  refine (gate_at _ _ _ r v).trans ?_
  rw [View.readAt_eq_ld, View.readAt_eq_ld, harg2.read_unread, harg5.read_unread]
  unfold gatedOf
  have e1 : (512 * (k % 4) + v.val) / 512 = k % 4 := by omega
  have e2 : (⟨(512 * (k % 4) + v.val) % 512, by omega⟩ : Fin 512) = v := Fin.ext (by show (512 * (k % 4) + v.val) % 512 = v.val; omega)
  have e3 : (64 * (k / 4) + r.val) / 64 = k / 4 := by omega
  have e4 : (⟨(512 * (k % 4) + v.val) / 512, by omega⟩ : Fin 4) = (⟨k % 4, by omega⟩ : Fin 4) := Fin.ext e1
  show _ = normed (fun w => ∑ i : Fin 256, x0 (ix3 (0 : Fin 1) (⟨64 * (k / 4) + r.val, by omega⟩ : Fin 512) (⟨256 * ((512 * (k % 4) + v.val) / 512) + i.val, by omega⟩ : Fin 1024))
    * T ((64 * (k / 4) + r.val) / 64 + 1) (⟨(512 * (k % 4) + v.val) / 512, by omega⟩ : Fin 4) i w) (⟨(512 * (k % 4) + v.val) % 512, by omega⟩ : Fin 512) * _
  rw [e2, e3, e4]
  refine congrArg₂ (· * ·) (congrArg (normed · v) ?_) (congrArg x3 ?_)
  · funext w
    refine Finset.sum_congr rfl fun i _ => congrArg₂ (· * ·) (congrArg x0 ?_) (readCov_head arg13 full T W hW k hk i w)
    funext a; apply Fin.ext
    obtain ⟨_ | _ | _ | a, ha⟩ := a
    · rfl
    · show 64 * (k / 4 % 8) + 1 * r.val = 64 * (k / 4) + r.val; omega
    · show 256 * (k % 4) + 1 * i.val = 256 * ((512 * (k % 4) + v.val) / 512) + i.val; omega
    · exact absurd ha (by simp)
  · funext a; apply Fin.ext
    obtain ⟨_ | _ | _ | a, ha⟩ := a
    · rfl
    · show 64 * (k / 4 % 8) + 1 * r.val = 64 * (k / 4) + r.val; omega
    · show 512 * (k % 4) + 1 * v.val = 512 * (k % 4) + v.val; omega
    · exact absurd ha (by simp)

include hW in
/-- The gated outputs' scratch, once all are stored. -/
theorem canon_gates (r : Fin 512) (e : Fin 2048) :
    View.canon (gates (F := Ideal) arg2 harg2 arg5 harg5 arg13 x0 x3 W 32) (ix2 r e) = gatedOf x0 x3 T r e := by
  refine View.canon_apply_of_pieces (Val := Elt Ideal) (e := .bf16) (fun y : S512x2048.Idx => gatedOf x0 x3 T (y 0) (y 1)) _ (fun p hp x => ?_) (ix2 r e) ?_
  · obtain ⟨k, hk, rfl⟩ := mem_gates arg2 harg2 arg5 harg5 arg13 x0 x3 W p 32 hp
    have hx : x = (ix2 (x 0 : Fin 64) (x 1 : Fin 512) : S64x512.Idx) := by
      funext a
      obtain ⟨_ | _ | a, ha⟩ := a
      · rfl
      · rfl
      · exact absurd ha (by simp)
    rw [hx]
    refine (gated_at arg2 harg2 arg5 harg5 arg13 x0 x3 full T W hW k hk (x 0) (x 1)).trans ?_
    have he := emb_out k hk (x 0) (x 1)
    exact (congrArg (fun y : S512x2048.Idx => gatedOf x0 x3 T (y 0) (y 1)) he).symm
  · have hk : 4 * (r.val / 64) + e.val / 512 < 32 := by omega
    refine ⟨_, gates_mem arg2 harg2 arg5 harg5 arg13 x0 x3 W (4 * (r.val / 64) + e.val / 512) 32 hk, ?_⟩
    refine (Rect.mem_set_unit (s := S512x2048) (inb := inbOut _)).2 fun a => ?_
    obtain ⟨_ | _ | a, ha⟩ := a
    · show 64 * ((4 * (r.val / 64) + e.val / 512) / 4 % 8) ≤ r.val ∧ r.val < 64 * ((4 * (r.val / 64) + e.val / 512) / 4 % 8) + 64
      omega
    · show 512 * ((4 * (r.val / 64) + e.val / 512) % 4) ≤ e.val ∧ e.val < 512 * ((4 * (r.val / 64) + e.val / 512) % 4) + 512
      omega
    · exact absurd ha (by simp)

end

/-- The column blocks of the weight that a grid point stores. -/
theorem inbW (k : ℕ) : ∀ a, (![k % 12, 0, 0] : Fin 3 → ℕ) a + S1x128x512.size a ≤ S12x128x512.size a := by
  refine Fin.forall_fin_succ.2 ⟨?_, Fin.forall_fin_succ.2 ⟨?_, Fin.forall_fin_succ.2 ⟨?_, fun a => a.elim0⟩⟩⟩
  · show k % 12 + 1 ≤ 12; omega
  · show 0 + 128 ≤ 128; omega
  · show 0 + 512 ≤ 512; omega
theorem inbWSrc (k : ℕ) : ∀ a, (![0, 512 * (k % 12)] : Fin 2 → ℕ) a + S128x512.size a ≤ S128x6144.size a := by
  refine Fin.forall_fin_succ.2 ⟨?_, Fin.forall_fin_succ.2 ⟨?_, fun a => a.elim0⟩⟩
  · show 0 + 128 ≤ 128; omega
  · show 512 * (k % 12) + 512 ≤ 6144; omega

section
variable {F : FTy → Type} [FloatOps F]
variable (arg10 : Memref sig .tc .vmem S128x6144 .f32) (harg10 : arg10.IsWhole) (x8 : Vec F S128x6144 .f32)

/-- Column block `k` of the weight, as stored. -/
def slab (k : ℕ) : View.Piece (Elt F) S12x128x512 .bf16 :=
  ⟨Rect.unit ![k % 12, 0, 0] S1x128x512.size (inbW k),
    k0_pay3 (View.readAt (Elt F) arg10.view (Rect.unit (s := S128x6144) ![0, 512 * (k % 12)] S128x512.size (inbWSrc k)).toLoadRect (harg10.unread x8))⟩

/-- The first `k` column blocks, last first. -/
def slabs : ℕ → List (View.Piece (Elt F) S12x128x512 .bf16)
  | 0 => []
  | k + 1 => slab arg10 harg10 x8 k :: slabs k
end

theorem canon_slabs (arg10 : Memref sig .tc .vmem S128x6144 .f32) (harg10 : arg10.IsWhole) (x8 : FVec Ideal S128x6144 .f32)
    (j : Fin 12) (r : Fin 128) (c : Fin 512) : ∀ K, j.val < K → K ≤ 12 →
    View.canon (slabs (F := Ideal) arg10 harg10 x8 K) (ix3 j r c) = x8 (ix2 r (⟨512 * j.val + c.val, by omega⟩ : Fin 6144))
  | 0, h, _ => absurd h (Nat.not_lt_zero _)
  | K + 1, h, h12 => by
    by_cases hj : j.val = K
    · have hy : (ix3 j r c : S12x128x512.Idx) = (Rect.unit (s := S12x128x512) ![K % 12, 0, 0] S1x128x512.size (inbW K)).emb (ix3 (0 : Fin 1) r c) := by
        funext a; apply Fin.ext
        obtain ⟨_ | _ | _ | a, ha⟩ := a
        · show j.val = K % 12 + 1 * 0; omega
        · show r.val = 0 + 1 * r.val; omega
        · show c.val = 0 + 1 * c.val; omega
        · exact absurd ha (by simp)
      refine (congrArg (View.canon (slabs (F := Ideal) arg10 harg10 x8 (K + 1))) hy).trans ((View.canon_cons_emb _ _ _ _).trans ?_)
      rw [View.readAt_eq_ld, harg10.read_unread]
      have hp : ∀ v : FVec Ideal S128x512 .f32, k0_pay3 (F := Ideal) v (ix3 (0 : Fin 1) r c) = v (ix2 r c) := fun v => by pointwise [k0_pay3]
      refine (hp _).trans (congrArg x8 ?_)
      funext a; apply Fin.ext
      obtain ⟨_ | _ | a, ha⟩ := a
      · show 0 + 1 * r.val = r.val; omega
      · show 512 * (K % 12) + 1 * c.val = 512 * j.val + c.val; omega
      · exact absurd ha (by simp)
    · refine (View.canon_cons_of_not_mem _ _ fun hy => hj ?_).trans (canon_slabs arg10 harg10 x8 j r c K (by omega) (by omega))
      have hy' : (ix3 j r c : S12x128x512.Idx) ∈ (Rect.unit (s := S12x128x512) ![K % 12, 0, 0] S1x128x512.size (inbW K)).set := hy
      have h0 : K % 12 ≤ j.val ∧ j.val < K % 12 + 1 := (Rect.mem_set_unit.1 hy') 0
      omega

end Cert.KernelIdeal.Scan

end
-- ==== Proof.Point.lean ====
module

public import proofs.«01_k».proof.Proof.Block

@[expose] public section

set_option maxRecDepth 65536

noncomputable section

namespace Cert.KernelIdeal.Scan

open Cert.KernelIdeal Cert.KernelIdeal.Gen Idealize.ShloMosaic Idealize.ShloMosaic.TcCoe Idealize.ShloMosaic.ValueKit

/-! What each case of a grid point leaves in the result's block, the weight's block and the state scratch. -/

section
variable (c : Dev nD) (i : grid0.Coords)
  (arg2 : Memref sig .tc .vmem S1x512x1024 .bf16) (harg2 : arg2.IsWhole) (arg3 : Memref sig .tc .vmem S1x512x1024 .bf16) (harg3 : arg3.IsWhole)
  (arg4 : Memref sig .tc .vmem S1x512x2048 .bf16) (harg4 : arg4.IsWhole) (arg5 : Memref sig .tc .vmem S1x512x2048 .bf16) (harg5 : arg5.IsWhole)
  (arg6 : Memref sig .tc .vmem S1x8x1024 .f32) (harg6 : arg6.IsWhole) (arg7 : Memref sig .tc .vmem S2048x2048 .bf16) (harg7 : arg7.IsWhole)
  (arg8 : Memref sig .tc .vmem S2x2048 .f32) (harg8 : arg8.IsWhole) (arg9 : Memref sig .tc .vmem S1x512x2048 .f32) (harg9 : arg9.IsWhole)
  (arg10 : Memref sig .tc .vmem S128x6144 .f32) (harg10 : arg10.IsWhole) (arg11 : Memref sig .tc .vmem S1x512x2048 .f32) (harg11 : arg11.IsWhole)
  (arg12 : Memref sig .tc .vmem S12x128x512 .bf16) (harg12 : arg12.IsWhole) (arg13 : Memref sig .tc .vmem S4x256x512 .f32) (harg13 : arg13.IsWhole)
  (arg14 : Memref sig .tc .vmem S512x2048 .bf16) (harg14 : arg14.IsWhole)
  (x0 : FVec Ideal S1x512x1024 .bf16) (x1 : FVec Ideal S1x512x1024 .bf16) (x2 : FVec Ideal S1x512x2048 .bf16) (x3 : FVec Ideal S1x512x2048 .bf16)
  (x4 : FVec Ideal S1x8x1024 .f32) (x5 : FVec Ideal S2048x2048 .bf16) (x6 : FVec Ideal S2x2048 .f32) (x7 : FVec Ideal S1x512x2048 .f32)
  (x8 : FVec Ideal S128x6144 .f32) (xs0 : FVec Ideal S4x256x512 .f32)

/-- A row of the result's block, of the blocks read and the states. -/
def outOf (T : ℕ → St) (r : Fin 512) (e : Fin 2048) : EReal :=
  finish (fun d => x7 (ix3 (0 : Fin 1) r d)) (fun d => ∑ l : Fin 2048, gatedOf x0 x3 T r l * x5 (ix2 l d)) (fun d => x6 (ix2 (0 : Fin 2) d)) e

/-- The states the gated outputs read are in the invariant, of any list of the 128 stores. -/
theorem inv_drop (full : Prop) (T : ℕ → St) (old : ℕ → Writes Ideal → FVec Ideal S1x256x128 .f32) (base : Writes Ideal)
    (h : ∀ K, Inv full T K (stores arg3 harg3 arg4 harg4 arg6 harg6 x1 x2 x4 old base K)) (k : ℕ) (hk : k < 32) :
    Inv full T (128 - (116 - 4 * k)) ((stores arg3 harg3 arg4 harg4 arg6 harg6 x1 x2 x4 old base 128).drop (116 - 4 * k)) := by
  have e : 128 = (128 - (116 - 4 * k)) + (116 - 4 * k) := by omega
  have hd := drop_stores arg3 harg3 arg4 harg4 arg6 harg6 x1 x2 x4 old base (128 - (116 - 4 * k)) (116 - 4 * k)
  rw [← e] at hd
  rw [hd]
  exact h _

/-- The result's block, of its one store. -/
theorem result_at (T : ℕ → St) (O : Outs Ideal) (hO : ∀ (r : Fin 512) (e : Fin 2048), View.canon O (ix2 r e) = gatedOf x0 x3 T r e)
    (hr hw hg hx hb) (r : Fin 512) (e : Fin 2048) :
    View.canon [(⟨Rect.unit ![0, 0, 0] ![1, 512, 2048] hr,
      k0_pay1 (F := Ideal)
        (k0_pay312 (arg14.view.readCov O (Rect.unit (s := S512x2048) ![0, 0] S512x2048.size hb).toLoadRect)
          (View.readAt (Elt Ideal) arg7.view (Rect.unit (s := S2048x2048) ![0, 0] S2048x2048.size hw).toLoadRect (harg7.unread x5)))
        (k0_pay313 (View.readAt (Elt Ideal) arg9.view (Rect.unit (s := S1x512x2048) ![0, 0, 0] S1x512x2048.size hx).toLoadRect (harg9.unread x7)))
        (View.readAt (Elt Ideal) arg8.view (Rect.unit (s := S2x2048) ![0, 0] S1x2048.size hg).toLoadRect (harg8.unread x6))
        (k0_pay314 (arg14.view.readCov O (Rect.unit (s := S512x2048) ![0, 0] S512x2048.size hb).toLoadRect)
          (View.readAt (Elt Ideal) arg7.view (Rect.unit (s := S2048x2048) ![0, 0] S2048x2048.size hw).toLoadRect (harg7.unread x5)))⟩ : View.Piece (Elt Ideal) S1x512x2048 .f32)]
      (ix3 (0 : Fin 1) r e) = outOf x0 x3 x5 x6 x7 T r e := by
  have hy : (ix3 (0 : Fin 1) r e : S1x512x2048.Idx) = (Rect.unit (s := S1x512x2048) ![0, 0, 0] ![1, 512, 2048] hr).emb (ix3 (0 : Fin 1) r e) := by
    funext a; apply Fin.ext
    obtain ⟨_ | _ | _ | a, ha⟩ := a
    · rfl
    · show r.val = 0 + 1 * r.val; omega
    · show e.val = 0 + 1 * e.val; omega
    · exact absurd ha (by simp)
  refine (congrArg (View.canon _) hy).trans ((View.canon_cons_emb _ _ _ _).trans ((finish_at _ _ _ _ r e).trans ?_))
  rw [View.readAt_eq_ld, View.readAt_eq_ld, View.readAt_eq_ld, harg7.read_unread, harg8.read_unread, harg9.read_unread, View.readCov_eq_canon']
  unfold outOf
  have hx7 : ∀ d : Fin 2048, (Rect.unit (s := S1x512x2048) ![0, 0, 0] S1x512x2048.size hx).toLoadRect.idx (ix3 (0 : Fin 1) r d) = (ix3 (0 : Fin 1) r d : S1x512x2048.Idx) := fun d => by
    funext a; apply Fin.ext
    obtain ⟨_ | _ | _ | a, ha⟩ := a
    · rfl
    · show 0 + 1 * r.val = r.val; omega
    · show 0 + 1 * d.val = d.val; omega
    · exact absurd ha (by simp)
  have hx6 : ∀ d : Fin 2048, (Rect.unit (s := S2x2048) ![0, 0] S1x2048.size hg).toLoadRect.idx (ix2 (0 : Fin 1) d) = (ix2 (0 : Fin 2) d : S2x2048.Idx) := fun d => by
    funext a; apply Fin.ext
    obtain ⟨_ | _ | a, ha⟩ := a
    · rfl
    · show 0 + 1 * d.val = d.val; omega
    · exact absurd ha (by simp)
  have hx5 : ∀ l d : Fin 2048, (Rect.unit (s := S2048x2048) ![0, 0] S2048x2048.size hw).toLoadRect.idx (ix2 l d) = (ix2 l d : S2048x2048.Idx) := fun l d => by
    funext a; apply Fin.ext
    obtain ⟨_ | _ | a, ha⟩ := a
    · show 0 + 1 * l.val = l.val; omega
    · show 0 + 1 * d.val = d.val; omega
    · exact absurd ha (by simp)
  have hO' : ∀ l : Fin 2048, (Rect.unit (s := S512x2048) ![0, 0] S512x2048.size hb).toLoadRect.idx (ix2 r l) = (ix2 r l : S512x2048.Idx) := fun l => by
    funext a; apply Fin.ext
    obtain ⟨_ | _ | a, ha⟩ := a
    · show 0 + 1 * r.val = r.val; omega
    · show 0 + 1 * l.val = l.val; omega
    · exact absurd ha (by simp)
  have f1 : (fun d : Fin 2048 => x7 ((Rect.unit (s := S1x512x2048) ![0, 0, 0] S1x512x2048.size hx).toLoadRect.idx (ix3 (0 : Fin 1) r d)))
      = fun d => x7 (ix3 (0 : Fin 1) r d) := funext fun d => congrArg x7 (hx7 d)
  have f2 : (fun d : Fin 2048 => ∑ l : Fin 2048, View.canon O ((Rect.unit (s := S512x2048) ![0, 0] S512x2048.size hb).toLoadRect.idx (ix2 r l))
        * x5 ((Rect.unit (s := S2048x2048) ![0, 0] S2048x2048.size hw).toLoadRect.idx (ix2 l d)))
      = fun d => ∑ l : Fin 2048, gatedOf x0 x3 T r l * x5 (ix2 l d) :=
    funext fun d => Finset.sum_congr rfl fun l _ => congrArg₂ (· * ·) ((congrArg (View.canon O) (hO' l)).trans (hO r l)) (congrArg x5 (hx5 l d))
  have f3 : (fun d : Fin 2048 => x6 ((Rect.unit (s := S2x2048) ![0, 0] S1x2048.size hg).toLoadRect.idx (ix2 (0 : Fin 1) d)))
      = fun d => x6 (ix2 (0 : Fin 2) d) := funext fun d => congrArg x6 (hx6 d)
  exact congrFun (congr (congr (congrArg finish f1) f2) f3) e

/-- The list the gated outputs read, at a sequence's first grid point. -/
theorem invA_drop (k : ℕ) (hk : k < 32) : Inv True (spec x1 x2 x4 zeroSt) (128 - (116 - 4 * k))
    ((kernelRun0_A.sl.HS0_129 (F := Ideal) c arg3 harg3 arg4 harg4 arg6 harg6 arg13 x1 x2 x4).drop (116 - 4 * k)) := by
  rw [writesA]
  exact inv_drop arg3 harg3 arg4 harg4 arg6 harg6 x1 x2 x4 True _ _ _ (invA arg3 harg3 arg4 harg4 arg6 harg6 arg13 x1 x2 x4) k hk

/-- The result's block, at a sequence's first grid point. -/
theorem outA_9 (hc0 : cond0_0 i) (r : Fin 512) (e : Fin 2048) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 (0 : Fin 1) r e)
      = outOf x0 x3 x5 x6 x7 (spec x1 x2 x4 zeroSt) r e := by
  refine (View.read_writes_junk_apply_eq_canon VO0_9 _ _).trans ?_
  refine (result_at arg7 harg7 arg8 harg8 arg9 harg9 arg14 x0 x3 x5 x6 x7 (spec x1 x2 x4 zeroSt)
    (kernelRun0_A.sl.HS1_32 (F := Ideal) c arg2 harg2 arg3 harg3 arg4 harg4 arg5 harg5 arg6 harg6 arg13 x0 x1 x2 x3 x4) (fun r e => ?_) _ _ _ _ _ r e)
  rw [outsA]
  exact canon_gates arg2 harg2 arg5 harg5 arg13 x0 x3 True _ _ (invA_drop c arg3 harg3 arg4 harg4 arg6 harg6 arg13 x1 x2 x4) r e

/-- The weight's block, at a sequence's first grid point. -/
theorem outA_10 (hc0 : cond0_0 i) (j : Fin 12) (r : Fin 128) (e : Fin 512) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 j r e)
      = x8 (ix2 r (⟨512 * j.val + e.val, by omega⟩ : Fin 6144)) := by
  refine (View.read_writes_junk_apply_eq_canon VO0_10 _ _).trans ?_
  exact canon_slabs arg10 harg10 x8 j r e 12 j.isLt le_rfl

/-- The state scratch, at a sequence's first grid point. -/
theorem soutA (hc0 : cond0_0 i) (h : Fin 4) (k : Fin 256) (e : Fin 512) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 h k e)
      = spec x1 x2 x4 zeroSt 8 h k e := by
  refine (View.read_writes_junk_apply_eq_canon VS0_0 _ _).trans ?_
  have hl : level 128 h e = 8 := by unfold level; omega
  refine Eq.trans (b := View.canon (kernelRun0_A.sl.HS0_129 (F := Ideal) c arg3 harg3 arg4 harg4 arg6 harg6 arg13 x1 x2 x4) (ix3 h k e)) rfl ?_
  rw [writesA, (invA arg3 harg3 arg4 harg4 arg6 harg6 arg13 x1 x2 x4) 128 h k e (.inr (by rw [hl]; omega)), hl]

/-- The list the gated outputs read, at a later grid point. -/
theorem invB_drop (k : ℕ) (hk : k < 32) : Inv False (spec x1 x2 x4 (stOf xs0)) (128 - (116 - 4 * k))
    ((kernelRun0_B.sl.HS0_128 (F := Ideal) c arg3 harg3 arg4 harg4 arg6 harg6 arg13 harg13 x1 x2 x4 xs0).drop (116 - 4 * k)) := by
  rw [writesB]
  exact inv_drop arg3 harg3 arg4 harg4 arg6 harg6 x1 x2 x4 False _ _ _ (invB arg3 harg3 arg4 harg4 arg6 harg6 arg13 harg13 x1 x2 x4 xs0) k hk

/-- The result's block, at a later grid point. -/
theorem outB_9 (hc0 : ¬cond0_0 i) (r : Fin 512) (e : Fin 2048) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 (ix3 (0 : Fin 1) r e)
      = outOf x0 x3 x5 x6 x7 (spec x1 x2 x4 (stOf xs0)) r e := by
  refine (View.read_writes_junk_apply_eq_canon VO0_9 _ _).trans ?_
  refine (result_at arg7 harg7 arg8 harg8 arg9 harg9 arg14 x0 x3 x5 x6 x7 (spec x1 x2 x4 (stOf xs0))
    (kernelRun0_B.sl.HS1_32 (F := Ideal) c arg2 harg2 arg3 harg3 arg4 harg4 arg5 harg5 arg6 harg6 arg13 harg13 x0 x1 x2 x3 x4 xs0) (fun r e => ?_) _ _ _ _ _ r e)
  rw [outsB]
  exact canon_gates arg2 harg2 arg5 harg5 arg13 x0 x3 False _ _ (invB_drop c arg3 harg3 arg4 harg4 arg6 harg6 arg13 harg13 x1 x2 x4 xs0) r e

/-- The weight's block, at a later grid point. -/
theorem outB_10 (hc0 : ¬cond0_0 i) (j : Fin 12) (r : Fin 128) (e : Fin 512) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 (ix3 j r e)
      = x8 (ix2 r (⟨512 * j.val + e.val, by omega⟩ : Fin 6144)) := by
  refine (View.read_writes_junk_apply_eq_canon VO0_10 _ _).trans ?_
  exact canon_slabs arg10 harg10 x8 j r e 12 j.isLt le_rfl

/-- The state scratch, at a later grid point. -/
theorem soutB (hc0 : ¬cond0_0 i) (h : Fin 4) (k : Fin 256) (e : Fin 512) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 (ix3 h k e)
      = spec x1 x2 x4 (stOf xs0) 8 h k e := by
  refine (View.read_writes_junk_apply_eq_canon VS0_0 _ _).trans ?_
  have hl : level 128 h e = 8 := by unfold level; omega
  refine Eq.trans (b := View.canon (kernelRun0_B.sl.HS0_128 (F := Ideal) c arg3 harg3 arg4 harg4 arg6 harg6 arg13 harg13 x1 x2 x4 xs0) (ix3 h k e)) rfl ?_
  rw [writesB, (invB arg3 harg3 arg4 harg4 arg6 harg6 arg13 harg13 x1 x2 x4 xs0) 128 h k e (.inr (by rw [hl]; omega)), hl]

end

end Cert.KernelIdeal.Scan

end
-- ==== Proof.Kernel.lean ====
module

public import proofs.«01_k».proof.Proof.Point
public import proofs.«01_k».proof.Proof.Gen.KernelIdeal.Value

@[expose] public section

set_option maxRecDepth 16384

noncomputable section

namespace Cert.KernelIdeal.Scan

open Cert.KernelIdeal Cert.KernelIdeal.Gen Idealize.ShloMosaic Idealize.ShloMosaic.TcCoe Idealize.ShloMosaic.ValueKit

/-! The kernel's two results as functions of its arguments: the states of a whole sequence, the gated rows, the projected rows. -/

section
variable (P : FVec Ideal S4x2048x6144 .bf16) (D : FVec Ideal S4x32x1024 .f32)

/-- The state of sequence `b` after chunk `n`, from the state before. -/
def seqAdv (b : Fin 4) (n : ℕ) (S : St) : St := fun h i c =>
  S h i c * D (ix3 b (⟨n % 32, by omega⟩ : Fin 32) (⟨256 * h.val + i.val, by omega⟩ : Fin 1024))
    + ∑ r : Fin 64, P (ix3 b (⟨64 * (n % 32) + r.val, by omega⟩ : Fin 2048) (⟨1024 + (256 * h.val + i.val), by omega⟩ : Fin 6144))
        * P (ix3 b (⟨64 * (n % 32) + r.val, by omega⟩ : Fin 2048) (⟨2048 + (512 * h.val + c.val), by omega⟩ : Fin 6144))

/-- The state of sequence `b` after its first `n` chunks. -/
def seqSt (b : Fin 4) : ℕ → St
  | 0 => zeroSt
  | n + 1 => seqAdv P D b n (seqSt b n)

/-- The attention's row before normalising: the queries, not yet scaled, against the state after the row's chunk. -/
def attn (b : Fin 4) (s : Fin 2048) (h : Fin 4) (w : Fin 512) : EReal :=
  ∑ i : Fin 256, P (ix3 b s (⟨256 * h.val + i.val, by omega⟩ : Fin 6144)) * seqSt P D b (s.val / 64 + 1) h i w

/-- The gated row. -/
def gatedRow (b : Fin 4) (s : Fin 2048) (e : Fin 2048) : EReal :=
  normed (attn P D b s (⟨e.val / 512, by omega⟩ : Fin 4)) (⟨e.val % 512, by omega⟩ : Fin 512)
    * P (ix3 b s (⟨4096 + e.val, by omega⟩ : Fin 6144))

/-- The first result. -/
def result (W : FVec Ideal S2048x2048 .bf16) (N : FVec Ideal S2x2048 .f32) (X : FVec Ideal S4x2048x2048 .f32) : FVec Ideal S4x2048x2048 .f32 := fun j =>
  finish (fun d => X (ix3 (j 0) (j 1) d)) (fun d => ∑ l : Fin 2048, gatedRow P D (j 0) (j 1) l * W (ix2 l d)) (fun d => N (ix2 (0 : Fin 2) d)) (j 2)

/-- The second result: the next weight in column blocks. -/
def weight (U : FVec Ideal S2048x6144 .f32) : FVec Ideal S12x2048x512 .bf16 := fun j =>
  U (ix2 (j 1 : Fin 2048) (⟨512 * (j 0 : Fin 12).val + (j 2 : Fin 512).val, by
    have h0 : (j 0 : Fin 12).val < 12 := (j 0 : Fin 12).isLt
    have h2 : (j 2 : Fin 512).val < 512 := (j 2 : Fin 512).isLt
    omega⟩ : Fin 6144))
end

/-- The windows' index maps, at every grid point. -/
theorem idx : ∀ t : Fin cfg0.N, win0_0.index t = ![t.val / 4, t.val % 4, 0] ∧ win0_1.index t = ![t.val / 4, t.val % 4, 1]
    ∧ win0_2.index t = ![t.val / 4, t.val % 4, 1] ∧ win0_3.index t = ![t.val / 4, t.val % 4, 2] ∧ win0_4.index t = ![t.val / 4, t.val % 4, 0]
    ∧ win0_5.index t = ![0, 0] ∧ win0_6.index t = ![0, 0] ∧ win0_7.index t = ![t.val / 4, t.val % 4, 0] ∧ win0_8.index t = ![t.val, 0]
    ∧ win0_9.index t = ![t.val / 4, t.val % 4, 0] ∧ win0_10.index t = ![0, t.val, 0] ∧ t.val < 16 :=
  (by decide +kernel : ∀ t : Fin grid0.N, _)

theorem lt16 (t : Fin cfg0.N) : t.val < 16 := (idx t).2.2.2.2.2.2.2.2.2.2.2

variable (m : (l : Loc nD τ sig) → Buf (Elt Ideal) l) (c : Dev nD)

/-- The grid point's sequence. -/
abbrev sq (t : Fin cfg0.N) : Fin 4 := ⟨t.val / 4, by have := lt16 t; omega⟩
/-- Row `r` of the grid point's block, in the sequence. -/
abbrev row (t : Fin cfg0.N) (r : Fin 512) : Fin 2048 := ⟨512 * (t.val % 4) + r.val, by omega⟩

abbrev aP : FVec Ideal S4x2048x6144 .bf16 := m ((c : Thread nD τ).loc main_arg0)
abbrev aD : FVec Ideal S4x32x1024 .f32 := m ((c : Thread nD τ).loc main_arg1)
abbrev aW : FVec Ideal S2048x2048 .bf16 := m ((c : Thread nD τ).loc main_arg2)
abbrev aN : FVec Ideal S2x2048 .f32 := m ((c : Thread nD τ).loc main_arg3)
abbrev aX : FVec Ideal S4x2048x2048 .f32 := m ((c : Thread nD τ).loc main_arg4)
abbrev aU : FVec Ideal S2048x6144 .f32 := m ((c : Thread nD τ).loc main_arg5)

theorem blk0 (t : Fin cfg0.N) (r : Fin 512) (e : Fin 1024) : (iblk m c 0 t : FVec Ideal S1x512x1024 .bf16) (ix3 (0 : Fin 1) r e)
    = aP m c (ix3 (sq t) (row t r) (⟨e.val, by omega⟩ : Fin 6144)) := by
  have := lt16 t
  blk_ext [iblk, V, idx t]
theorem blk1 (t : Fin cfg0.N) (r : Fin 512) (e : Fin 1024) : (iblk m c 1 t : FVec Ideal S1x512x1024 .bf16) (ix3 (0 : Fin 1) r e)
    = aP m c (ix3 (sq t) (row t r) (⟨1024 + e.val, by omega⟩ : Fin 6144)) := by
  blk_ext [iblk, V, idx t]
theorem blk2 (t : Fin cfg0.N) (r : Fin 512) (e : Fin 2048) : (iblk m c 2 t : FVec Ideal S1x512x2048 .bf16) (ix3 (0 : Fin 1) r e)
    = aP m c (ix3 (sq t) (row t r) (⟨2048 + e.val, by omega⟩ : Fin 6144)) := by
  blk_ext [iblk, V, idx t]
theorem blk3 (t : Fin cfg0.N) (r : Fin 512) (e : Fin 2048) : (iblk m c 3 t : FVec Ideal S1x512x2048 .bf16) (ix3 (0 : Fin 1) r e)
    = aP m c (ix3 (sq t) (row t r) (⟨4096 + e.val, by omega⟩ : Fin 6144)) := by
  blk_ext [iblk, V, idx t]
theorem blk4 (t : Fin cfg0.N) (r : Fin 8) (e : Fin 1024) : (iblk m c 4 t : FVec Ideal S1x8x1024 .f32) (ix3 (0 : Fin 1) r e)
    = aD m c (ix3 (sq t) (⟨8 * (t.val % 4) + r.val, by omega⟩ : Fin 32) e) := by
  blk_ext [iblk, V, idx t]
theorem blk5 (t : Fin cfg0.N) (l d : Fin 2048) : (iblk m c 5 t : FVec Ideal S2048x2048 .bf16) (ix2 l d) = aW m c (ix2 l d) := by
  blk_ext [iblk, V, idx t]
theorem blk6 (t : Fin cfg0.N) (l : Fin 2) (d : Fin 2048) : (iblk m c 6 t : FVec Ideal S2x2048 .f32) (ix2 l d) = aN m c (ix2 l d) := by
  blk_ext [iblk, V, idx t]
theorem blk7 (t : Fin cfg0.N) (r : Fin 512) (e : Fin 2048) : (iblk m c 7 t : FVec Ideal S1x512x2048 .f32) (ix3 (0 : Fin 1) r e)
    = aX m c (ix3 (sq t) (row t r) e) := by
  blk_ext [iblk, V, idx t]
theorem blk8 (t : Fin cfg0.N) (r : Fin 128) (e : Fin 6144) : (iblk m c 8 t : FVec Ideal S128x6144 .f32) (ix2 r e)
    = aU m c (ix2 (⟨128 * t.val + r.val, by have := lt16 t; omega⟩ : Fin 2048) e) := by
  blk_ext [iblk, V, idx t]

/-- A chunk of the grid point's blocks is the sequence's chunk. -/
theorem adv_eq (t : Fin cfg0.N) (n : ℕ) (hn : n < 8) (S : St) :
    adv (iblk m c 1 t) (iblk m c 2 t) (iblk m c 4 t) n S = seqAdv (aP m c) (aD m c) (sq t) (8 * (t.val % 4) + n) S := by
  funext h i e
  have e1 : n % 8 = n := by omega
  have e2 : (8 * (t.val % 4) + n) % 32 = 8 * (t.val % 4) + n := by omega
  unfold adv seqAdv
  refine congrArg₂ (· + ·) (congrArg (S h i e * ·) ?_) (Finset.sum_congr rfl fun r _ => congrArg₂ (· * ·) ?_ ?_)
  · refine (blk4 m c t _ _).trans (congrArg (aD m c) ((ix3_inj ..).2 ⟨rfl, Fin.ext ?_, rfl⟩))
    show 8 * (t.val % 4) + n % 8 = (8 * (t.val % 4) + n) % 32; omega
  · refine (blk1 m c t _ _).trans (congrArg (aP m c) ((ix3_inj ..).2 ⟨rfl, Fin.ext ?_, rfl⟩))
    show 512 * (t.val % 4) + (64 * (n % 8) + r.val) = 64 * ((8 * (t.val % 4) + n) % 32) + r.val; omega
  · refine (blk2 m c t _ _).trans (congrArg (aP m c) ((ix3_inj ..).2 ⟨rfl, Fin.ext ?_, rfl⟩))
    show 512 * (t.val % 4) + (64 * (n % 8) + r.val) = 64 * ((8 * (t.val % 4) + n) % 32) + r.val; omega

theorem spec_eq (t : Fin cfg0.N) (S0 : St) (h0 : S0 = seqSt (aP m c) (aD m c) (sq t) (8 * (t.val % 4))) : ∀ n, n ≤ 8 →
    spec (iblk m c 1 t) (iblk m c 2 t) (iblk m c 4 t) S0 n = seqSt (aP m c) (aD m c) (sq t) (8 * (t.val % 4) + n)
  | 0, _ => h0
  | n + 1, hn => by
    show adv _ _ _ n (spec _ _ _ S0 n) = seqAdv _ _ _ (8 * (t.val % 4) + n) (seqSt _ _ _ (8 * (t.val % 4) + n))
    rw [adv_eq m c t n (by omega), spec_eq t S0 h0 n (by omega)]

/-- A point's result block, of the sequence's states. -/
theorem outOf_eq (t : Fin cfg0.N) (T : ℕ → St) (hT : ∀ n, n ≤ 8 → T n = seqSt (aP m c) (aD m c) (sq t) (8 * (t.val % 4) + n)) (r : Fin 512) (e : Fin 2048) :
    outOf (iblk m c 0 t) (iblk m c 3 t) (iblk m c 5 t) (iblk m c 6 t) (iblk m c 7 t) T r e
      = result (aP m c) (aD m c) (aW m c) (aN m c) (aX m c) (ix3 (sq t) (row t r) e) := by
  have hg : ∀ l : Fin 2048, gatedOf (iblk m c 0 t) (iblk m c 3 t) T r l = gatedRow (aP m c) (aD m c) (sq t) (row t r) l := fun l => by
    unfold gatedOf gatedRow
    refine congrArg₂ (· * ·) (congrArg (normed · _) (funext fun w => ?_)) (blk3 m c t r l)
    unfold attn
    refine Finset.sum_congr rfl fun i _ => congrArg₂ (· * ·) ?_ ?_
    · exact (blk0 m c t r _).trans (congrArg (aP m c) ((ix3_inj ..).2 ⟨rfl, rfl, rfl⟩))
    · rw [hT _ (by omega)]
      have e1 : 8 * (t.val % 4) + (r.val / 64 + 1) = (512 * (t.val % 4) + r.val) / 64 + 1 := by omega
      rw [e1]
  unfold outOf result
  refine congrFun (congr (congr (congrArg finish (funext fun d => blk7 m c t r d)) (funext fun d => Finset.sum_congr rfl fun l _ => ?_)) (funext fun d => blk6 m c t 0 d)) e
  exact congrArg₂ (· * ·) (hg l) (blk5 m c t l d)

/-- What point `t` leaves: the sequence's state after its chunks, its rows of the result, its rows of the weight. -/
def Left (t : Fin cfg0.N) (o : FVec Ideal S1x512x2048 .f32 × FVec Ideal S12x128x512 .bf16 × FVec Ideal S4x256x512 .f32) : Prop :=
  (∀ (h : Fin 4) (i : Fin 256) (e : Fin 512), o.2.2 (ix3 h i e) = seqSt (aP m c) (aD m c) (sq t) (8 * (t.val % 4) + 8) h i e)
  ∧ (∀ (r : Fin 512) (e : Fin 2048), o.1 (ix3 (0 : Fin 1) r e) = result (aP m c) (aD m c) (aW m c) (aN m c) (aX m c) (ix3 (sq t) (row t r) e))
  ∧ (∀ (j : Fin 12) (r : Fin 128) (e : Fin 512), o.2.1 (ix3 j r e)
      = aU m c (ix2 (⟨128 * t.val + r.val, by have := lt16 t; omega⟩ : Fin 2048) (⟨512 * j.val + e.val, by omega⟩ : Fin 6144)))

end Cert.KernelIdeal.Scan

end
-- ==== Proof.RefTrip.lean ====
module

public import proofs.«01_k».proof.Proof.Kernel
public import proofs.«01_k».proof.Proof.Gen.ReferenceIdeal
public import Idealize.ShloMosaic.Lib.WordCmp
public import Idealize.ShloMosaic.Lib.Pointwise
public import Idealize.ShloMosaic.Lib.IdealHost

@[expose] public section

set_option maxRecDepth 65536

noncomputable section

namespace Cert.ReferenceIdeal.Scan

open Idealize.ShloMosaic.WordCmp Cert.ReferenceIdeal Cert.ReferenceIdeal.Gen Idealize.ShloMosaic Idealize.ShloMosaic.TcCoe

/-! One trip of the reference's scan, at an index: the chunk's slices, the state after the chunk, the chunk's rows of the output. -/

theorem word_toInt (k : Fin 32) : (BitVec.ofNat 32 k.val).toInt = (k.val : Int) :=
  toInt_ofNat_of_lt (by have := k.isLt; omega)

/-- The five offsets as the program has them. -/
abbrev start5 (k : Fin 32) : Fin 5 → Int := fun a =>
  ((![constantI S_ 32 (BitVec.ofNat 32 k.val), constantI S_ 32 0#32, constantI S_ 32 0#32, constantI S_ 32 0#32, constantI S_ 32 0#32] : Fin 5 → (⟨S_, .i32⟩ : BufTy).Contents (Elt Ideal)) a (Shape.Idx.first h_S_)).toInt
/-- The four offsets as the program has them. -/
abbrev start4 (k : Fin 32) : Fin 4 → Int := fun a =>
  ((![constantI S_ 32 (BitVec.ofNat 32 k.val), constantI S_ 32 0#32, constantI S_ 32 0#32, constantI S_ 32 0#32] : Fin 4 → (⟨S_, .i32⟩ : BufTy).Contents (Elt Ideal)) a (Shape.Idx.first h_S_)).toInt

theorem start5_eq (k : Fin 32) : ∀ a, start5 k a = ((![k.val, 0, 0, 0, 0] : Fin 5 → ℕ) a : Int) := by
  intro a
  have h := word_toInt k
  fin_cases a
  · exact h
  all_goals rfl
theorem start4_eq (k : Fin 32) : ∀ a, start4 k a = ((![k.val, 0, 0, 0] : Fin 4 → ℕ) a : Int) := by
  intro a
  have h := word_toInt k
  fin_cases a
  · exact h
  all_goals rfl

theorem chunkK (k : Fin 32) (X : FVec Ideal S32x4x4x64x256 .f32) (b h : Fin 4) (r : Fin 64) (i : Fin 256) :
    shapeCast S4x4x64x256 (Host.dynamicSlice S1x4x4x64x256 X (start5 k) sliceFits_S32x4x4x64x256_S1x4x4x64x256) shapeCasts_S1x4x4x64x256_S4x4x64x256 (ix4 b h r i)
      = X (ix5 k b h r i) := by
  rw [dynamicSlice_eq_extract (s := S32x4x4x64x256) S1x4x4x64x256 X (start5 k) sliceFits_S32x4x4x64x256_S1x4x4x64x256 ![k.val, 0, 0, 0, 0] ⟨rfl, by intro a; have := k.isLt; fin_cases a <;> simp⟩ (start5_eq k)]
  pointwise

theorem chunkV (k : Fin 32) (X : FVec Ideal S32x4x4x64x512 .f32) (b h : Fin 4) (r : Fin 64) (i : Fin 512) :
    shapeCast S4x4x64x512 (Host.dynamicSlice S1x4x4x64x512 X (start5 k) sliceFits_S32x4x4x64x512_S1x4x4x64x512) shapeCasts_S1x4x4x64x512_S4x4x64x512 (ix4 b h r i)
      = X (ix5 k b h r i) := by
  rw [dynamicSlice_eq_extract (s := S32x4x4x64x512) S1x4x4x64x512 X (start5 k) sliceFits_S32x4x4x64x512_S1x4x4x64x512 ![k.val, 0, 0, 0, 0] ⟨rfl, by intro a; have := k.isLt; fin_cases a <;> simp⟩ (start5_eq k)]
  pointwise

theorem chunkD (k : Fin 32) (X : FVec Ideal S32x4x4x256 .f32) (b h : Fin 4) (i : Fin 256) :
    shapeCast S4x4x256 (Host.dynamicSlice S1x4x4x256 X (start4 k) sliceFits_S32x4x4x256_S1x4x4x256) shapeCasts_S1x4x4x256_S4x4x256 (ix3 b h i)
      = X (ix4 k b h i) := by
  rw [dynamicSlice_eq_extract (s := S32x4x4x256) S1x4x4x256 X (start4 k) sliceFits_S32x4x4x256_S1x4x4x256 ![k.val, 0, 0, 0] ⟨rfl, by intro a; have := k.isLt; fin_cases a <;> simp⟩ (start4_eq k)]
  pointwise

/-- The state after a chunk, as the program has it. -/
def stateOf (k : Fin 32) (K : FVec Ideal S32x4x4x64x256 .f32) (V : FVec Ideal S32x4x4x64x512 .f32) (D : FVec Ideal S32x4x4x256 .f32)
    (S : FVec Ideal S4x4x256x512 .f32) : FVec Ideal S4x4x256x512 .f32 :=
  addf (mulf S (broadcastInDim S4x4x256x512 ![0, 1, 2, 3] bcast_S4x4x256x1_S4x4x256x512_0_1_2_3
      (broadcastInDim S4x4x256x1 ![0, 1, 2] bcast_S4x4x256_S4x4x256x1_0_1_2
        (shapeCast S4x4x256 (Host.dynamicSlice S1x4x4x256 D (start4 k) sliceFits_S32x4x4x256_S1x4x4x256) shapeCasts_S1x4x4x256_S4x4x256))))
    (Host.dotGeneral dot_S4x4x64x256_S4x4x64x512_S4x4x256x512_2_2_3_3_01_01 none
      (shapeCast S4x4x64x256 (Host.dynamicSlice S1x4x4x64x256 K (start5 k) sliceFits_S32x4x4x64x256_S1x4x4x64x256) shapeCasts_S1x4x4x64x256_S4x4x64x256)
      (shapeCast S4x4x64x512 (Host.dynamicSlice S1x4x4x64x512 V (start5 k) sliceFits_S32x4x4x64x512_S1x4x4x64x512) shapeCasts_S1x4x4x64x512_S4x4x64x512))

theorem stateOf_apply (k : Fin 32) (K : FVec Ideal S32x4x4x64x256 .f32) (V : FVec Ideal S32x4x4x64x512 .f32) (D : FVec Ideal S32x4x4x256 .f32)
    (S : FVec Ideal S4x4x256x512 .f32) (b h : Fin 4) (i : Fin 256) (v : Fin 512) :
    stateOf k K V D S (ix4 b h i v) = S (ix4 b h i v) * D (ix4 k b h i) + ∑ r : Fin 64, K (ix5 k b h r i) * V (ix5 k b h r v) := by
  have hK := chunkK k K b h
  have hV := chunkV k V b h
  have hD := chunkD k D b h i
  unfold stateOf
  generalize shapeCast S4x4x64x256 _ _ = K' at hK ⊢
  generalize shapeCast S4x4x64x512 _ _ = V' at hV ⊢
  generalize shapeCast S4x4x256 _ _ = D' at hD ⊢
  pointwise
  simp only [hK, hV, hD]

/-- The output with a chunk's rows put in, as the program has it. -/
def rowsOf (k : Fin 32) (Q : FVec Ideal S32x4x4x64x256 .f32) (S : FVec Ideal S4x4x256x512 .f32) (O : FVec Ideal S32x4x4x64x512 .f32) :
    FVec Ideal S32x4x4x64x512 .f32 :=
  Host.dynamicUpdateSlice O (broadcastInDim S1x4x4x64x512 ![1, 2, 3, 4] bcast_S4x4x64x512_S1x4x4x64x512_1_2_3_4
    (Host.dotGeneral dot_S4x4x64x256_S4x4x256x512_S4x4x64x512_3_2_2_3_01_01 none
      (shapeCast S4x4x64x256 (Host.dynamicSlice S1x4x4x64x256 Q (start5 k) sliceFits_S32x4x4x64x256_S1x4x4x64x256) shapeCasts_S1x4x4x64x256_S4x4x64x256) S))
    (start5 k) updateFits_S32x4x4x64x512_S1x4x4x64x512

theorem rowsOf_apply (k : Fin 32) (Q : FVec Ideal S32x4x4x64x256 .f32) (S : FVec Ideal S4x4x256x512 .f32) (O : FVec Ideal S32x4x4x64x512 .f32)
    (n : Fin 32) (b h : Fin 4) (r : Fin 64) (v : Fin 512) :
    rowsOf k Q S O (ix5 n b h r v) = if n = k then ∑ i : Fin 256, Q (ix5 k b h r i) * S (ix4 b h i v) else O (ix5 n b h r v) := by
  have hQ := chunkK k Q b h
  unfold rowsOf
  generalize shapeCast S4x4x64x256 _ _ = Q' at hQ ⊢
  rw [dynamicUpdateSlice_eq_update (s := S32x4x4x64x512) (u := S1x4x4x64x512) O _ (start5 k) updateFits_S32x4x4x64x512_S1x4x4x64x512 ![k.val, 0, 0, 0, 0] ⟨rfl, by intro a; have := k.isLt; fin_cases a <;> simp⟩ (start5_eq k)]
  pointwise
  by_cases e : n = k
  · subst e
    rw [dif_pos ⟨le_rfl, by omega⟩, if_pos rfl]
    simp only [hQ]
  · rw [dif_neg (by rintro ⟨h1, h2⟩; exact e (Fin.ext (by omega))), if_neg e]

end Cert.ReferenceIdeal.Scan

end
-- ==== Proof.RefIter.lean ====
module

public import proofs.«01_k».proof.Proof.RefTrip
public import proofs.«01_k».proof.Proof.Gen.ReferenceIdeal.Run

@[expose] public section

set_option maxRecDepth 65536

noncomputable section

namespace Cert.ReferenceIdeal.Scan

open Cert.ReferenceIdeal Cert.ReferenceIdeal.Gen Cert.ReferenceIdeal.Value Idealize.ShloMosaic Idealize.ShloMosaic.TcCoe Idealize.SL.Sem Idealize.ShloMosaic.StableHlo
open Cert.KernelIdeal.Scan (seqSt seqAdv zeroSt)

/-! The reference's scan after any number of trips: what its buffers hold. -/

section
variable (V : Valuation τ sig (Elt Ideal))
/-- The scaled queries, chunk by chunk. -/
abbrev bufQ : FVec Ideal S32x4x4x64x256 .f32 := V (Proc.devRef .tc main_v18_0)
/-- The keys, chunk by chunk. -/
abbrev bufK : FVec Ideal S32x4x4x64x256 .f32 := V (Proc.devRef .tc main_v18_1)
/-- The values, chunk by chunk. -/
abbrev bufV : FVec Ideal S32x4x4x64x512 .f32 := V (Proc.devRef .tc main_v18_2)
/-- The decays, chunk by chunk. -/
abbrev bufD : FVec Ideal S32x4x4x256 .f32 := V (Proc.devRef .tc main_v18_3)
/-- The state. -/
abbrev bufS : FVec Ideal S4x4x256x512 .f32 := V (Proc.devRef .tc main_v18_5)
/-- The rows of the output so far. -/
abbrev bufO : FVec Ideal S32x4x4x64x512 .f32 := V (Proc.devRef .tc main_v18_6)
end

/-- The queries' scale. -/
abbrev scale : EReal := Ideal.ofBits .f32 0x3D800000#32

/-- What the buffers hold after `k` trips. -/
structure After (V : Valuation τ sig (Elt Ideal)) (P : FVec Ideal S4x2048x6144 .bf16) (D : FVec Ideal S4x32x1024 .f32) (k : ℕ) : Prop where
  hq : ∀ (n : Fin 32) (b h : Fin 4) (r : Fin 64) (i : Fin 256), bufQ V (ix5 n b h r i)
    = P (ix3 b (⟨64 * n.val + r.val, by omega⟩ : Fin 2048) (⟨256 * h.val + i.val, by omega⟩ : Fin 6144)) * scale
  hk : ∀ (n : Fin 32) (b h : Fin 4) (r : Fin 64) (i : Fin 256), bufK V (ix5 n b h r i)
    = P (ix3 b (⟨64 * n.val + r.val, by omega⟩ : Fin 2048) (⟨1024 + (256 * h.val + i.val), by omega⟩ : Fin 6144))
  hv : ∀ (n : Fin 32) (b h : Fin 4) (r : Fin 64) (e : Fin 512), bufV V (ix5 n b h r e)
    = P (ix3 b (⟨64 * n.val + r.val, by omega⟩ : Fin 2048) (⟨2048 + (512 * h.val + e.val), by omega⟩ : Fin 6144))
  hd : ∀ (n : Fin 32) (b h : Fin 4) (i : Fin 256), bufD V (ix4 n b h i) = D (ix3 b n (⟨256 * h.val + i.val, by omega⟩ : Fin 1024))
  count : V (Proc.devRef .tc main_v18_4) = constantI S_ 32 (BitVec.ofNat 32 k)
  hs : ∀ (b h : Fin 4) (i : Fin 256) (e : Fin 512), bufS V (ix4 b h i e) = seqSt P D b k h i e
  ho : ∀ (n : Fin 32) (b h : Fin 4) (r : Fin 64) (e : Fin 512), n.val < k → bufO V (ix5 n b h r e)
    = ∑ i : Fin 256, P (ix3 b (⟨64 * n.val + r.val, by omega⟩ : Fin 2048) (⟨256 * h.val + i.val, by omega⟩ : Fin 6144)) * scale
        * seqSt P D b (n.val + 1) h i e

variable (m : (l : Loc nD τ sig) → Buf (Elt Ideal) l) (c : Dev nD)

abbrev bP : FVec Ideal S4x2048x6144 .bf16 := m ((c.tc : Thread nD τ).loc main_arg0)
abbrev bD : FVec Ideal S4x32x1024 .f32 := m ((c.tc : Thread nD τ).loc main_arg1)

theorem entry_q : bufQ (entryContents preI m c) = mulf (transpose S32x4x4x64x256 [1, 0, 3, 2, 4] (shapeCast S4x32x64x4x256
      (extf .f32 (extractStridedSlice S4x2048x1024 ![0, 0, 0] (bP m c) slices_S4x2048x6144_S4x2048x1024_0_0_0) bitsLt_bf16_f32) shapeCasts_S4x2048x1024_S4x32x64x4x256)
      transposes_S4x32x64x4x256_S32x4x4x64x256_1_0_3_2_4) (broadcastInDim S32x4x4x64x256 ![] bcast_S_S32x4x4x64x256 (constant S_ .f32 0x3D800000#32)) := by
  simp only [entryContents, afterL_cons, afterL_nil]
  after_reads_simp <;> rfl

theorem entry_k : bufK (entryContents preI m c) = transpose S32x4x4x64x256 [1, 0, 3, 2, 4] (shapeCast S4x32x64x4x256
      (extf .f32 (extractStridedSlice S4x2048x1024 ![0, 0, 1024] (bP m c) slices_S4x2048x6144_S4x2048x1024_0_0_1024) bitsLt_bf16_f32) shapeCasts_S4x2048x1024_S4x32x64x4x256)
      transposes_S4x32x64x4x256_S32x4x4x64x256_1_0_3_2_4 := by
  simp only [entryContents, afterL_cons, afterL_nil]
  after_reads_simp <;> rfl

theorem entry_v : bufV (entryContents preI m c) = transpose S32x4x4x64x512 [1, 0, 3, 2, 4] (shapeCast S4x32x64x4x512
      (extf .f32 (extractStridedSlice S4x2048x2048 ![0, 0, 2048] (bP m c) slices_S4x2048x6144_S4x2048x2048_0_0_2048) bitsLt_bf16_f32) shapeCasts_S4x2048x2048_S4x32x64x4x512)
      transposes_S4x32x64x4x512_S32x4x4x64x512_1_0_3_2_4 := by
  simp only [entryContents, afterL_cons, afterL_nil]
  after_reads_simp <;> rfl

theorem entry_d : bufD (entryContents preI m c) = transpose S32x4x4x256 [1, 0, 2, 3] (shapeCast S4x32x4x256 (bD m c) shapeCasts_S4x32x1024_S4x32x4x256)
      transposes_S4x32x4x256_S32x4x4x256_1_0_2_3 := by
  simp only [entryContents, afterL_cons, afterL_nil]
  after_reads_simp <;> rfl

theorem entry_count : (entryContents preI m c) (Proc.devRef .tc main_v18_4) = constantI S_ 32 (BitVec.ofNat 32 0) := by
  simp only [entryContents, afterL_cons, afterL_nil]
  after_reads_simp <;> rfl

theorem entry_s : bufS (entryContents preI m c) = broadcastInDim S4x4x256x512 ![] bcast_S_S4x4x256x512 (constant S_ .f32 0x00000000#32) := by
  simp only [entryContents, afterL_cons, afterL_nil]
  after_reads_simp <;> rfl

/-- Before the first trip. -/
theorem after_entry : After (entryContents preI m c) (bP m c) (bD m c) 0 where
  hq n b h r i := by rw [entry_q]; pointwise; simp only [Nat.mul_comm]
  hk n b h r i := by rw [entry_k]; pointwise; simp only [Nat.mul_comm]
  hv n b h r e := by rw [entry_v]; pointwise; simp only [Nat.mul_comm]
  hd n b h i := by rw [entry_d]; pointwise; simp only [Nat.mul_comm]
  count := entry_count m c
  hs b h i e := by rw [entry_s]; pointwise [seqSt, zeroSt]
  ho n b h r e hn := absurd hn (Nat.not_lt_zero _)

variable {V : Valuation τ sig (Elt Ideal)} {P : FVec Ideal S4x2048x6144 .bf16} {D : FVec Ideal S4x32x1024 .f32}

/-- The trip's state is the state after a chunk. -/
theorem trip_state (k : Fin 32) (hc : V (Proc.devRef .tc main_v18_4) = constantI S_ 32 (BitVec.ofNat 32 k.val)) :
    bufS (STEP V) = stateOf k (bufK V) (bufV V) (bufD V) (bufS V) := by
  refine (STEP_main_v18_5 V).trans ?_
  unfold step_main_v18_5 res_main_while0b_v64
  rw [hc]
  rfl

/-- The trip's output is the output with the chunk's rows put in. -/
theorem trip_rows (k : Fin 32) (hc : V (Proc.devRef .tc main_v18_4) = constantI S_ 32 (BitVec.ofNat 32 k.val)) :
    bufO (STEP V) = rowsOf k (bufQ V) (stateOf k (bufK V) (bufV V) (bufD V) (bufS V)) (bufO V) := by
  refine (STEP_main_v18_6 V).trans ?_
  unfold step_main_v18_6 res_main_while0b_v64
  rw [hc]
  rfl

theorem trip_count (k : Fin 32) (hc : V (Proc.devRef .tc main_v18_4) = constantI S_ 32 (BitVec.ofNat 32 k.val)) :
    STEP V (Proc.devRef .tc main_v18_4) = constantI S_ 32 (BitVec.ofNat 32 (k.val + 1)) := by
  refine (STEP_main_v18_4 V).trans ?_
  unfold step_main_v18_4
  rw [hc]
  funext j
  exact (BitVec.ofNat_add k.val 1).symm

/-- The state after a chunk is the sequence's next state. -/
theorem After.next (k : Fin 32) (h : After V P D k.val) (b g : Fin 4) (i : Fin 256) (e : Fin 512) :
    stateOf k (bufK V) (bufV V) (bufD V) (bufS V) (ix4 b g i e) = seqSt P D b (k.val + 1) g i e := by
  rw [stateOf_apply, h.hs, h.hd]
  simp only [h.hk, h.hv, seqSt, seqAdv, Nat.mod_eq_of_lt k.isLt, Fin.eta]

/-- One more trip. -/
theorem After.trip (k : Fin 32) (h : After V P D k.val) : After (STEP V) P D (k.val + 1) where
  hq n b g r i := (congrFun (STEP_main_v18_0 V) _).trans (h.hq n b g r i)
  hk n b g r i := (congrFun (STEP_main_v18_1 V) _).trans (h.hk n b g r i)
  hv n b g r i := (congrFun (STEP_main_v18_2 V) _).trans (h.hv n b g r i)
  hd n b g i := (congrFun (STEP_main_v18_3 V) _).trans (h.hd n b g i)
  count := trip_count k h.count
  hs b g i e := by rw [trip_state k h.count]; exact h.next k b g i e
  ho n b g r e hn := by
    rw [trip_rows k h.count, rowsOf_apply]
    by_cases hk : n = k
    · subst hk
      rw [if_pos rfl]
      simp only [h.hq, h.next]
    · rw [if_neg hk]
      exact h.ho n b g r e (by have : n.val ≠ k.val := fun e => hk (Fin.ext e); omega)

/-- After any number of trips up to 32. -/
theorem after_trips : ∀ k ≤ 32, After (STEP^[k] (entryContents preI m c)) (bP m c) (bD m c) k
  | 0, _ => after_entry m c
  | k + 1, hk => by
    rw [Function.iterate_succ_apply']
    exact (after_trips k (by omega)).trip ⟨k, by omega⟩

end Cert.ReferenceIdeal.Scan

end
-- ==== Proof.Final.lean ====
module

public import proofs.«01_k».proof.Proof.Kernel
public import proofs.«01_k».proof.Proof.Gen.KernelIdeal.Value

@[expose] public section

set_option maxRecDepth 16384

noncomputable section

namespace Cert.KernelIdeal.Scan

open Cert.KernelIdeal Cert.KernelIdeal.Gen Idealize.ShloMosaic Idealize.ShloMosaic.TcCoe Idealize.ShloMosaic.ValueKit

variable (m : (l : Loc nD τ sig) → Buf (Elt Ideal) l) (c : Dev nD)

set_option maxHeartbeats 1000000 in
theorem leftA (t : Fin cfg0.N) (h0 : t.val % 4 = 0) : Left m c t (outsAt0 m c t.val t.isLt) := by
  have hs := spec_eq m c t zeroSt (by
    have e0 : 8 * (t.val % 4) = 0 := by omega
    rw [e0]; rfl)
  have ht := outsAt0_A m c t h0
  refine ⟨fun h i e => ?_, fun r e => ?_, fun j r e => ?_⟩
  · have e1 := congrFun (congrArg (fun o => o.2.2) ht) (ix3 h i e)
    dsimp only at e1
    exact e1.trans ((soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) ((hcond0_0 t).mpr h0) h i e).trans (congrFun (congrFun (congrFun (hs 8 le_rfl) h) i) e))
  · have e1 := congrFun (congrArg (fun o => o.1) ht) (ix3 (0 : Fin 1) r e)
    dsimp only at e1
    exact e1.trans ((outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) ((hcond0_0 t).mpr h0) r e).trans (outOf_eq m c t _ hs r e))
  · have e1 := congrFun (congrArg (fun o => o.2.1) ht) (ix3 j r e)
    dsimp only at e1
    exact e1.trans ((outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) ((hcond0_0 t).mpr h0) j r e).trans (blk8 m c t r _))

set_option maxHeartbeats 1000000 in
theorem leftB (t : Fin cfg0.N) (h0 : ¬t.val % 4 = 0)
    (hp : stOf (outsAt0 m c (t.val - 1) (Nat.lt_of_le_of_lt (Nat.sub_le _ _) t.isLt)).2.2 = seqSt (aP m c) (aD m c) (sq t) (8 * (t.val % 4))) : Left m c t (outsAt0 m c t.val t.isLt) := by
  have hs := spec_eq m c t _ hp
  have ht := outsAt0_B m c t h0
  refine ⟨fun h i e => ?_, fun r e => ?_, fun j r e => ?_⟩
  · have e1 := congrFun (congrArg (fun o => o.2.2) ht) (ix3 h i e)
    dsimp only at e1
    exact e1.trans ((soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 (fun h => h0 ((hcond0_0 t).mp h)) h i e).trans (congrFun (congrFun (congrFun (hs 8 le_rfl) h) i) e))
  · have e1 := congrFun (congrArg (fun o => o.1) ht) (ix3 (0 : Fin 1) r e)
    dsimp only at e1
    exact e1.trans ((outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 (fun h => h0 ((hcond0_0 t).mp h)) r e).trans (outOf_eq m c t _ hs r e))
  · have e1 := congrFun (congrArg (fun o => o.2.1) ht) (ix3 j r e)
    dsimp only at e1
    exact e1.trans ((outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 (fun h => h0 ((hcond0_0 t).mp h)) j r e).trans (blk8 m c t r _))

/-- Every point leaves that, by induction over the points of a sequence. -/
theorem left : ∀ (n : ℕ) (hn : n < cfg0.N), Left m c ⟨n, hn⟩ (outsAt0 m c n hn)
  | 0, hn => leftA m c ⟨0, hn⟩ rfl
  | n + 1, hn => by
    by_cases h0 : (n + 1) % 4 = 0
    · exact leftA m c ⟨n + 1, hn⟩ h0
    · refine leftB m c ⟨n + 1, hn⟩ h0 ?_
      have hp := (left n (Nat.lt_of_succ_lt hn)).1
      funext h i e
      refine (hp h i e).trans ?_
      have e0 : 8 * (n % 4) + 8 = 8 * ((n + 1) % 4) := by omega
      have e1 : sq ⟨n, Nat.lt_of_succ_lt hn⟩ = sq ⟨n + 1, hn⟩ := Fin.ext (by show n / 4 = (n + 1) / 4; omega)
      show seqSt _ _ _ (8 * (n % 4) + 8) h i e = seqSt _ _ _ (8 * ((n + 1) % 4)) h i e
      rw [e0, e1]

theorem idx3 {a b d : ℕ} (y : (⟨3, ![a, b, d]⟩ : Shape).Idx) : y = ix3 (y 0 : Fin a) (y 1 : Fin b) (y 2 : Fin d) := by
  funext k
  obtain ⟨_ | _ | _ | k, hk⟩ := k
  · rfl
  · rfl
  · rfl
  · exact absurd hk (by simp)

/-- The first result array after the run. -/
theorem final9 : (dats m 0 c).arrAt 9 cfg0.N = result (aP m c) (aD m c) (aW m c) (aN m c) (aX m c) := by
  refine (dats m 0 c).arrAt_eq_of_covers 9 _ (by decide +kernel) fun t hf y => ?_
  blk_simp
  rw [after0_9]
  have hy : y = (ix3 (0 : Fin 1) (y 1 : Fin 512) (y 2 : Fin 2048) : S1x512x2048.Idx) :=
    (idx3 (a := 1) (b := 512) (d := 2048) y).trans ((ix3_inj ..).2 ⟨Subsingleton.elim (α := Fin 1) _ _, rfl, rfl⟩)
  have he : ((cfg0.win 9).blk t).view.emb y = (ix3 (sq t) (row t (y 1)) (y 2) : S4x2048x2048.Idx) := by
    blk_ext [idx t]
  refine Eq.trans (congrArg (outsAt0 m c t.val t.isLt).1 hy) (((left m c t.val t.isLt).2.1 (y 1) (y 2)).trans ?_)
  exact congrArg (result (aP m c) (aD m c) (aW m c) (aN m c) (aX m c)) he.symm

/-- The second result array after the run. -/
theorem final10 : (dats m 0 c).arrAt 10 cfg0.N = weight (aU m c) := by
  refine (dats m 0 c).arrAt_eq_of_covers 10 _ (by decide +kernel) fun t hf y => ?_
  blk_simp
  rw [after0_10]
  have ht := lt16 t
  have h1 : (y 1 : Fin 128).val < 128 := (y 1 : Fin 128).isLt
  have hy : y = (ix3 (y 0 : Fin 12) (y 1 : Fin 128) (y 2 : Fin 512) : S12x128x512.Idx) := idx3 (a := 12) (b := 128) (d := 512) y
  have he : ((cfg0.win 10).blk t).view.emb y = (ix3 (y 0 : Fin 12) (⟨128 * t.val + (y 1 : Fin 128).val, by omega⟩ : Fin 2048) (y 2 : Fin 512) : S12x2048x512.Idx) := by
    blk_ext [idx t]
  refine Eq.trans (congrArg (outsAt0 m c t.val t.isLt).2.1 hy) (((left m c t.val t.isLt).2.2 (y 0) (y 1) (y 2)).trans ?_)
  exact congrArg (weight (aU m c)) he.symm

end Cert.KernelIdeal.Scan

end
-- ==== Proof.RefValue.lean ====
module

public import proofs.«01_k».proof.Proof.RefIter
public import proofs.«01_k».proof.Proof.Final

@[expose] public section

set_option maxRecDepth 65536

noncomputable section

namespace Cert.ReferenceIdeal.Scan

open Cert.ReferenceIdeal Cert.ReferenceIdeal.Gen Cert.ReferenceIdeal.Value Idealize.ShloMosaic Idealize.ShloMosaic.TcCoe Idealize.SL.Sem Idealize.ShloMosaic.StableHlo
open Cert.KernelIdeal.Scan (seqSt attn normed gatedRow finish result weight)

/-! The reference's two results, and that they are the kernel's. -/

/-- The scale is the real one sixteenth. -/
theorem scale_eq : scale = ((1 / 16 : ℝ) : EReal) := by
  simp [scale, Ideal.ofBits, Ideal.ieee, -EReal.coe_mul]; norm_num
theorem square_eq : Ideal.ofBits .f32 0x3B800000#32 = ((1 / 256 : ℝ) : EReal) := by
  simp [Ideal.ofBits, Ideal.ieee, -EReal.coe_mul]; norm_num
theorem width_eq : Ideal.ofBits .f32 0x44000000#32 = ((512 : ℝ) : EReal) := by
  simp [Ideal.ofBits, Ideal.ieee, -EReal.coe_mul]; norm_num

/-- The scale's square is the kernel's other constant. -/
theorem scale_sq : scale * scale = Ideal.ofBits .f32 0x3B800000#32 := by
  rw [scale_eq, square_eq, ← EReal.coe_mul]; norm_num

/-- A nonnegative real factor comes out of a sum. -/
theorem sum_mul_real {ι : Type} (s : Finset ι) (f : ι → EReal) (a : ℝ) (ha : 0 ≤ a) : ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (EReal.coe_nonneg.mpr ha) (EReal.coe_ne_top a)]

/-- The reference's normalised row is the kernel's, the queries scaled or not. -/
theorem normed_scaled (o : Fin 512 → EReal) (v : Fin 512) :
    o v * scale * Ideal.rsqrt (Ideal.div (∑ w : Fin 512, o w * scale * (o w * scale)) (Ideal.ofBits .f32 0x44000000#32) + Ideal.ofBits .f32 0x358637BD#32)
      = normed o v := by
  have e : ∀ w, o w * scale * (o w * scale) = o w * o w * ((1 / 256 : ℝ) : EReal) := fun w => by
    rw [mul_mul_mul_comm, scale_sq, square_eq]
  unfold normed
  simp only [e]
  rw [sum_mul_real _ _ _ (by norm_num), width_eq, Ideal.div_coe (by norm_num), Ideal.div_coe (by norm_num), square_eq,
    mul_right_comm (∑ w, o w * o w)]
  rw [mul_assoc, mul_comm scale]

section
variable (O : FVec Ideal S32x4x4x64x512 .f32) (A0 : FVec Ideal S4x2048x6144 .bf16) (A2 : FVec Ideal S2048x2048 .bf16)
  (A3 : FVec Ideal S2x2048 .f32) (A4 : FVec Ideal S4x2048x2048 .f32)

/-- The attention, row by row. -/
def headsOf : FVec Ideal S4x2048x4x512 .f32 :=
  shapeCast S4x2048x4x512 (transpose S4x32x64x4x512 [1, 0, 3, 2, 4] O transposes_S32x4x4x64x512_S4x32x64x4x512_1_0_3_2_4) shapeCasts_S4x32x64x4x512_S4x2048x4x512

/-- The attention's rows normalised by head. -/
def unitOf (o : FVec Ideal S4x2048x4x512 .f32) : FVec Ideal S4x2048x4x512 .f32 :=
  mulf o (broadcastInDim S4x2048x4x512 ![0, 1, 2, 3] bcast_S4x2048x4x1_S4x2048x4x512_0_1_2_3 (Host.rsqrt (addf (Host.divf
    (broadcastInDim S4x2048x4x1 ![0, 1, 2] bcast_S4x2048x4_S4x2048x4x1_0_1_2 (Host.reduceAdd (mulf o o) (constant S_ .f32 0x00000000#32) reducesTo_S4x2048x4x512_S4x2048x4_d3 h_S_))
    (broadcastInDim S4x2048x4x1 ![] bcast_S_S4x2048x4x1 (constant S_ .f32 0x44000000#32))) (broadcastInDim S4x2048x4x1 ![] bcast_S_S4x2048x4x1 (constant S_ .f32 0x358637BD#32)))))

/-- The gated rows projected. -/
def projOf (u : FVec Ideal S4x2048x4x512 .f32) : FVec Ideal S4x2048x2048 .f32 :=
  Host.dotGeneral dot_S4x2048x2048_S2048x2048_S4x2048x2048_2_0_01_1_n_n none
    (mulf (shapeCast S4x2048x2048 u shapeCasts_S4x2048x4x512_S4x2048x2048)
      (extf .f32 (extractStridedSlice S4x2048x2048 ![0, 0, 4096] A0 slices_S4x2048x6144_S4x2048x2048_0_0_4096) bitsLt_bf16_f32))
    (extf .f32 A2 bitsLt_bf16_f32)

theorem headsOf_apply (b : Fin 4) (s : Fin 2048) (h : Fin 4) (w : Fin 512) :
    headsOf O (ix4 b s h w) = O (ix5 (⟨s.val / 64, by omega⟩ : Fin 32) b h (⟨s.val % 64, by omega⟩ : Fin 64) w) := by
  unfold headsOf
  pointwise

theorem unitOf_apply (o : FVec Ideal S4x2048x4x512 .f32) (b : Fin 4) (s : Fin 2048) (h : Fin 4) (w : Fin 512) :
    unitOf o (ix4 b s h w) = o (ix4 b s h w) * Ideal.rsqrt (Ideal.div (∑ e : Fin 512, o (ix4 b s h e) * o (ix4 b s h e)) (Ideal.ofBits .f32 0x44000000#32)
      + Ideal.ofBits .f32 0x358637BD#32) := by
  unfold unitOf
  pointwise

theorem projOf_apply (u : FVec Ideal S4x2048x4x512 .f32) (b : Fin 4) (s : Fin 2048) (d : Fin 2048) :
    projOf A0 A2 u (ix3 b s d) = ∑ l : Fin 2048, u (ix4 b s (⟨l.val / 512, by omega⟩ : Fin 4) (⟨l.val % 512, by omega⟩ : Fin 512))
      * A0 (ix3 b s (⟨4096 + l.val, by omega⟩ : Fin 6144)) * A2 (ix2 l d) := by
  unfold projOf
  pointwise

/-- The residual plus the normalised projection. -/
def lastOf (y : FVec Ideal S4x2048x2048 .f32) : FVec Ideal S4x2048x2048 .f32 :=
  addf A4 (mulf (mulf y (broadcastInDim S4x2048x2048 ![0, 1, 2] bcast_S4x2048x1_S4x2048x2048_0_1_2 (Host.rsqrt (addf (Host.divf
      (broadcastInDim S4x2048x1 ![0, 1] bcast_S4x2048_S4x2048x1_0_1 (Host.reduceAdd (mulf y y) (constant S_ .f32 0x00000000#32) reducesTo_S4x2048x2048_S4x2048_d2 h_S_))
      (broadcastInDim S4x2048x1 ![] bcast_S_S4x2048x1 (constant S_ .f32 0x45000000#32))) (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2
      (shapeCast S2048 (extractStridedSlice S1x2048 ![0, 0] A3 slices_S2x2048_S1x2048_0_0) shapeCasts_S1x2048_S2048))))

theorem lastOf_apply (y : FVec Ideal S4x2048x2048 .f32) (b : Fin 4) (s d : Fin 2048) :
    lastOf A3 A4 y (ix3 b s d) = finish (fun e => A4 (ix3 b s e)) (fun e => y (ix3 b s e)) (fun e => A3 (ix2 (0 : Fin 2) e)) d := by
  unfold lastOf finish
  pointwise
end

variable {V : Valuation τ sig (Elt Ideal)} {P : FVec Ideal S4x2048x6144 .bf16} {D : FVec Ideal S4x32x1024 .f32}

/-- After the scan, a row of the attention is the unscaled attention times the scale. -/
theorem After.heads (h : After V P D 32) (b : Fin 4) (s : Fin 2048) (g : Fin 4) (w : Fin 512) :
    headsOf (bufO V) (ix4 b s g w) = attn P D b s g w * scale := by
  rw [headsOf_apply, h.ho _ _ _ _ _ (by show s.val / 64 < 32; omega)]
  unfold attn
  rw [scale_eq, ← sum_mul_real _ _ _ (by norm_num)]
  refine Finset.sum_congr rfl fun i _ => ?_
  rw [mul_right_comm]
  have e : 64 * (s.val / 64) + s.val % 64 = s.val := Nat.div_add_mod _ _
  simp only [e, Fin.eta]

theorem After.unit (h : After V P D 32) (b : Fin 4) (s : Fin 2048) (g : Fin 4) (w : Fin 512) :
    unitOf (headsOf (bufO V)) (ix4 b s g w) = normed (attn P D b s g) w := by
  rw [unitOf_apply]
  simp only [h.heads]
  exact normed_scaled (attn P D b s g) w

/-- The reference's first result. -/
theorem After.value52 (h : After V P D 32) {A2 : FVec Ideal S2048x2048 .bf16} {A3 : FVec Ideal S2x2048 .f32} {A4 : FVec Ideal S4x2048x2048 .f32}
    (h0 : V (Proc.devRef .tc main_arg0) = P) (h2 : V (Proc.devRef .tc main_arg2) = A2) (h3 : V (Proc.devRef .tc main_arg3) = A3)
    (h4 : V (Proc.devRef .tc main_arg4) = A4) : out_main_v52 V = result P D A2 A3 A4 := by
  have e : out_main_v52 V = lastOf A3 A4 (projOf P A2 (unitOf (headsOf (bufO V)))) := by
    unfold out_main_v52
    rw [h0, h2, h3, h4]
    rfl
  rw [e]
  funext j
  obtain ⟨b, s, d, rfl⟩ : ∃ b s d, j = ix3 b s d := ⟨j 0, j 1, j 2, Cert.KernelIdeal.Scan.idx3 j⟩
  rw [lastOf_apply]
  simp only [projOf_apply, h.unit]
  rfl

/-- The reference's second result. -/
theorem value55 {A5 : FVec Ideal S2048x6144 .f32} (h5 : V (Proc.devRef .tc main_arg5) = A5) : out_main_v55 V = weight A5 := by
  unfold out_main_v55
  rw [h5]
  funext j
  obtain ⟨b, s, d, rfl⟩ : ∃ b s d, j = ix3 b s d := ⟨j 0, j 1, j 2, Cert.KernelIdeal.Scan.idx3 j⟩
  pointwise [weight]
  simp only [Nat.mul_comm]

end Cert.ReferenceIdeal.Scan

end
-- ==== Proof.Pair.lean ====
module

public import proofs.«01_k».proof.Defs
public import proofs.«01_k».proof.Proof.RefValue

@[expose] public section

noncomputable section

namespace Cert.Proof

open Idealize.ShloMosaic Idealize.SL.Sem

/-- The scan with its projection: the kernel and the reference leave the same two results. -/
theorem scan_pair : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Scan.result (Cert.KernelIdeal.Scan.aP m c) (Cert.KernelIdeal.Scan.aD m c) (Cert.KernelIdeal.Scan.aW m c)
      (Cert.KernelIdeal.Scan.aN m c) (Cert.KernelIdeal.Scan.aX m c), fun c => Cert.KernelIdeal.Scan.weight (Cert.KernelIdeal.Scan.aU m c), ?_, ?_⟩
  · exact (θ_run _ _ _).mono (fun r h c => ⟨(h c).1.trans (Cert.KernelIdeal.Scan.final9 m c),
      (h c).2.1.trans (Cert.KernelIdeal.Scan.final10 m c), (h c).2.2⟩) (Cert.KernelIdeal.Value.run_blocks m g)
  · refine (θ_run _ _ _).mono (fun r h c => ⟨(h c).1.trans ?_, (h c).2.1.trans ?_, (h c).2.2⟩) (Cert.ReferenceIdeal.Value.run m' g')
    · obtain ⟨h0, h1, h2, h3, h4, h5⟩ := hargs c
      have hk := Cert.ReferenceIdeal.Scan.after_trips m' c 32 le_rfl
      have e0 : Cert.ReferenceIdeal.Scan.bP m' c = Cert.KernelIdeal.Scan.aP m c := h0
      have e1 : Cert.ReferenceIdeal.Scan.bD m' c = Cert.KernelIdeal.Scan.aD m c := h1
      rw [e0, e1] at hk
      exact hk.value52 ((Cert.ReferenceIdeal.Value.iter_main_arg0 m' c 32).trans h0) ((Cert.ReferenceIdeal.Value.iter_main_arg2 m' c 32).trans h2)
        ((Cert.ReferenceIdeal.Value.iter_main_arg3 m' c 32).trans h3) ((Cert.ReferenceIdeal.Value.iter_main_arg4 m' c 32).trans h4)
    · exact Cert.ReferenceIdeal.Scan.value55 ((Cert.ReferenceIdeal.Value.iter_main_arg5 m' c 32).trans (hargs c).2.2.2.2.2)

end Cert.Proof

end
-- ==== Proof.MixPieces.lean ====
module

public import proofs.«01_k».proof.Proof.Gen.Kernel2Ideal.Frame

@[expose] public section

set_option maxRecDepth 65536

noncomputable section

namespace Cert.Kernel2Ideal.Mix

open Cert.Kernel2Ideal Cert.Kernel2Ideal.Gen Idealize.ShloMosaic Idealize.ShloMosaic.TcCoe

variable {F : FTy → Type} [FloatOps F] [Named F]

/-! The rectangles a grid point reads and writes: weight slabs, column blocks of 512, strips of 16 rows, tiles of 128 rows
and 256 columns (one group's columns), and the spatial weights and biases of one group. -/

theorem inbSlab (n : ℕ) : ∀ a, (![n % 12, 0, 0] : Fin 3 → ℕ) a + S1x2048x512.size a ≤ S12x2048x512.size a := by
  refine Fin.forall_fin_succ.2 ⟨?_, Fin.forall_fin_succ.2 ⟨?_, Fin.forall_fin_succ.2 ⟨?_, fun a => a.elim0⟩⟩⟩
  · show n % 12 + 1 ≤ 12; omega
  · show 0 + 2048 ≤ 2048; omega
  · show 0 + 512 ≤ 512; omega
theorem inbCol (n : ℕ) : ∀ a, (![0, 512 * (n % 4)] : Fin 2 → ℕ) a + S512x512.size a ≤ S512x2048.size a := by
  refine Fin.forall_fin_succ.2 ⟨?_, Fin.forall_fin_succ.2 ⟨?_, fun a => a.elim0⟩⟩
  · show 0 + 512 ≤ 512; omega
  · show 512 * (n % 4) + 512 ≤ 2048; omega
theorem inbStrip (k : ℕ) : ∀ a, (![16 * (k % 32), 0] : Fin 2 → ℕ) a + S16x2048.size a ≤ S512x2048.size a := by
  refine Fin.forall_fin_succ.2 ⟨?_, Fin.forall_fin_succ.2 ⟨?_, fun a => a.elim0⟩⟩
  · show 16 * (k % 32) + 16 ≤ 512; omega
  · show 0 + 2048 ≤ 2048; omega
theorem inbTile (k : ℕ) : ∀ a, (![128 * (k / 8 % 4), 256 * (k % 8)] : Fin 2 → ℕ) a + S128x256.size a ≤ S512x2048.size a := by
  refine Fin.forall_fin_succ.2 ⟨?_, Fin.forall_fin_succ.2 ⟨?_, fun a => a.elim0⟩⟩
  · show 128 * (k / 8 % 4) + 128 ≤ 512; omega
  · show 256 * (k % 8) + 256 ≤ 2048; omega
theorem inbMix (k : ℕ) : ∀ a, (![k % 8, 0, 0] : Fin 3 → ℕ) a + S1x128x128.size a ≤ S8x128x128.size a := by
  refine Fin.forall_fin_succ.2 ⟨?_, Fin.forall_fin_succ.2 ⟨?_, Fin.forall_fin_succ.2 ⟨?_, fun a => a.elim0⟩⟩⟩
  · show k % 8 + 1 ≤ 8; omega
  · show 0 + 128 ≤ 128; omega
  · show 0 + 128 ≤ 128; omega
theorem inbBias (k : ℕ) : ∀ a, (![0, 256 * (k % 8)] : Fin 2 → ℕ) a + S128x256.size a ≤ S128x2048.size a := by
  refine Fin.forall_fin_succ.2 ⟨?_, Fin.forall_fin_succ.2 ⟨?_, fun a => a.elim0⟩⟩
  · show 0 + 128 ≤ 128; omega
  · show 256 * (k % 8) + 256 ≤ 2048; omega
theorem inbHalf (k : ℕ) : ∀ a, (![0, 128 * (k % 16)] : Fin 2 → ℕ) a + S128x128.size a ≤ S128x2048.size a := by
  refine Fin.forall_fin_succ.2 ⟨?_, Fin.forall_fin_succ.2 ⟨?_, fun a => a.elim0⟩⟩
  · show 0 + 128 ≤ 128; omega
  · show 128 * (k % 16) + 128 ≤ 2048; omega
theorem inbGroup (k : ℕ) : ∀ a, (![k % 8, 0] : Fin 2 → ℕ) a + S1x128.size a ≤ S8x128.size a := by
  refine Fin.forall_fin_succ.2 ⟨?_, Fin.forall_fin_succ.2 ⟨?_, fun a => a.elim0⟩⟩
  · show k % 8 + 1 ≤ 8; omega
  · show 0 + 128 ≤ 128; omega

abbrev rSlab (n : ℕ) : Rect S12x2048x512 := Rect.unit ![n % 12, 0, 0] S1x2048x512.size (inbSlab n)
abbrev rCol (n : ℕ) : Rect S512x2048 := Rect.unit ![0, 512 * (n % 4)] S512x512.size (inbCol n)
abbrev rStrip (k : ℕ) : Rect S512x2048 := Rect.unit ![16 * (k % 32), 0] S16x2048.size (inbStrip k)
abbrev rTile (k : ℕ) : Rect S512x2048 := Rect.unit ![128 * (k / 8 % 4), 256 * (k % 8)] S128x256.size (inbTile k)
abbrev rMix (k : ℕ) : Rect S8x128x128 := Rect.unit ![k % 8, 0, 0] S1x128x128.size (inbMix k)
abbrev rBias (k : ℕ) : Rect S128x2048 := Rect.unit ![0, 256 * (k % 8)] S128x256.size (inbBias k)
abbrev rHalf (k : ℕ) : Rect S128x2048 := Rect.unit ![0, 128 * (k % 16)] S128x128.size (inbHalf k)
abbrev rGroup (k : ℕ) : Rect S8x128 := Rect.unit ![k % 8, 0] S1x128.size (inbGroup k)

theorem slicesAnchor (k : ℕ) : S512x512.Slices ![16 * (k % 32), 0] S16x128 := by
  have h : ∀ j : Fin 32, S512x512.Slices ![16 * j.val, 0] S16x128 := by decide
  exact h ⟨k % 32, Nat.mod_lt k (by omega)⟩

/-- The writes into an array of 512 rows. -/
abbrev Writes (F : FTy → Type) := List (View.Piece (Elt F) S512x2048 .bf16)

/-- The lists of a family of pieces, last first. -/
def upto {s : Shape} {e : EltTy} (p : ℕ → List (View.Piece (Elt F) s e) → View.Piece (Elt F) s e) : ℕ → List (View.Piece (Elt F) s e)
  | 0 => []
  | k + 1 => p k (upto p k) :: upto p k

theorem upto_step {s : Shape} {e : EltTy} (p : ℕ → List (View.Piece (Elt F) s e) → View.Piece (Elt F) s e) (q : View.Piece (Elt F) s e)
    (L : List (View.Piece (Elt F) s e)) (k : ℕ) (hL : L = upto p k) (hq : q = p k L) : q :: L = upto p (k + 1) := by
  subst hL; subst hq; rfl

section
variable (arg1 : Memref sig .tc .vmem S512x2048 .f32) (harg1 : arg1.IsWhole) (arg2 : Memref sig .tc .vmem S2x2048 .f32) (harg2 : arg2.IsWhole)
  (arg3 : Memref sig .tc .vmem S12x2048x512 .bf16) (harg3 : arg3.IsWhole) (arg5 : Memref sig .tc .vmem S1x2048 .f32) (harg5 : arg5.IsWhole)
  (arg6 : Memref sig .tc .vmem S1x2048 .f32) (harg6 : arg6.IsWhole)
  (arg13 arg14 arg15 : Memref sig .tc .vmem S512x2048 .bf16)
  (x0 : Vec F S512x2048 .f32) (x1 : Vec F S2x2048 .f32) (x2 : Vec F S12x2048x512 .bf16) (x4 : Vec F S1x2048 .f32) (x5 : Vec F S1x2048 .f32)

/-- The normed rows. -/
def hid : FVec F S512x2048 .bf16 :=
  k0_pay42 (View.readAt (Elt F) arg1.view (Rect.unit (s := S512x2048) ![0, 0] S512x2048.size inb_S512x2048_S512x2048_0_0).toLoadRect (harg1.unread x0))
    (View.readAt (Elt F) arg2.view (Rect.unit (s := S2x2048) ![1, 0] S1x2048.size inb_S2x2048_S1x2048_1_0).toLoadRect (harg2.unread x1))
/-- A weight slab. -/
def slab (n : ℕ) : Vec F S1x2048x512 .bf16 := View.readAt (Elt F) arg3.view (rSlab n).toLoadRect (harg3.unread x2)
/-- A column block of the projection. -/
def proj (n : ℕ) : FVec F S512x512 .f32 := k0_pay49 (hid arg1 harg1 arg2 harg2 x0 x1) (slab arg3 harg3 x2 n)
/-- Its gelu. -/
def act (n : ℕ) : FVec F S512x512 .bf16 := k0_pay51 (k0_pay50 (hid arg1 harg1 arg2 harg2 x0 x1) (slab arg3 harg3 x2 n))

def vaPiece (n : ℕ) (L : Writes F) : View.Piece (Elt F) S512x2048 .bf16 := ⟨rCol n, act arg1 harg1 arg2 harg2 arg3 harg3 x0 x1 x2 (4 + n)⟩
def tgFirst (n : ℕ) (L : Writes F) : View.Piece (Elt F) S512x2048 .bf16 := ⟨rCol n, act arg1 harg1 arg2 harg2 arg3 harg3 x0 x1 x2 n⟩
def tgSecond (n : ℕ) (L : Writes F) : View.Piece (Elt F) S512x2048 .bf16 :=
  ⟨rCol n, k0_pay60 (k0_pay59 (hid arg1 harg1 arg2 harg2 x0 x1) (slab arg3 harg3 x2 (n + 4)) (arg15.view.readCov L (rCol n).toLoadRect))⟩
def tgPiece (n : ℕ) (L : Writes F) : View.Piece (Elt F) S512x2048 .bf16 :=
  cond (Nat.blt n 4) (tgFirst arg1 harg1 arg2 harg2 arg3 harg3 x0 x1 x2 n L) (tgSecond arg1 harg1 arg2 harg2 arg3 harg3 arg15 x0 x1 x2 n L)
def vaL : Writes F := upto (vaPiece arg1 harg1 arg2 harg2 arg3 harg3 x0 x1 x2) 4
def tgL (k : ℕ) : Writes F := upto (tgPiece arg1 harg1 arg2 harg2 arg3 harg3 arg15 x0 x1 x2) k
def vnPiece (k : ℕ) (L : Writes F) : View.Piece (Elt F) S512x2048 .bf16 :=
  ⟨rStrip k, k0_pay73 (fptosi 32 (extractStridedSlice S16x128 ![16 * (k % 32), 0] (proj arg1 harg1 arg2 harg2 arg3 harg3 x0 x1 x2 (k / 8)) (slicesAnchor k)))
    16#32 (arg13.view.readCov (vaL arg1 harg1 arg2 harg2 arg3 harg3 x0 x1 x2) (rStrip k).toLoadRect)
    (View.readAt (Elt F) arg5.view (Rect.unit (s := S1x2048) ![0, 0] S1x2048.size inb_S1x2048_S1x2048_0_0).toLoadRect (harg5.unread x4))
    (View.readAt (Elt F) arg6.view (Rect.unit (s := S1x2048) ![0, 0] S1x2048.size inb_S1x2048_S1x2048_0_0).toLoadRect (harg6.unread x5))⟩
def vnL : Writes F := upto (vnPiece arg1 harg1 arg2 harg2 arg3 harg3 arg5 harg5 arg6 harg6 arg13 x0 x1 x2 x4 x5) 32
def zPiece (W : ℕ → Vec F S1x128x128 .bf16) (B : ℕ → Vec F S128x256 .f32) (k : ℕ) (L : Writes F) : View.Piece (Elt F) S512x2048 .bf16 :=
  ⟨rTile k, k0_pay135 (W k) (arg14.view.readCov (vnL arg1 harg1 arg2 harg2 arg3 harg3 arg5 harg5 arg6 harg6 arg13 x0 x1 x2 x4 x5) (rTile k).toLoadRect) (B k)
    (arg15.view.readCov (tgL arg1 harg1 arg2 harg2 arg3 harg3 arg15 x0 x1 x2 8) (rTile k).toLoadRect)⟩
def zL (W : ℕ → Vec F S1x128x128 .bf16) (B : ℕ → Vec F S128x256 .f32) : Writes F :=
  upto (zPiece arg1 harg1 arg2 harg2 arg3 harg3 arg5 harg5 arg6 harg6 arg13 arg14 arg15 x0 x1 x2 x4 x5 W B) 32

variable (c : Dev nD)

theorem vaB : kernelRun0_B.sl.HS2_4 c arg1 harg1 arg2 harg2 arg3 harg3 x0 x1 x2 = vaL arg1 harg1 arg2 harg2 arg3 harg3 x0 x1 x2 := by
  iterate 4 refine upto_step _ _ _ _ ?_ rfl
  rfl
theorem tgB : kernelRun0_B.sl.HS4_8 c arg1 harg1 arg2 harg2 arg3 harg3 arg15 x0 x1 x2 = tgL arg1 harg1 arg2 harg2 arg3 harg3 arg15 x0 x1 x2 8 := by
  iterate 8 refine upto_step _ _ _ _ ?_ rfl
  rfl
set_option maxHeartbeats 2000000 in
theorem vnB : kernelRun0_B.sl.HS3_32 c arg1 harg1 arg2 harg2 arg3 harg3 arg5 harg5 arg6 harg6 arg13 x0 x1 x2 x4 x5
    = vnL arg1 harg1 arg2 harg2 arg3 harg3 arg5 harg5 arg6 harg6 arg13 x0 x1 x2 x4 x5 := by
  iterate 32 refine upto_step _ _ _ _ ?_ rfl
  rfl
theorem vaA : kernelRun0_A.sl.HS2_4 c arg1 harg1 arg2 harg2 arg3 harg3 x0 x1 x2 = vaL arg1 harg1 arg2 harg2 arg3 harg3 x0 x1 x2 := by
  iterate 4 refine upto_step _ _ _ _ ?_ rfl
  rfl
theorem tgA : kernelRun0_A.sl.HS4_8 c arg1 harg1 arg2 harg2 arg3 harg3 arg15 x0 x1 x2 = tgL arg1 harg1 arg2 harg2 arg3 harg3 arg15 x0 x1 x2 8 := by
  iterate 8 refine upto_step _ _ _ _ ?_ rfl
  rfl
set_option maxHeartbeats 2000000 in
theorem vnA : kernelRun0_A.sl.HS3_32 c arg1 harg1 arg2 harg2 arg3 harg3 arg5 harg5 arg6 harg6 arg13 x0 x1 x2 x4 x5
    = vnL arg1 harg1 arg2 harg2 arg3 harg3 arg5 harg5 arg6 harg6 arg13 x0 x1 x2 x4 x5 := by
  iterate 32 refine upto_step _ _ _ _ ?_ rfl
  rfl
end

section
variable (arg7 : Memref sig .tc .vmem S8x128x128 .f32) (harg7 : arg7.IsWhole) (arg8 : Memref sig .tc .vmem S8x128 .f32) (harg8 : arg8.IsWhole)
  (x6 : Vec F S8x128x128 .f32) (x7 : Vec F S8x128 .f32) (c : Dev nD)

/-- The masked spatial weights of one group. -/
def mixPiece (k : ℕ) (L : List (View.Piece (Elt F) S8x128x128 .bf16)) : View.Piece (Elt F) S8x128x128 .bf16 :=
  ⟨rMix k, k0_pay6 k0_pay2 k0_pay3 k0_pay4 (View.readAt (Elt F) arg7.view (rMix k).toLoadRect (harg7.unread x6))⟩
/-- The biases of one group, spread over half of its columns. -/
def biasPiece (k : ℕ) (L : List (View.Piece (Elt F) S128x2048 .f32)) : View.Piece (Elt F) S128x2048 .f32 :=
  ⟨rHalf k, k0_pay8 (View.readAt (Elt F) arg8.view (rGroup (k / 2)).toLoadRect (harg8.unread x7))⟩

theorem mixA : kernelRun0_A.sl.HS0_8 c arg7 harg7 x6 = upto (mixPiece arg7 harg7 x6) 8 := by
  iterate 8 refine upto_step _ _ _ _ ?_ rfl
  rfl
theorem biasA : kernelRun0_A.sl.HS1_16 c arg8 harg8 x7 = upto (biasPiece arg8 harg8 x7) 16 := by
  iterate 16 refine upto_step _ _ _ _ ?_ rfl
  rfl
end

end Cert.Kernel2Ideal.Mix

end
-- ==== Proof.MixSpec.lean ====
module

public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.Kernel2Ideal.Mix

open Cert.Kernel2Ideal Idealize.ShloMosaic Idealize.ShloMosaic.TcCoe Idealize.ShloMosaic.ValueKit

/-! The spatial gating unit of one block of 128 rows, in the ideal numbers. -/

/-- The cubic constant of the gelu. -/
def cubic : EReal := Named.named (F := Ideal) Cert.Kernel2Ideal.κ "gelu_cubic" (φ := .f32) 0x3D122279#32
def gelu (r : EReal) : EReal :=
  Ideal.ofBits .f32 0x3F000000#32 * r * (Ideal.ofBits .f32 0x3F800000#32 + Ideal.tanh (r * (Ideal.ofBits .f32 0x3F4C422A#32 + cubic * (r * r))))
def silu (r : EReal) : EReal :=
  Ideal.ofBits .f32 0x3F000000#32 * r * (Ideal.ofBits .f32 0x3F800000#32 + Ideal.tanh (Ideal.ofBits .f32 0x3F000000#32 * r))
/-- A row's RMS norm. -/
def rms (x g : Fin 2048 → EReal) (d : Fin 2048) : EReal :=
  x d * Ideal.rsqrt (Ideal.div (∑ e : Fin 2048, x e * x e) (Ideal.ofBits .f32 0x45000000#32) + Ideal.ofBits .f32 0x358637BD#32) * g d
def mean (v : Fin 2048 → EReal) : EReal := Ideal.div (∑ e : Fin 2048, v e) (Ideal.ofBits .f32 0x45000000#32)
/-- A row's layer norm. -/
def layer (v g b : Fin 2048 → EReal) (c : Fin 2048) : EReal :=
  (v c - mean v) * Ideal.rsqrt (mean (fun e => (v e - mean v) * (v e - mean v)) + Ideal.ofBits .f32 0x358637BD#32) * g c + b c
/-- A row's projection on column `j` of slab `n`. -/
def into (w : Fin 12 → Fin 2048 → Fin 512 → EReal) (h : Fin 2048 → EReal) (n : Fin 12) (j : Fin 512) : EReal := ∑ d : Fin 2048, h d * w n d j
def vals (w : Fin 12 → Fin 2048 → Fin 512 → EReal) (h : Fin 2048 → EReal) (c : Fin 2048) : EReal :=
  gelu (into w h (⟨4 + c.val / 512, by omega⟩ : Fin 12) (⟨c.val % 512, by omega⟩ : Fin 512))
def first (w : Fin 12 → Fin 2048 → Fin 512 → EReal) (h : Fin 2048 → EReal) (c : Fin 2048) : EReal :=
  gelu (into w h (⟨c.val / 512, by omega⟩ : Fin 12) (⟨c.val % 512, by omega⟩ : Fin 512))
def gate (w : Fin 12 → Fin 2048 → Fin 512 → EReal) (h : Fin 2048 → EReal) (c : Fin 2048) : EReal :=
  silu (into w h (⟨8 + c.val / 512, by omega⟩ : Fin 12) (⟨c.val % 512, by omega⟩ : Fin 512))
/-- The spatial weights, no row reading a later chunk of 64. -/
def masked (s : Fin 8 → Fin 128 → Fin 128 → EReal) (g : Fin 8) (i j : Fin 128) : EReal := if j.val / 64 ≤ i.val / 64 then s g i j else 0
/-- Row `i` of the block, column `c`. -/
def mixed (w : Fin 12 → Fin 2048 → Fin 512 → EReal) (g lg lb : Fin 2048 → EReal) (s : Fin 8 → Fin 128 → Fin 128 → EReal) (b : Fin 8 → Fin 128 → EReal)
    (x : Fin 128 → Fin 2048 → EReal) (i : Fin 128) (c : Fin 2048) : EReal :=
  ((∑ j : Fin 128, masked s (⟨c.val / 256, by omega⟩ : Fin 8) i j * layer (vals w (rms (x j) g)) lg lb c) + b (⟨c.val / 256, by omega⟩ : Fin 8) i)
    * (gate w (rms (x i) g) c * first w (rms (x i) g) c)

/-! ### The two gates -/

theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem lead_eq : Ideal.ofBits .f32 0x3F4C422A#32 = ((6693141 / 8388608 : ℝ) : EReal) := by
  simp [Ideal.ofBits, Ideal.ieee, -EReal.coe_mul]; norm_num
theorem third_eq : Ideal.ofBits .f32 0x3D372713#32 = ((12003091 / 268435456 : ℝ) : EReal) := by
  simp [Ideal.ofBits, Ideal.ieee, -EReal.coe_mul]; norm_num
theorem cubic_eq : cubic = ((80338380498831 / 2251799813685248 : ℝ) : EReal) := IdealRules.named_const.ideal_named_scalar _ _ _ _ rfl

/-- The tanh's argument, as the reference forms it. -/
theorem inner_eq (r : EReal) : r * (Ideal.ofBits .f32 0x3F4C422A#32 + cubic * (r * r))
    = Ideal.ofBits .f32 0x3F4C422A#32 * (r + Ideal.ofBits .f32 0x3D372713#32 * (r * r * r)) := by
  rw [lead_eq, third_eq, cubic_eq]
  induction r using EReal.rec with
  | bot =>
    rw [EReal.bot_mul_bot, EReal.coe_mul_top_of_pos (by norm_num), EReal.coe_add_top, EReal.bot_mul_top, EReal.top_mul_bot,
      EReal.coe_mul_bot_of_pos (by norm_num), EReal.bot_add, EReal.coe_mul_bot_of_pos (by norm_num)]
  | top =>
    rw [EReal.top_mul_top, EReal.coe_mul_top_of_pos (by norm_num), EReal.coe_add_top, EReal.top_mul_top,
      EReal.coe_mul_top_of_pos (by norm_num), EReal.top_add_top, EReal.coe_mul_top_of_pos (by norm_num)]
  | coe r =>
    norm_cast
    ring_nf

/-- The gelu, as the reference forms it. -/
theorem gelu_eq (r : EReal) : gelu r = r * (Ideal.ofBits .f32 0x3F000000#32 * (Ideal.ofBits .f32 0x3F800000#32
    + Ideal.tanh (Ideal.ofBits .f32 0x3F4C422A#32 * (r + Ideal.ofBits .f32 0x3D372713#32 * (r * r * r))))) := by
  unfold gelu
  rw [inner_eq, mul_comm (Ideal.ofBits .f32 0x3F000000#32) r, mul_assoc]

/-- The silu, as the reference forms it. -/
theorem silu_eq (r : EReal) : silu r = r * Ideal.div (Ideal.ofBits .f32 0x3F800000#32) (Ideal.ofBits .f32 0x3F800000#32 + Ideal.exp (-r)) := by
  unfold silu
  rw [half_eq, one_eq]
  induction r using EReal.rec with
  | bot =>
    rw [EReal.coe_mul_bot_of_pos (by norm_num), Ideal.tanh_bot, EReal.neg_bot, Ideal.exp_top, EReal.coe_add_top]
    have h1 : ((1 : ℝ) : EReal) + -1 = 0 := by rw [show (-1 : EReal) = ((-1 : ℝ) : EReal) by simp, ← EReal.coe_add]; norm_num
    have h2 : Ideal.div ((1 : ℝ) : EReal) ⊤ = 0 := by simp [Ideal.div]
    rw [h1, h2]
  | top =>
    rw [EReal.coe_mul_top_of_pos (by norm_num), Ideal.tanh_top, EReal.neg_top, Ideal.exp_bot, add_zero, Ideal.div_coe one_ne_zero]
    have h1 : ((1 : ℝ) : EReal) + 1 = ((2 : ℝ) : EReal) := by norm_cast
    rw [h1, EReal.top_mul_coe_of_pos (by norm_num), ← EReal.coe_mul, EReal.top_mul_coe_of_pos (by norm_num)]
  | coe r =>
    have hp : 0 < 1 + Real.exp (-r) := by positivity
    have e : (1 / 2 * r) * (1 + Real.tanh (1 / 2 * r)) = r * (1 * (1 / (1 + Real.exp (-r)))) := by
      rw [Real.tanh_eq_sinh_div_cosh, Real.sinh_eq, Real.cosh_eq]
      have h1 : Real.exp (-r) = Real.exp (-(1 / 2 * r)) * Real.exp (-(1 / 2 * r)) := by rw [← Real.exp_add]; congr 1; ring
      have h2 : Real.exp (1 / 2 * r) * Real.exp (-(1 / 2 * r)) = 1 := by rw [← Real.exp_add]; simp
      have p1 := Real.exp_pos (1 / 2 * r)
      have p2 := Real.exp_pos (-(1 / 2 * r))
      rw [h1] at hp ⊢
      generalize Real.exp (1 / 2 * r) = a at *
      generalize Real.exp (-(1 / 2 * r)) = b at *
      have p3 : a + b ≠ 0 := by positivity
      have p4 : 1 + b * b ≠ 0 := hp.ne'
      field_simp
      linear_combination (2 * r * b) * h2
    have hd : Ideal.div ((1 : ℝ) : EReal) ((1 : ℝ) + Ideal.exp (-(r : EReal))) = ((1 * (1 / (1 + Real.exp (-r))) : ℝ) : EReal) := by
      rw [← EReal.coe_neg, Ideal.exp_coe, ← EReal.coe_add, Ideal.div_coe hp.ne', ← EReal.coe_mul]
    rw [hd, ← EReal.coe_mul, Ideal.tanh_coe, ← EReal.coe_add, ← EReal.coe_mul, e, EReal.coe_mul]

end Cert.Kernel2Ideal.Mix

end
-- ==== Proof.MixVal.lean ====
module

public import proofs.«01_k».proof.Proof.MixPieces
public import proofs.«01_k».proof.Proof.MixSpec
public import Idealize.ShloMosaic.Lib.Pipeline.ReadBack

@[expose] public section

set_option maxRecDepth 65536

noncomputable section

namespace Cert.Kernel2Ideal.Mix

open Cert.Kernel2Ideal Cert.Kernel2Ideal.Gen Idealize.ShloMosaic Idealize.ShloMosaic.TcCoe Idealize.ShloMosaic.ValueKit

/-! The payloads at an index, in the ideal numbers. -/

theorem rms_at (x : FVec Ideal S512x2048 .f32) (g : FVec Ideal S1x2048 .f32) (r : Fin 512) (d : Fin 2048) :
    k0_pay42 (F := Ideal) x g (ix2 r d) = rms (fun e => x (ix2 r e)) (fun e => g (ix2 (0 : Fin 1) e)) d := by
  unfold rms
  pointwise [k0_pay42]

theorem into_at (h : FVec Ideal S512x2048 .bf16) (w : FVec Ideal S1x2048x512 .bf16) (r j : Fin 512) :
    k0_pay49 (F := Ideal) h w (ix2 r j) = ∑ d : Fin 2048, h (ix2 r d) * w (ix3 (0 : Fin 1) d j) := by
  pointwise [k0_pay49]

theorem gelu_at (h : FVec Ideal S512x2048 .bf16) (w : FVec Ideal S1x2048x512 .bf16) (r j : Fin 512) :
    k0_pay51 (F := Ideal) (k0_pay50 h w) (ix2 r j) = gelu (∑ d : Fin 2048, h (ix2 r d) * w (ix3 (0 : Fin 1) d j)) := by
  unfold gelu cubic
  pointwise [k0_pay51, k0_pay50, k0_pay49]

theorem silu_at (h : FVec Ideal S512x2048 .bf16) (w : FVec Ideal S1x2048x512 .bf16) (o : FVec Ideal S512x512 .bf16) (r j : Fin 512) :
    k0_pay60 (F := Ideal) (k0_pay59 h w o) (ix2 r j) = silu (∑ d : Fin 2048, h (ix2 r d) * w (ix3 (0 : Fin 1) d j)) * o (ix2 r j) := by
  unfold silu
  pointwise [k0_pay60, k0_pay59]

theorem mix_at (w : FVec Ideal S1x128x128 .bf16) (v : FVec Ideal S128x256 .bf16) (b : FVec Ideal S128x256 .f32) (o : FVec Ideal S128x256 .bf16)
    (i : Fin 128) (e : Fin 256) :
    k0_pay135 (F := Ideal) w v b o (ix2 i e) = ((∑ j : Fin 128, w (ix3 (0 : Fin 1) i j) * v (ix2 j e)) + b (ix2 i e)) * o (ix2 i e) := by
  pointwise [k0_pay135]

theorem bias_at (b : FVec Ideal S1x128 .f32) (i j : Fin 128) : k0_pay8 (F := Ideal) b (ix2 i j) = b (ix2 (0 : Fin 1) i) := by
  pointwise [k0_pay8, k0_pay7]

/-- A word shifted right by half its width twice is zero. -/
theorem shift_zero (x : BitVec 32) : (x >>> 16) >>> 16 = 0#32 := by
  apply BitVec.eq_of_toNat_eq
  have h := x.isLt
  simp only [BitVec.toNat_ushiftRight, Nat.shiftRight_eq_div_pow, BitVec.toNat_ofNat]
  omega

/-- Pieces that are the same value everywhere, laid end to end. -/
theorem concat_same {α : Type} (t : Shape) (a : Fin t.rank) (xs : List ((s : Shape) × (s.Idx → α)))
    (h : Shape.Concatenates (xs.map (·.1)) t a) (z : α) (hz : ∀ p ∈ xs, ∀ i, p.2 i = z) (j : t.Idx) : concatenate t a xs h j = z := by
  unfold concatenate
  exact hz _ (List.getElem_mem _) _

/-- The strip of zeros made of any words. -/
def strip (a : IVec S16x128 32) : FVec Ideal S16x2048 .bf16 :=
  have z : FVec Ideal S16x128 .bf16 := sitofp .bf16 (shrui (shrui a (broadcast S16x128 16#32)) (broadcast S16x128 16#32))
  concatenate S16x2048 1 [⟨S16x128, z⟩, ⟨S16x128, z⟩, ⟨S16x128, z⟩, ⟨S16x128, z⟩, ⟨S16x128, z⟩, ⟨S16x128, z⟩, ⟨S16x128, z⟩, ⟨S16x128, z⟩,
    ⟨S16x128, z⟩, ⟨S16x128, z⟩, ⟨S16x128, z⟩, ⟨S16x128, z⟩, ⟨S16x128, z⟩, ⟨S16x128, z⟩, ⟨S16x128, z⟩, ⟨S16x128, z⟩]
    concatenates_S16x128_S16x128_S16x128_S16x128_S16x128_S16x128_S16x128_S16x128_S16x128_S16x128_S16x128_S16x128_S16x128_S16x128_S16x128_S16x128_S16x2048_d1

theorem strip_zero (a : IVec S16x128 32) (i : S16x2048.Idx) : strip a i = (0 : EReal) := by
  unfold strip
  refine concat_same _ _ _ _ (0 : EReal) (fun p hp i => ?_) i
  simp only [List.mem_cons, List.not_mem_nil, or_false, or_self] at hp
  subst hp
  show FloatOps.sitofp (F := Ideal) .bf16 ((shrui (shrui a (broadcast S16x128 16#32)) (broadcast S16x128 16#32)) i) = (0 : EReal)
  have e : (shrui (shrui a (broadcast S16x128 16#32)) (broadcast S16x128 16#32)) i = 0#32 := shift_zero (a i)
  rw [e]
  show (((0#32 : BitVec 32).toInt : ℝ) : EReal) = 0
  simp

theorem strip_layer (z v : FVec Ideal S16x2048 .bf16) (g b : FVec Ideal S1x2048 .f32) (hz : ∀ i, z i = (0 : EReal)) (r : Fin 16) (e : Fin 2048) :
    k0_pay132 (F := Ideal) z v g b (ix2 r e)
      = layer (fun e => v (ix2 r e)) (fun e => g (ix2 (0 : Fin 1) e)) (fun e => b (ix2 (0 : Fin 1) e)) e := by
  unfold layer mean
  pointwise [k0_pay132]
  simp only [hz, add_zero]

theorem layer_at (a : IVec S16x128 32) (v : FVec Ideal S16x2048 .bf16) (g b : FVec Ideal S1x2048 .f32) (r : Fin 16) (e : Fin 2048) :
    k0_pay73 (F := Ideal) a 16#32 v g b (ix2 r e)
      = layer (fun e => v (ix2 r e)) (fun e => g (ix2 (0 : Fin 1) e)) (fun e => b (ix2 (0 : Fin 1) e)) e :=
  (show k0_pay73 (F := Ideal) a 16#32 v g b (ix2 r e) = k0_pay132 (F := Ideal) (strip a) v g b (ix2 r e) from rfl).trans
    (strip_layer (strip a) v g b (strip_zero a) r e)

/-! The mask. -/

theorem row_chunk (i j : Fin 128) : k0_pay2 (ix2 i j) = BitVec.ofNat 32 (i.val / 64) := by
  pointwise [k0_pay2]
  revert i; decide +kernel

theorem col_chunk (i j : Fin 128) : k0_pay5 k0_pay3 k0_pay4 (ix2 i j) = BitVec.ofNat 32 (j.val / 64) := by
  pointwise [k0_pay5, k0_pay3, k0_pay4]
  revert j; decide +kernel

theorem mask_at (s : FVec Ideal S1x128x128 .f32) (i j : Fin 128) :
    k0_pay6 (F := Ideal) k0_pay2 k0_pay3 k0_pay4 s (ix3 (0 : Fin 1) i j) = if j.val / 64 ≤ i.val / 64 then s (ix3 (0 : Fin 1) i j) else (0 : EReal) := by
  pointwise [k0_pay6]
  rw [row_chunk, col_chunk]
  obtain hi | hi : i.val / 64 = 0 ∨ i.val / 64 = 1 := by omega
  · obtain hj | hj : j.val / 64 = 0 ∨ j.val / 64 = 1 := by omega
    · rw [hi, hj]; rfl
    · rw [hi, hj]; rfl
  · obtain hj | hj : j.val / 64 = 0 ∨ j.val / 64 = 1 := by omega
    · rw [hi, hj]; rfl
    · rw [hi, hj]; rfl

end Cert.Kernel2Ideal.Mix

end
-- ==== Proof.MixPoint.lean ====
module

public import proofs.«01_k».proof.Proof.MixVal

@[expose] public section

set_option maxRecDepth 65536

noncomputable section

namespace Cert.Kernel2Ideal.Mix

open Cert.Kernel2Ideal Cert.Kernel2Ideal.Gen Idealize.ShloMosaic Idealize.ShloMosaic.TcCoe Idealize.ShloMosaic.ValueKit

/-! What a grid point's writes hold at an index, in the ideal numbers. -/

/-- The last of the pieces that holds an index is the one read there. -/
theorem canon_upto {s : Shape} {e : EltTy} (p : ℕ → List (View.Piece (Elt Ideal) s e) → View.Piece (Elt Ideal) s e) (q : View.Piece (Elt Ideal) s e) (k : ℕ)
    (hq : p k (upto p k) = q) (y : s.Idx) (x : q.1.shape.Idx) (hy : q.1.emb x = y) :
    ∀ K, k < K → (∀ k', k < k' → k' < K → y ∉ (p k' (upto p k')).1.set) → View.canon (upto p K) y = q.2 x
  | 0, h, _ => absurd h (Nat.not_lt_zero _)
  | K + 1, h, hm => by
    rcases Nat.lt_succ_iff_lt_or_eq.1 h with h | h
    · exact (View.canon_cons_of_not_mem _ _ (hm K h (Nat.lt_succ_self K))).trans
        (canon_upto p q k hq y x hy K h fun k' h1 h2 => hm k' h1 (Nat.lt_succ_of_lt h2))
    · subst h; subst hy
      show View.canon (p k (upto p k) :: upto p k) _ = _
      rw [hq]
      exact View.canon_cons_emb q.1 q.2 _ x

theorem emb_col (n : ℕ) (r j : Fin 512) : (rCol n).emb (ix2 r j) = (ix2 r (⟨512 * (n % 4) + j.val, by omega⟩ : Fin 2048) : S512x2048.Idx) := by
  funext a; apply Fin.ext
  obtain ⟨_ | _ | a, ha⟩ := a
  · show 0 + 1 * r.val = r.val; omega
  · show 512 * (n % 4) + 1 * j.val = 512 * (n % 4) + j.val; omega
  · exact absurd ha (by simp)
theorem emb_strip (k : ℕ) (r : Fin 16) (c : Fin 2048) : (rStrip k).emb (ix2 r c) = (ix2 (⟨16 * (k % 32) + r.val, by omega⟩ : Fin 512) c : S512x2048.Idx) := by
  funext a; apply Fin.ext
  obtain ⟨_ | _ | a, ha⟩ := a
  · show 16 * (k % 32) + 1 * r.val = 16 * (k % 32) + r.val; omega
  · show 0 + 1 * c.val = c.val; omega
  · exact absurd ha (by simp)
theorem emb_tile (k : ℕ) (i : Fin 128) (e : Fin 256) :
    (rTile k).emb (ix2 i e) = (ix2 (⟨128 * (k / 8 % 4) + i.val, by omega⟩ : Fin 512) (⟨256 * (k % 8) + e.val, by omega⟩ : Fin 2048) : S512x2048.Idx) := by
  funext a; apply Fin.ext
  obtain ⟨_ | _ | a, ha⟩ := a
  · show 128 * (k / 8 % 4) + 1 * i.val = 128 * (k / 8 % 4) + i.val; omega
  · show 256 * (k % 8) + 1 * e.val = 256 * (k % 8) + e.val; omega
  · exact absurd ha (by simp)
theorem not_col (n : ℕ) (r : Fin 512) (c : Fin 2048) (h : n % 4 ≠ c.val / 512) : (ix2 r c : S512x2048.Idx) ∉ (rCol n).set := fun hm => by
  have h1 : 512 * (n % 4) ≤ c.val ∧ c.val < 512 * (n % 4) + 512 := (Rect.mem_set_unit.1 hm) 1
  omega
theorem not_strip (k : ℕ) (r : Fin 512) (c : Fin 2048) (h : k % 32 ≠ r.val / 16) : (ix2 r c : S512x2048.Idx) ∉ (rStrip k).set := fun hm => by
  have h1 : 16 * (k % 32) ≤ r.val ∧ r.val < 16 * (k % 32) + 16 := (Rect.mem_set_unit.1 hm) 0
  omega
theorem not_tile (k : ℕ) (r : Fin 512) (c : Fin 2048) (h : k % 32 ≠ 8 * (r.val / 128) + c.val / 256) : (ix2 r c : S512x2048.Idx) ∉ (rTile k).set := fun hm => by
  have h0 : 128 * (k / 8 % 4) ≤ r.val ∧ r.val < 128 * (k / 8 % 4) + 128 := (Rect.mem_set_unit.1 hm) 0
  have h1 : 256 * (k % 8) ≤ c.val ∧ c.val < 256 * (k % 8) + 256 := (Rect.mem_set_unit.1 hm) 1
  omega

/-- The weight slabs, by slab, row and column. -/
abbrev slabsOf (x2 : FVec Ideal S12x2048x512 .bf16) : Fin 12 → Fin 2048 → Fin 512 → EReal := fun n d j => x2 (ix3 n d j)
/-- A row of the block, normed. -/
abbrev rowOf (x0 : FVec Ideal S512x2048 .f32) (x1 : FVec Ideal S2x2048 .f32) (r : Fin 512) : Fin 2048 → EReal :=
  rms (fun e => x0 (ix2 r e)) (fun e => x1 (ix2 (1 : Fin 2) e))
abbrev flatOf (x : FVec Ideal S1x2048 .f32) : Fin 2048 → EReal := fun e => x (ix2 (0 : Fin 1) e)

section
variable (arg1 : Memref sig .tc .vmem S512x2048 .f32) (harg1 : arg1.IsWhole) (arg2 : Memref sig .tc .vmem S2x2048 .f32) (harg2 : arg2.IsWhole)
  (arg3 : Memref sig .tc .vmem S12x2048x512 .bf16) (harg3 : arg3.IsWhole) (arg5 : Memref sig .tc .vmem S1x2048 .f32) (harg5 : arg5.IsWhole)
  (arg6 : Memref sig .tc .vmem S1x2048 .f32) (harg6 : arg6.IsWhole)
  (arg13 arg14 arg15 : Memref sig .tc .vmem S512x2048 .bf16)
  (x0 : FVec Ideal S512x2048 .f32) (x1 : FVec Ideal S2x2048 .f32) (x2 : FVec Ideal S12x2048x512 .bf16) (x4 : FVec Ideal S1x2048 .f32) (x5 : FVec Ideal S1x2048 .f32)

theorem hid_at (r : Fin 512) (d : Fin 2048) : hid (F := Ideal) arg1 harg1 arg2 harg2 x0 x1 (ix2 r d) = rowOf x0 x1 r d := by
  refine (rms_at _ _ r d).trans ?_
  rw [View.readAt_eq_ld, View.readAt_eq_ld, harg1.read_unread, harg2.read_unread]
  refine congrArg₂ (fun a b => rms a b d) (funext fun e => congrArg x0 ?_) (funext fun e => congrArg x1 ?_)
  · funext a; apply Fin.ext
    obtain ⟨_ | _ | a, ha⟩ := a
    · show 0 + 1 * r.val = r.val; omega
    · show 0 + 1 * e.val = e.val; omega
    · exact absurd ha (by simp)
  · funext a; apply Fin.ext
    obtain ⟨_ | _ | a, ha⟩ := a
    · rfl
    · show 0 + 1 * e.val = e.val; omega
    · exact absurd ha (by simp)

theorem slab_at (n : ℕ) (d : Fin 2048) (j : Fin 512) :
    slab (F := Ideal) arg3 harg3 x2 n (ix3 (0 : Fin 1) d j) = slabsOf x2 (⟨n % 12, by omega⟩ : Fin 12) d j := by
  unfold slab
  rw [View.readAt_eq_ld, harg3.read_unread]
  refine congrArg x2 ?_
  funext a; apply Fin.ext
  obtain ⟨_ | _ | _ | a, ha⟩ := a
  · show n % 12 + 1 * 0 = n % 12; omega
  · show 0 + 1 * d.val = d.val; omega
  · show 0 + 1 * j.val = j.val; omega
  · exact absurd ha (by simp)

theorem sum_at (n : ℕ) (r j : Fin 512) : ∑ d : Fin 2048, hid (F := Ideal) arg1 harg1 arg2 harg2 x0 x1 (ix2 r d) * slab (F := Ideal) arg3 harg3 x2 n (ix3 (0 : Fin 1) d j)
    = into (slabsOf x2) (rowOf x0 x1 r) (⟨n % 12, by omega⟩ : Fin 12) j :=
  Finset.sum_congr rfl fun d _ => congrArg₂ (· * ·) (hid_at arg1 harg1 arg2 harg2 x0 x1 r d) (slab_at arg3 harg3 x2 n d j)

theorem act_at (n : ℕ) (r j : Fin 512) : act (F := Ideal) arg1 harg1 arg2 harg2 arg3 harg3 x0 x1 x2 n (ix2 r j)
    = gelu (into (slabsOf x2) (rowOf x0 x1 r) (⟨n % 12, by omega⟩ : Fin 12) j) :=
  (gelu_at _ _ r j).trans (congrArg gelu (sum_at arg1 harg1 arg2 harg2 arg3 harg3 x0 x1 x2 n r j))

/-- The values' gelu. -/
theorem va_at (r : Fin 512) (c : Fin 2048) :
    View.canon (vaL (F := Ideal) arg1 harg1 arg2 harg2 arg3 harg3 x0 x1 x2) (ix2 r c) = vals (slabsOf x2) (rowOf x0 x1 r) c := by
  refine (canon_upto (vaPiece (F := Ideal) arg1 harg1 arg2 harg2 arg3 harg3 x0 x1 x2) _ (c.val / 512) rfl (ix2 r c)
    (ix2 r (⟨c.val % 512, by omega⟩ : Fin 512) : S512x512.Idx) ?_ 4 (by omega) fun k' h1 h2 => not_col k' r c (by omega)).trans ?_
  · refine (emb_col (c.val / 512) r (⟨c.val % 512, by omega⟩ : Fin 512)).trans (congrArg (ix2 r) (Fin.ext ?_))
    show 512 * (c.val / 512 % 4) + c.val % 512 = c.val; omega
  · refine (act_at arg1 harg1 arg2 harg2 arg3 harg3 x0 x1 x2 (4 + c.val / 512) r (⟨c.val % 512, by omega⟩ : Fin 512)).trans ?_
    refine congrArg (fun n => gelu (into (slabsOf x2) (rowOf x0 x1 r) n (⟨c.val % 512, by omega⟩ : Fin 512))) (Fin.ext ?_)
    show (4 + c.val / 512) % 12 = 4 + c.val / 512; omega

theorem tg_lt (n : ℕ) (L : Writes Ideal) (h : n < 4) :
    tgPiece (F := Ideal) arg1 harg1 arg2 harg2 arg3 harg3 arg15 x0 x1 x2 n L = tgFirst arg1 harg1 arg2 harg2 arg3 harg3 x0 x1 x2 n L := by
  unfold tgPiece
  rw [show Nat.blt n 4 = true from Nat.ble_eq_true_of_le h]
  rfl
theorem tg_ge (n : ℕ) (L : Writes Ideal) (h : ¬n < 4) :
    tgPiece (F := Ideal) arg1 harg1 arg2 harg2 arg3 harg3 arg15 x0 x1 x2 n L = tgSecond arg1 harg1 arg2 harg2 arg3 harg3 arg15 x0 x1 x2 n L := by
  unfold tgPiece
  rw [show Nat.blt n 4 = false from Bool.eq_false_iff.2 fun e => h (Nat.le_of_ble_eq_true e)]
  rfl
theorem tg_rect (n : ℕ) (L : Writes Ideal) : (tgPiece (F := Ideal) arg1 harg1 arg2 harg2 arg3 harg3 arg15 x0 x1 x2 n L).1 = rCol n := by
  by_cases h : n < 4
  · rw [tg_lt arg1 harg1 arg2 harg2 arg3 harg3 arg15 x0 x1 x2 n L h]; rfl
  · rw [tg_ge arg1 harg1 arg2 harg2 arg3 harg3 arg15 x0 x1 x2 n L h]; rfl

/-- The multiplier's gelu, until its column block is written again. -/
theorem tg_first (r : Fin 512) (c : Fin 2048) (K : ℕ) (h : c.val / 512 < K) (h' : K ≤ c.val / 512 + 4) :
    View.canon (tgL (F := Ideal) arg1 harg1 arg2 harg2 arg3 harg3 arg15 x0 x1 x2 K) (ix2 r c) = first (slabsOf x2) (rowOf x0 x1 r) c := by
  refine (canon_upto (tgPiece (F := Ideal) arg1 harg1 arg2 harg2 arg3 harg3 arg15 x0 x1 x2) _ (c.val / 512)
    (tg_lt arg1 harg1 arg2 harg2 arg3 harg3 arg15 x0 x1 x2 _ _ (by omega)) (ix2 r c)
    (ix2 r (⟨c.val % 512, by omega⟩ : Fin 512) : S512x512.Idx) ?_ K h fun k' h1 h2 => ?_).trans ?_
  · refine (emb_col (c.val / 512) r (⟨c.val % 512, by omega⟩ : Fin 512)).trans (congrArg (ix2 r) (Fin.ext ?_))
    show 512 * (c.val / 512 % 4) + c.val % 512 = c.val; omega
  · rw [tg_rect]
    exact not_col k' r c (by omega)
  · refine (act_at arg1 harg1 arg2 harg2 arg3 harg3 x0 x1 x2 (c.val / 512) r (⟨c.val % 512, by omega⟩ : Fin 512)).trans ?_
    refine congrArg (fun n => gelu (into (slabsOf x2) (rowOf x0 x1 r) n (⟨c.val % 512, by omega⟩ : Fin 512))) (Fin.ext ?_)
    show c.val / 512 % 12 = c.val / 512; omega

/-- The multiplier's gelu times the gate. -/
theorem tg_at (r : Fin 512) (c : Fin 2048) :
    View.canon (tgL (F := Ideal) arg1 harg1 arg2 harg2 arg3 harg3 arg15 x0 x1 x2 8) (ix2 r c)
      = gate (slabsOf x2) (rowOf x0 x1 r) c * first (slabsOf x2) (rowOf x0 x1 r) c := by
  refine (canon_upto (tgPiece (F := Ideal) arg1 harg1 arg2 harg2 arg3 harg3 arg15 x0 x1 x2) _ (c.val / 512 + 4)
    (tg_ge arg1 harg1 arg2 harg2 arg3 harg3 arg15 x0 x1 x2 _ _ (by omega)) (ix2 r c)
    (ix2 r (⟨c.val % 512, by omega⟩ : Fin 512) : S512x512.Idx) ?_ 8 (by omega) fun k' h1 h2 => ?_).trans ?_
  · refine (emb_col (c.val / 512 + 4) r (⟨c.val % 512, by omega⟩ : Fin 512)).trans (congrArg (ix2 r) (Fin.ext ?_))
    show 512 * ((c.val / 512 + 4) % 4) + c.val % 512 = c.val; omega
  · rw [tg_rect]
    exact not_col k' r c (by omega)
  · refine (silu_at _ _ _ r (⟨c.val % 512, by omega⟩ : Fin 512)).trans (congrArg₂ (· * ·) ?_ ?_)
    · refine (congrArg silu (sum_at arg1 harg1 arg2 harg2 arg3 harg3 x0 x1 x2 (c.val / 512 + 4 + 4) r (⟨c.val % 512, by omega⟩ : Fin 512))).trans ?_
      refine congrArg (fun n => silu (into (slabsOf x2) (rowOf x0 x1 r) n (⟨c.val % 512, by omega⟩ : Fin 512))) (Fin.ext ?_)
      show (c.val / 512 + 4 + 4) % 12 = 8 + c.val / 512; omega
    · rw [View.readCov_eq_canon']
      have hy : (rCol (c.val / 512 + 4)).toLoadRect.idx (ix2 r (⟨c.val % 512, by omega⟩ : Fin 512)) = (ix2 r c : S512x2048.Idx) :=
        (emb_col (c.val / 512 + 4) r (⟨c.val % 512, by omega⟩ : Fin 512)).trans (congrArg (ix2 r) (Fin.ext (by
          show 512 * ((c.val / 512 + 4) % 4) + c.val % 512 = c.val; omega)))
      exact (congrArg _ hy).trans (tg_first arg1 harg1 arg2 harg2 arg3 harg3 arg15 x0 x1 x2 r c (c.val / 512 + 4) (by omega) le_rfl)

/-- The values, layer-normed. -/
theorem vn_at (r : Fin 512) (c : Fin 2048) :
    View.canon (vnL (F := Ideal) arg1 harg1 arg2 harg2 arg3 harg3 arg5 harg5 arg6 harg6 arg13 x0 x1 x2 x4 x5) (ix2 r c)
      = layer (vals (slabsOf x2) (rowOf x0 x1 r)) (flatOf x4) (flatOf x5) c := by
  have hr : ∀ e : Fin 2048, (ix2 (⟨16 * (r.val / 16 % 32) + r.val % 16, by omega⟩ : Fin 512) e : S512x2048.Idx) = ix2 r e := fun e =>
    congrArg (fun r : Fin 512 => (ix2 r e : S512x2048.Idx)) (Fin.ext (by show 16 * (r.val / 16 % 32) + r.val % 16 = r.val; omega))
  refine (canon_upto (vnPiece (F := Ideal) arg1 harg1 arg2 harg2 arg3 harg3 arg5 harg5 arg6 harg6 arg13 x0 x1 x2 x4 x5) _ (r.val / 16) rfl (ix2 r c)
    (ix2 (⟨r.val % 16, by omega⟩ : Fin 16) c : S16x2048.Idx) ?_ 32 (by omega) fun k' h1 h2 => not_strip k' r c (by omega)).trans ?_
  · exact (emb_strip (r.val / 16) (⟨r.val % 16, by omega⟩ : Fin 16) c).trans (hr c)
  · refine (layer_at _ _ _ _ (⟨r.val % 16, by omega⟩ : Fin 16) c).trans ?_
    rw [View.readAt_eq_ld, View.readAt_eq_ld, harg5.read_unread, harg6.read_unread, View.readCov_eq_canon']
    have hg : ∀ x : FVec Ideal S1x2048 .f32, (fun e : Fin 2048 => x ((Rect.unit (s := S1x2048) ![0, 0] S1x2048.size inb_S1x2048_S1x2048_0_0).toLoadRect.idx (ix2 (0 : Fin 1) e))) = flatOf x := fun x =>
      funext fun e => congrArg x (by
        funext a; apply Fin.ext
        obtain ⟨_ | _ | a, ha⟩ := a
        · rfl
        · show 0 + 1 * e.val = e.val; omega
        · exact absurd ha (by simp))
    refine (congrArg₂ (fun a b => layer _ a b c) (hg x4) (hg x5)).trans ?_
    refine congrArg (fun v => layer v (flatOf x4) (flatOf x5) c) (funext fun e => ?_)
    exact (congrArg (View.canon _) ((emb_strip (r.val / 16) (⟨r.val % 16, by omega⟩ : Fin 16) e).trans (hr e))).trans
      (va_at arg1 harg1 arg2 harg2 arg3 harg3 x0 x1 x2 r e)

/-- The result's block, under any spatial weights and biases. -/
theorem z_at (W : ℕ → FVec Ideal S1x128x128 .bf16) (B : ℕ → FVec Ideal S128x256 .f32) (s : Fin 8 → Fin 128 → Fin 128 → EReal) (b : Fin 8 → Fin 128 → EReal)
    (hW : ∀ k i j, W k (ix3 (0 : Fin 1) i j) = masked s (⟨k % 8, by omega⟩ : Fin 8) i j) (hB : ∀ k i e, B k (ix2 i e) = b (⟨k % 8, by omega⟩ : Fin 8) i)
    (r : Fin 512) (c : Fin 2048) :
    View.canon (zL (F := Ideal) arg1 harg1 arg2 harg2 arg3 harg3 arg5 harg5 arg6 harg6 arg13 arg14 arg15 x0 x1 x2 x4 x5 W B) (ix2 r c)
      = mixed (slabsOf x2) (fun e => x1 (ix2 (1 : Fin 2) e)) (flatOf x4) (flatOf x5) s b
        (fun j e => x0 (ix2 (⟨128 * (r.val / 128) + j.val, by omega⟩ : Fin 512) e)) (⟨r.val % 128, by omega⟩ : Fin 128) c := by
  have hk : (8 * (r.val / 128) + c.val / 256) / 8 % 4 = r.val / 128 := by omega
  have hk' : (8 * (r.val / 128) + c.val / 256) % 8 = c.val / 256 := by omega
  have hi : ∀ i : Fin 128, (rTile (8 * (r.val / 128) + c.val / 256)).emb (ix2 i (⟨c.val % 256, by omega⟩ : Fin 256))
      = (ix2 (⟨128 * (r.val / 128) + i.val, by omega⟩ : Fin 512) c : S512x2048.Idx) := fun i =>
    (emb_tile _ i _).trans (congrArg₂ (fun (a : Fin 512) (b : Fin 2048) => (ix2 a b : S512x2048.Idx))
      (Fin.ext (by show 128 * ((8 * (r.val / 128) + c.val / 256) / 8 % 4) + i.val = 128 * (r.val / 128) + i.val; rw [hk]))
      (Fin.ext (by show 256 * ((8 * (r.val / 128) + c.val / 256) % 8) + c.val % 256 = c.val; omega)))
  have hr : (⟨128 * (r.val / 128) + r.val % 128, by omega⟩ : Fin 512) = r := Fin.ext (by show 128 * (r.val / 128) + r.val % 128 = r.val; omega)
  refine (canon_upto (zPiece (F := Ideal) arg1 harg1 arg2 harg2 arg3 harg3 arg5 harg5 arg6 harg6 arg13 arg14 arg15 x0 x1 x2 x4 x5 W B) _ (8 * (r.val / 128) + c.val / 256) rfl (ix2 r c)
    (ix2 (⟨r.val % 128, by omega⟩ : Fin 128) (⟨c.val % 256, by omega⟩ : Fin 256) : S128x256.Idx) ?_ 32 (by omega) fun k' h1 h2 => not_tile k' r c (by omega)).trans ?_
  · exact (hi (⟨r.val % 128, by omega⟩ : Fin 128)).trans (congrArg (fun a : Fin 512 => (ix2 a c : S512x2048.Idx)) hr)
  · refine (mix_at _ _ _ _ (⟨r.val % 128, by omega⟩ : Fin 128) (⟨c.val % 256, by omega⟩ : Fin 256)).trans ?_
    rw [View.readCov_eq_canon', View.readCov_eq_canon']
    have hG : (⟨(8 * (r.val / 128) + c.val / 256) % 8, by omega⟩ : Fin 8) = (⟨c.val / 256, by omega⟩ : Fin 8) := Fin.ext hk'
    refine congrArg₂ (· * ·) (congrArg₂ (· + ·) (Finset.sum_congr rfl fun j _ => congrArg₂ (· * ·) ?_ ?_) ?_) ?_
    · rw [hW, hG]
    · exact (congrArg (View.canon _) (hi j)).trans (vn_at arg1 harg1 arg2 harg2 arg3 harg3 arg5 harg5 arg6 harg6 arg13 x0 x1 x2 x4 x5 _ c)
    · rw [hB, hG]
    · refine (congrArg (View.canon _) (hi (⟨r.val % 128, by omega⟩ : Fin 128))).trans ?_
      exact tg_at arg1 harg1 arg2 harg2 arg3 harg3 arg15 x0 x1 x2 _ c
end

section
variable (arg7 : Memref sig .tc .vmem S8x128x128 .f32) (harg7 : arg7.IsWhole) (arg8 : Memref sig .tc .vmem S8x128 .f32) (harg8 : arg8.IsWhole)
  (x6 : FVec Ideal S8x128x128 .f32) (x7 : FVec Ideal S8x128 .f32)

/-- The masked spatial weights. -/
theorem wsm_at (g : Fin 8) (i j : Fin 128) :
    View.canon (upto (mixPiece (F := Ideal) arg7 harg7 x6) 8) (ix3 g i j) = masked (fun g i j => x6 (ix3 g i j)) g i j := by
  have hg : (rMix g.val).emb (ix3 (0 : Fin 1) i j) = (ix3 g i j : S8x128x128.Idx) := by
    funext a; apply Fin.ext
    obtain ⟨_ | _ | _ | a, ha⟩ := a
    · show g.val % 8 + 1 * 0 = g.val; omega
    · show 0 + 1 * i.val = i.val; omega
    · show 0 + 1 * j.val = j.val; omega
    · exact absurd ha (by simp)
  refine (canon_upto (mixPiece (F := Ideal) arg7 harg7 x6) _ g.val rfl (ix3 g i j) (ix3 (0 : Fin 1) i j : S1x128x128.Idx) hg 8 g.isLt fun k' h1 h2 hm => ?_).trans ?_
  · have hm' : (ix3 g i j : S8x128x128.Idx) ∈ (rMix k').set := hm
    have h0 : k' % 8 ≤ g.val ∧ g.val < k' % 8 + 1 := (Rect.mem_set_unit.1 hm') 0
    omega
  · refine (mask_at _ i j).trans ?_
    rw [View.readAt_eq_ld, harg7.read_unread]
    unfold masked
    exact congrArg (fun v => if j.val / 64 ≤ i.val / 64 then v else (0 : EReal)) (congrArg x6 hg)

/-- The biases, spread over the columns. -/
theorem bs_at (i : Fin 128) (c : Fin 2048) :
    View.canon (upto (biasPiece (F := Ideal) arg8 harg8 x7) 16) (ix2 i c) = x7 (ix2 (⟨c.val / 256, by omega⟩ : Fin 8) i) := by
  refine (canon_upto (biasPiece (F := Ideal) arg8 harg8 x7) _ (c.val / 128) rfl (ix2 i c) (ix2 i (⟨c.val % 128, by omega⟩ : Fin 128) : S128x128.Idx) ?_ 16 (by omega)
    fun k' h1 h2 hm => ?_).trans ?_
  · funext a; apply Fin.ext
    obtain ⟨_ | _ | a, ha⟩ := a
    · show 0 + 1 * i.val = i.val; omega
    · show 128 * (c.val / 128 % 16) + 1 * (c.val % 128) = c.val; omega
    · exact absurd ha (by simp)
  · have hm' : (ix2 i c : S128x2048.Idx) ∈ (rHalf k').set := hm
    have h0 : 128 * (k' % 16) ≤ c.val ∧ c.val < 128 * (k' % 16) + 128 := (Rect.mem_set_unit.1 hm') 1
    omega
  · refine (bias_at (View.readAt (Elt Ideal) arg8.view (rGroup (c.val / 128 / 2)).toLoadRect (harg8.unread x7)) i (⟨c.val % 128, by omega⟩ : Fin 128)).trans ?_
    rw [View.readAt_eq_ld, harg8.read_unread]
    refine congrArg x7 ?_
    funext a; apply Fin.ext
    obtain ⟨_ | _ | a, ha⟩ := a
    · show c.val / 128 / 2 % 8 + 1 * 0 = c.val / 256; omega
    · show 0 + 1 * i.val = i.val; omega
    · exact absurd ha (by simp)
end

end Cert.Kernel2Ideal.Mix

end
-- ==== Proof.MixOut.lean ====
module

public import proofs.«01_k».proof.Proof.MixPoint

@[expose] public section

set_option maxRecDepth 65536

noncomputable section

namespace Cert.Kernel2Ideal.Mix

open Cert.Kernel2Ideal Cert.Kernel2Ideal.Gen Idealize.ShloMosaic Idealize.ShloMosaic.TcCoe Idealize.ShloMosaic.ValueKit

/-! What a grid point leaves, in either case: the result's block, the weight's block, and the masked weights and biases kept. -/

/-- A tile of the result, of any writes to the normed values' and the multiplier's arrays. -/
def tileOf (arg14 arg15 : Memref sig .tc .vmem S512x2048 .bf16) (V T : Writes Ideal) (W : ℕ → FVec Ideal S1x128x128 .bf16) (B : ℕ → FVec Ideal S128x256 .f32)
    (k : ℕ) (L : Writes Ideal) : View.Piece (Elt Ideal) S512x2048 .bf16 :=
  ⟨rTile k, k0_pay135 (W k) (arg14.view.readCov V (rTile k).toLoadRect) (B k) (arg15.view.readCov T (rTile k).toLoadRect)⟩

theorem idx_mix (k : ℕ) (i j : Fin 128) : (rMix k).emb (ix3 (0 : Fin 1) i j) = (ix3 (⟨k % 8, by omega⟩ : Fin 8) i j : S8x128x128.Idx) := by
  funext a; apply Fin.ext
  obtain ⟨_ | _ | _ | a, ha⟩ := a
  · show k % 8 + 1 * 0 = k % 8; omega
  · show 0 + 1 * i.val = i.val; omega
  · show 0 + 1 * j.val = j.val; omega
  · exact absurd ha (by simp)
theorem idx_bias (k : ℕ) (i : Fin 128) (e : Fin 256) : (rBias k).emb (ix2 i e) = (ix2 i (⟨256 * (k % 8) + e.val, by omega⟩ : Fin 2048) : S128x2048.Idx) := by
  funext a; apply Fin.ext
  obtain ⟨_ | _ | a, ha⟩ := a
  · show 0 + 1 * i.val = i.val; omega
  · show 256 * (k % 8) + 1 * e.val = 256 * (k % 8) + e.val; omega
  · exact absurd ha (by simp)

section
variable (c : Dev nD) (i : grid0.Coords) (arg1 : Memref sig .tc .vmem S512x2048 .f32) (harg1 : arg1.IsWhole)
  (arg2 : Memref sig .tc .vmem S2x2048 .f32) (harg2 : arg2.IsWhole)
  (arg3 : Memref sig .tc .vmem S12x2048x512 .bf16) (harg3 : arg3.IsWhole)
  (arg4 : Memref sig .tc .vmem S128x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S8x128x128 .f32) (harg7 : arg7.IsWhole)
  (arg8 : Memref sig .tc .vmem S8x128 .f32) (harg8 : arg8.IsWhole)
  (arg9 : Memref sig .tc .vmem S512x2048 .bf16) (harg9 : arg9.IsWhole)
  (arg10 : Memref sig .tc .vmem S128x2048 .bf16) (harg10 : arg10.IsWhole)
  (arg11 : Memref sig .tc .vmem S8x128x128 .bf16) (harg11 : arg11.IsWhole)
  (arg12 : Memref sig .tc .vmem S128x2048 .f32) (harg12 : arg12.IsWhole)
  (arg13 : Memref sig .tc .vmem S512x2048 .bf16) (harg13 : arg13.IsWhole)
  (arg14 : Memref sig .tc .vmem S512x2048 .bf16) (harg14 : arg14.IsWhole)
  (arg15 : Memref sig .tc .vmem S512x2048 .bf16) (harg15 : arg15.IsWhole)
  (x0 : FVec Ideal S512x2048 .f32) (x1 : FVec Ideal S2x2048 .f32) (x2 : FVec Ideal S12x2048x512 .bf16) (x3 : FVec Ideal S128x2048 .f32) (x4 : FVec Ideal S1x2048 .f32)
  (x5 : FVec Ideal S1x2048 .f32) (x6 : FVec Ideal S8x128x128 .f32) (x7 : FVec Ideal S8x128 .f32) (xs0 : FVec Ideal S8x128x128 .bf16) (xs1 : FVec Ideal S128x2048 .f32)

set_option maxHeartbeats 2000000 in
theorem tilesA (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1
    = upto (tileOf arg14 arg15 (kernelRun0_A.sl.HS3_32 c arg1 harg1 arg2 harg2 arg3 harg3 arg5 harg5 arg6 harg6 arg13 x0 x1 x2 x4 x5) (kernelRun0_A.sl.HS4_8 c arg1 harg1 arg2 harg2 arg3 harg3 arg15 x0 x1 x2)
      (fun k => arg11.view.readCov (Val := Elt Ideal) (kernelRun0_A.sl.HS0_8 c arg7 harg7 x6) (rMix k).toLoadRect)
      (fun k => arg12.view.readCov (Val := Elt Ideal) (kernelRun0_A.sl.HS1_16 c arg8 harg8 x7) (rBias k).toLoadRect)) 32 := by
  iterate 32 refine upto_step _ _ _ _ ?_ rfl
  rfl
set_option maxHeartbeats 2000000 in
theorem tilesB (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1
    = upto (tileOf arg14 arg15 (kernelRun0_B.sl.HS3_32 c arg1 harg1 arg2 harg2 arg3 harg3 arg5 harg5 arg6 harg6 arg13 x0 x1 x2 x4 x5) (kernelRun0_B.sl.HS4_8 c arg1 harg1 arg2 harg2 arg3 harg3 arg15 x0 x1 x2)
      (fun k => View.readAt (Elt Ideal) arg11.view (rMix k).toLoadRect (harg11.unread xs0))
      (fun k => View.readAt (Elt Ideal) arg12.view (rBias k).toLoadRect (harg12.unread xs1))) 32 := by
  iterate 32 refine upto_step _ _ _ _ ?_ rfl
  rfl

set_option maxHeartbeats 2000000 in
theorem keptA_0 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 = upto (mixPiece arg7 harg7 x6) 8 := by
  iterate 8 refine upto_step _ _ _ _ ?_ rfl
  rfl
set_option maxHeartbeats 2000000 in
theorem keptA_1 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 = upto (biasPiece arg8 harg8 x7) 16 := by
  iterate 16 refine upto_step _ _ _ _ ?_ rfl
  rfl

/-- The result's block at a point that makes the masked weights and the biases. -/
theorem outA_8 (hc0 : cond0_0 i) (r : Fin 512) (e : Fin 2048) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r e)
    = mixed (slabsOf x2) (fun e => x1 (ix2 (1 : Fin 2) e)) (flatOf x4) (flatOf x5) (fun g i j => x6 (ix3 g i j)) (fun g i => x7 (ix2 g i))
        (fun j e => x0 (ix2 (⟨128 * (r.val / 128) + j.val, by omega⟩ : Fin 512) e)) (⟨r.val % 128, by omega⟩ : Fin 128) e := by
  refine (View.read_writes_junk_apply_eq_canon VO0_8 _ _).trans ?_
  rw [tilesA, vnA, tgA, mixA, biasA]
  refine z_at arg1 harg1 arg2 harg2 arg3 harg3 arg5 harg5 arg6 harg6 arg13 arg14 arg15 x0 x1 x2 x4 x5 _ _ (fun g i j => x6 (ix3 g i j)) (fun g i => x7 (ix2 g i)) (fun k i j => ?_) (fun k i e => ?_) r e
  · rw [View.readCov_eq_canon']
    exact (congrArg (View.canon _) (idx_mix k i j)).trans (wsm_at arg7 harg7 x6 _ i j)
  · rw [View.readCov_eq_canon']
    refine ((congrArg (View.canon _) (idx_bias k i e)).trans (bs_at arg8 harg8 x7 i _)).trans ?_
    refine congrArg (fun g : Fin 8 => x7 (ix2 g i)) (Fin.ext ?_)
    show (256 * (k % 8) + e.val) / 256 = k % 8; omega

/-- The result's block at a point that keeps them. -/
theorem outB_8 (hc0 : ¬cond0_0 i) (h0 : ∀ g i j, xs0 (ix3 g i j) = masked (fun g i j => x6 (ix3 g i j)) g i j)
    (h1 : ∀ (i : Fin 128) (e : Fin 2048), xs1 (ix2 i e) = x7 (ix2 (⟨e.val / 256, by omega⟩ : Fin 8) i)) (r : Fin 512) (e : Fin 2048) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 (ix2 r e)
    = mixed (slabsOf x2) (fun e => x1 (ix2 (1 : Fin 2) e)) (flatOf x4) (flatOf x5) (fun g i j => x6 (ix3 g i j)) (fun g i => x7 (ix2 g i))
        (fun j e => x0 (ix2 (⟨128 * (r.val / 128) + j.val, by omega⟩ : Fin 512) e)) (⟨r.val % 128, by omega⟩ : Fin 128) e := by
  refine (View.read_writes_junk_apply_eq_canon VO0_8 _ _).trans ?_
  rw [tilesB, vnB, tgB]
  refine z_at arg1 harg1 arg2 harg2 arg3 harg3 arg5 harg5 arg6 harg6 arg13 arg14 arg15 x0 x1 x2 x4 x5 _ _ (fun g i j => x6 (ix3 g i j)) (fun g i => x7 (ix2 g i)) (fun k i j => ?_) (fun k i e => ?_) r e
  · rw [View.readAt_eq_ld, harg11.read_unread]
    exact (congrArg xs0 (idx_mix k i j)).trans (h0 _ i j)
  · rw [View.readAt_eq_ld, harg12.read_unread]
    refine ((congrArg xs1 (idx_bias k i e)).trans (h1 i _)).trans ?_
    refine congrArg (fun g : Fin 8 => x7 (ix2 g i)) (Fin.ext ?_)
    show (256 * (k % 8) + e.val) / 256 = k % 8; omega

theorem cast_at (v : FVec Ideal S128x2048 .f32) (j : S128x2048.Idx) : k0_pay41 (F := Ideal) v j = v j := rfl

/-- The weight's block, whichever the case. -/
theorem outA_9 (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = x3 := by
  funext y
  frame_out
  exact cast_at x3 y
theorem outB_9 (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 = x3 := by
  funext y
  frame_out
  exact cast_at x3 y

theorem soutA_0 (hc0 : cond0_0 i) (g : Fin 8) (a b : Fin 128) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 g a b)
    = masked (fun g i j => x6 (ix3 g i j)) g a b := by
  refine (View.read_writes_junk_apply_eq_canon VS0_0 _ _).trans ?_
  rw [keptA_0]
  exact wsm_at arg7 harg7 x6 g a b
theorem soutA_1 (hc0 : cond0_0 i) (a : Fin 128) (e : Fin 2048) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 a e)
    = x7 (ix2 (⟨e.val / 256, by omega⟩ : Fin 8) a) := by
  refine (View.read_writes_junk_apply_eq_canon VS0_1 _ _).trans ?_
  rw [keptA_1]
  exact bs_at arg8 harg8 x7 a e
end

end Cert.Kernel2Ideal.Mix

end
-- ==== Proof.MixFinal.lean ====
module

public import proofs.«01_k».proof.Proof.MixOut
public import proofs.«01_k».proof.Proof.Gen.Kernel2Ideal.Value

@[expose] public section

set_option maxRecDepth 16384

noncomputable section

namespace Cert.Kernel2Ideal.Mix

open Cert.Kernel2Ideal Cert.Kernel2Ideal.Gen Idealize.ShloMosaic Idealize.ShloMosaic.TcCoe Idealize.ShloMosaic.ValueKit

/-! The kernel's two result arrays, of its arguments. -/

theorem idx : ∀ t : Fin cfg0.N, win0_0.index t = ![t.val, 0] ∧ win0_1.index t = ![0, 0] ∧ win0_2.index t = ![0, 0, 0] ∧ win0_3.index t = ![t.val, 0]
    ∧ win0_4.index t = ![0, 0] ∧ win0_5.index t = ![0, 0] ∧ win0_6.index t = ![0, 0, 0] ∧ win0_7.index t = ![0, 0] ∧ win0_8.index t = ![t.val, 0]
    ∧ win0_9.index t = ![t.val, 0] ∧ t.val < 16 :=
  (by decide +kernel : ∀ t : Fin grid0.N, _)

theorem lt16 (t : Fin cfg0.N) : t.val < 16 := (idx t).2.2.2.2.2.2.2.2.2.2

variable (m : (l : Loc nD τ sig) → Buf (Elt Ideal) l) (c : Dev nD)

abbrev aX : FVec Ideal S8192x2048 .f32 := m ((c : Thread nD τ).loc main_arg0)
abbrev aN : FVec Ideal S2x2048 .f32 := m ((c : Thread nD τ).loc main_arg1)
abbrev aW : FVec Ideal S12x2048x512 .bf16 := m ((c : Thread nD τ).loc main_arg2)
abbrev aU : FVec Ideal S2048x2048 .f32 := m ((c : Thread nD τ).loc main_arg3)
abbrev aG : FVec Ideal S1x2048 .f32 := m ((c : Thread nD τ).loc main_arg4)
abbrev aB : FVec Ideal S1x2048 .f32 := m ((c : Thread nD τ).loc main_arg5)
abbrev aS : FVec Ideal S8x128x128 .f32 := m ((c : Thread nD τ).loc main_arg6)
abbrev aC : FVec Ideal S8x128 .f32 := m ((c : Thread nD τ).loc main_arg7)

theorem blk0 (t : Fin cfg0.N) (r : Fin 512) (e : Fin 2048) : (iblk m c 0 t : FVec Ideal S512x2048 .f32) (ix2 r e)
    = aX m c (ix2 (⟨512 * t.val + r.val, by have := lt16 t; omega⟩ : Fin 8192) e) := by
  blk_ext [iblk, V, idx t]
theorem blk1 (t : Fin cfg0.N) (r : Fin 2) (e : Fin 2048) : (iblk m c 1 t : FVec Ideal S2x2048 .f32) (ix2 r e) = aN m c (ix2 r e) := by
  blk_ext [iblk, V, idx t]
theorem blk2 (t : Fin cfg0.N) (n : Fin 12) (d : Fin 2048) (j : Fin 512) : (iblk m c 2 t : FVec Ideal S12x2048x512 .bf16) (ix3 n d j) = aW m c (ix3 n d j) := by
  blk_ext [iblk, V, idx t]
theorem blk3 (t : Fin cfg0.N) (r : Fin 128) (e : Fin 2048) : (iblk m c 3 t : FVec Ideal S128x2048 .f32) (ix2 r e)
    = aU m c (ix2 (⟨128 * t.val + r.val, by have := lt16 t; omega⟩ : Fin 2048) e) := by
  blk_ext [iblk, V, idx t]
theorem blk4 (t : Fin cfg0.N) (r : Fin 1) (e : Fin 2048) : (iblk m c 4 t : FVec Ideal S1x2048 .f32) (ix2 r e) = aG m c (ix2 r e) := by
  blk_ext [iblk, V, idx t]
theorem blk5 (t : Fin cfg0.N) (r : Fin 1) (e : Fin 2048) : (iblk m c 5 t : FVec Ideal S1x2048 .f32) (ix2 r e) = aB m c (ix2 r e) := by
  blk_ext [iblk, V, idx t]
theorem blk6 (t : Fin cfg0.N) (g : Fin 8) (i j : Fin 128) : (iblk m c 6 t : FVec Ideal S8x128x128 .f32) (ix3 g i j) = aS m c (ix3 g i j) := by
  blk_ext [iblk, V, idx t]
theorem blk7 (t : Fin cfg0.N) (g : Fin 8) (i : Fin 128) : (iblk m c 7 t : FVec Ideal S8x128 .f32) (ix2 g i) = aC m c (ix2 g i) := by
  blk_ext [iblk, V, idx t]

/-- The result at row `R`, column `e`. -/
def resultAt (R : Fin 8192) (e : Fin 2048) : EReal :=
  mixed (fun n d j => aW m c (ix3 n d j)) (fun e => aN m c (ix2 (1 : Fin 2) e)) (fun e => aG m c (ix2 (0 : Fin 1) e)) (fun e => aB m c (ix2 (0 : Fin 1) e))
    (fun g i j => aS m c (ix3 g i j)) (fun g i => aC m c (ix2 g i)) (fun j e => aX m c (ix2 (⟨128 * (R.val / 128) + j.val, by omega⟩ : Fin 8192) e)) (⟨R.val % 128, by omega⟩ : Fin 128) e

/-- The result. -/
def result : FVec Ideal S8192x2048 .bf16 := fun y => resultAt m c (y 0 : Fin 8192) (y 1 : Fin 2048)
/-- The weight. -/
def weight : FVec Ideal S2048x2048 .bf16 := fun y => aU m c y

/-- What a grid point's blocks give is the result there. -/
theorem blocks_eq (t : Fin cfg0.N) (r : Fin 512) (e : Fin 2048) :
    mixed (slabsOf (iblk m c 2 t)) (fun e => (iblk m c 1 t : FVec Ideal S2x2048 .f32) (ix2 (1 : Fin 2) e)) (flatOf (iblk m c 4 t)) (flatOf (iblk m c 5 t))
      (fun g i j => (iblk m c 6 t : FVec Ideal S8x128x128 .f32) (ix3 g i j)) (fun g i => (iblk m c 7 t : FVec Ideal S8x128 .f32) (ix2 g i))
      (fun j e => (iblk m c 0 t : FVec Ideal S512x2048 .f32) (ix2 (⟨128 * (r.val / 128) + j.val, by omega⟩ : Fin 512) e)) (⟨r.val % 128, by omega⟩ : Fin 128) e
      = resultAt m c (⟨512 * t.val + r.val, by have := lt16 t; omega⟩ : Fin 8192) e := by
  have ht := lt16 t
  have e2 : slabsOf (iblk m c 2 t) = fun n d j => aW m c (ix3 n d j) := funext fun n => funext fun d => funext fun j => blk2 m c t n d j
  have e1 : (fun e => (iblk m c 1 t : FVec Ideal S2x2048 .f32) (ix2 (1 : Fin 2) e)) = fun e => aN m c (ix2 (1 : Fin 2) e) := funext fun e => blk1 m c t 1 e
  have e4 : flatOf (iblk m c 4 t) = fun e => aG m c (ix2 (0 : Fin 1) e) := funext fun e => blk4 m c t 0 e
  have e5 : flatOf (iblk m c 5 t) = fun e => aB m c (ix2 (0 : Fin 1) e) := funext fun e => blk5 m c t 0 e
  have e6 : (fun g i j => (iblk m c 6 t : FVec Ideal S8x128x128 .f32) (ix3 g i j)) = fun g i j => aS m c (ix3 g i j) :=
    funext fun g => funext fun i => funext fun j => blk6 m c t g i j
  have e7 : (fun g i => (iblk m c 7 t : FVec Ideal S8x128 .f32) (ix2 g i)) = fun g i => aC m c (ix2 g i) := funext fun g => funext fun i => blk7 m c t g i
  have e0 : (fun (j : Fin 128) e => (iblk m c 0 t : FVec Ideal S512x2048 .f32) (ix2 (⟨128 * (r.val / 128) + j.val, by omega⟩ : Fin 512) e))
      = fun (j : Fin 128) e => aX m c (ix2 (⟨128 * ((512 * t.val + r.val) / 128) + j.val, by omega⟩ : Fin 8192) e) := funext fun j => funext fun e =>
    (blk0 m c t _ e).trans (congrArg (fun R : Fin 8192 => aX m c (ix2 R e)) (Fin.ext (by
      show 512 * t.val + (128 * (r.val / 128) + j.val) = 128 * ((512 * t.val + r.val) / 128) + j.val; omega)))
  have ei : (⟨r.val % 128, by omega⟩ : Fin 128) = (⟨(512 * t.val + r.val) % 128, by omega⟩ : Fin 128) := Fin.ext (by show r.val % 128 = (512 * t.val + r.val) % 128; omega)
  unfold resultAt
  rw [e0, e1, e2, e4, e5, e6, e7, ei]

/-- What a grid point leaves. -/
def Left (t : Fin cfg0.N) (o : FVec Ideal S512x2048 .bf16 × FVec Ideal S128x2048 .bf16 × FVec Ideal S8x128x128 .bf16 × FVec Ideal S128x2048 .f32) : Prop :=
  (∀ (r : Fin 512) (e : Fin 2048), o.1 (ix2 r e) = resultAt m c (⟨512 * t.val + r.val, by have := lt16 t; omega⟩ : Fin 8192) e)
    ∧ (∀ (r : Fin 128) (e : Fin 2048), o.2.1 (ix2 r e) = aU m c (ix2 (⟨128 * t.val + r.val, by have := lt16 t; omega⟩ : Fin 2048) e))
    ∧ (∀ (g : Fin 8) (i j : Fin 128), o.2.2.1 (ix3 g i j) = masked (fun g i j => aS m c (ix3 g i j)) g i j)
    ∧ ∀ (i : Fin 128) (e : Fin 2048), o.2.2.2 (ix2 i e) = aC m c (ix2 (⟨e.val / 256, by omega⟩ : Fin 8) i)

theorem mask_eq (t : Fin cfg0.N) : masked (fun g i j => (iblk m c 6 t : FVec Ideal S8x128x128 .f32) (ix3 g i j)) = masked (fun g i j => aS m c (ix3 g i j)) :=
  congrArg masked (funext fun g => funext fun i => funext fun j => blk6 m c t g i j)

set_option maxHeartbeats 1000000 in
theorem leftA (t : Fin cfg0.N) (h0 : t.val % 16 = 0) : Left m c t (outsAt0 m c t.val t.isLt) := by
  have ht := outsAt0_A m c t h0
  refine ⟨fun r e => ?_, fun r e => ?_, fun g i j => ?_, fun i e => ?_⟩
  · have e1 := congrFun (congrArg (fun o => o.1) ht) (ix2 r e)
    dsimp only at e1
    exact e1.trans ((outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (iblk m c 5 t) (iblk m c 6 t) (iblk m c 7 t) ((hcond0_0 t).mpr h0) r e).trans (blocks_eq m c t r e))
  · have e1 := congrFun (congrArg (fun o => o.2.1) ht) (ix2 r e)
    dsimp only at e1
    exact e1.trans ((congrFun (outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (iblk m c 5 t) (iblk m c 6 t) (iblk m c 7 t) ((hcond0_0 t).mpr h0)) (ix2 r e)).trans (blk3 m c t r e))
  · have e1 := congrFun (congrArg (fun o => o.2.2.1) ht) (ix3 g i j)
    dsimp only at e1
    exact e1.trans ((soutA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (iblk m c 5 t) (iblk m c 6 t) (iblk m c 7 t) ((hcond0_0 t).mpr h0) g i j).trans (congrFun (congrFun (congrFun (mask_eq m c t) g) i) j))
  · have e1 := congrFun (congrArg (fun o => o.2.2.2) ht) (ix2 i e)
    dsimp only at e1
    exact e1.trans ((soutA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (iblk m c 5 t) (iblk m c 6 t) (iblk m c 7 t) ((hcond0_0 t).mpr h0) i e).trans (blk7 m c t _ i))

set_option maxHeartbeats 1000000 in
theorem leftB (t : Fin cfg0.N) (h0 : ¬t.val % 16 = 0) (s : Fin cfg0.N) (hp : Left m c s (outsAt0 m c (t.val - 1) (Nat.lt_of_le_of_lt (Nat.sub_le _ _) t.isLt))) :
    Left m c t (outsAt0 m c t.val t.isLt) := by
  have ht := outsAt0_B m c t h0
  refine ⟨fun r e => ?_, fun r e => ?_, fun g i j => ?_, fun i e => ?_⟩
  · have e1 := congrFun (congrArg (fun o => o.1) ht) (ix2 r e)
    dsimp only at e1
    exact e1.trans ((outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))
      (fun g i j => (hp.2.2.1 g i j).trans (congrFun (congrFun (congrFun (mask_eq m c t) g) i) j).symm) (fun i e => (hp.2.2.2 i e).trans (blk7 m c t _ i).symm) r e).trans (blocks_eq m c t r e))
  · have e1 := congrFun (congrArg (fun o => o.2.1) ht) (ix2 r e)
    dsimp only at e1
    exact e1.trans ((congrFun (outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))) (ix2 r e)).trans (blk3 m c t r e))
  · have e1 := congrFun (congrArg (fun o => o.2.2.1) ht) (ix3 g i j)
    dsimp only at e1
    exact e1.trans (hp.2.2.1 g i j)
  · have e1 := congrFun (congrArg (fun o => o.2.2.2) ht) (ix2 i e)
    dsimp only at e1
    exact e1.trans (hp.2.2.2 i e)

/-- Every point leaves that. -/
theorem left (n : ℕ) : ∀ hn : n < cfg0.N, Left m c ⟨n, hn⟩ (outsAt0 m c n hn) := by
  induction n with
  | zero => exact fun hn => leftA m c ⟨0, hn⟩ rfl
  | succ n ih =>
    intro hn
    by_cases h0 : (n + 1) % 16 = 0
    · exact leftA m c ⟨n + 1, hn⟩ h0
    · exact leftB m c ⟨n + 1, hn⟩ h0 ⟨n, Nat.lt_of_succ_lt hn⟩ (ih (Nat.lt_of_succ_lt hn))

theorem idx2 {a b : ℕ} (y : (⟨2, ![a, b]⟩ : Shape).Idx) : y = ix2 (y 0 : Fin a) (y 1 : Fin b) := by
  funext k
  obtain ⟨_ | _ | k, hk⟩ := k
  · rfl
  · rfl
  · exact absurd hk (by simp)

set_option maxHeartbeats 2000000 in
/-- The first result array after the run. -/
theorem final8 : (dats m 0 c).arrAt 8 cfg0.N = result m c := by
  refine (dats m 0 c).arrAt_eq_of_covers 8 _ (by decide +kernel) fun t hf y => ?_
  blk_simp
  rw [after0_8]
  have ht := lt16 t
  have h0 : (y 0 : Fin 512).val < 512 := (y 0 : Fin 512).isLt
  have hy : y = (ix2 (y 0 : Fin 512) (y 1 : Fin 2048) : S512x2048.Idx) := idx2 (a := 512) (b := 2048) y
  have he : ((cfg0.win 8).blk t).view.emb y = (ix2 (⟨512 * t.val + (y 0 : Fin 512).val, by omega⟩ : Fin 8192) (y 1 : Fin 2048) : S8192x2048.Idx) := by
    blk_ext [idx t]
  refine Eq.trans (congrArg (outsAt0 m c t.val t.isLt).1 hy) (((left m c t.val t.isLt).1 (y 0) (y 1)).trans ?_)
  show resultAt m c (⟨512 * t.val + (y 0 : Fin 512).val, by omega⟩ : Fin 8192) (y 1 : Fin 2048) = result m c (((cfg0.win 8).blk t).view.emb y)
  rw [he]
  rfl

/-- The second result array after the run. -/
theorem final9 : (dats m 0 c).arrAt 9 cfg0.N = weight m c := by
  refine (dats m 0 c).arrAt_eq_of_covers 9 _ (by decide +kernel) fun t hf y => ?_
  blk_simp
  rw [after0_9]
  have ht := lt16 t
  have h0 : (y 0 : Fin 128).val < 128 := (y 0 : Fin 128).isLt
  have hy : y = (ix2 (y 0 : Fin 128) (y 1 : Fin 2048) : S128x2048.Idx) := idx2 (a := 128) (b := 2048) y
  have he : ((cfg0.win 9).blk t).view.emb y = (ix2 (⟨128 * t.val + (y 0 : Fin 128).val, by omega⟩ : Fin 2048) (y 1 : Fin 2048) : S2048x2048.Idx) := by
    blk_ext [idx t]
  refine Eq.trans (congrArg (outsAt0 m c t.val t.isLt).2.1 hy) (((left m c t.val t.isLt).2.1 (y 0) (y 1)).trans ?_)
  exact congrArg (weight m c) he.symm

end Cert.Kernel2Ideal.Mix

end
-- ==== Proof.MixRef.lean ====
module

public import proofs.«01_k».proof.Proof.MixSpec
public import proofs.«01_k».proof.Proof.Gen.Reference2Ideal.Run

@[expose] public section

set_option maxRecDepth 16384

noncomputable section

namespace Cert.Reference2Ideal.Mix

open Cert.Reference2Ideal Cert.Reference2Ideal.Gen Cert.Reference2Ideal.Value Cert.Kernel2Ideal.Mix
open Idealize.ShloMosaic Idealize.ShloMosaic.TcCoe Idealize.ShloMosaic.ValueKit

/-! The reference's result, in stages, each at an index. -/

def normed (X : FVec Ideal S8192x2048 .f32) (N : FVec Ideal S2x2048 .f32) : FVec Ideal S8192x2048 .f32 :=
  mulf (mulf X (broadcastInDim S8192x2048 ![0, 1] bcast_S8192x1_S8192x2048_0_1 (Host.rsqrt (addf (Host.divf
      (broadcastInDim S8192x1 ![0] bcast_S8192_S8192x1_0 (Host.reduceAdd (mulf X X) (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast S2048 (extractStridedSlice S1x2048 ![1, 0] N slices_S2x2048_S1x2048_1_0) shapeCasts_S1x2048_S2048)))
def proj (X : FVec Ideal S8192x2048 .f32) (N : FVec Ideal S2x2048 .f32) (W : FVec Ideal S12x2048x512 .bf16) : FVec Ideal S8192x6144 .f32 :=
  Host.dotGeneral dot_S8192x2048_S2048x6144_S8192x6144_1_0_0_1_n_n none (normed X N)
    (shapeCast S2048x6144 (transpose S2048x12x512 [1, 0, 2] (extf .f32 W bitsLt_bf16_f32) transposes_S12x2048x512_S2048x12x512_1_0_2) shapeCasts_S2048x12x512_S2048x6144)
def partU (P : FVec Ideal S8192x6144 .f32) : FVec Ideal S8192x2048 .f32 := extractStridedSlice S8192x2048 ![0, 0] P slices_S8192x6144_S8192x2048_0_0
def partV (P : FVec Ideal S8192x6144 .f32) : FVec Ideal S8192x2048 .f32 := extractStridedSlice S8192x2048 ![0, 2048] P slices_S8192x6144_S8192x2048_0_2048
def partG (P : FVec Ideal S8192x6144 .f32) : FVec Ideal S8192x2048 .f32 := extractStridedSlice S8192x2048 ![0, 4096] P slices_S8192x6144_S8192x2048_0_4096
def geluOf (u : FVec Ideal S8192x2048 .f32) : FVec Ideal S8192x2048 .f32 :=
  mulf u (mulf (broadcastInDim S8192x2048 ![] bcast_S_S8192x2048 (constant S_ .f32 0x3F000000#32))
    (addf (broadcastInDim S8192x2048 ![] bcast_S_S8192x2048 (constant S_ .f32 0x3F800000#32))
      (Host.tanh (mulf (broadcastInDim S8192x2048 ![] bcast_S_S8192x2048 (constant S_ .f32 0x3F4C422A#32))
        (addf u (mulf (broadcastInDim S8192x2048 ![] bcast_S_S8192x2048 (constant S_ .f32 0x3D372713#32)) (mulf (mulf u u) u)))))))
def siluOf (g : FVec Ideal S8192x2048 .f32) : FVec Ideal S8192x2048 .f32 :=
  mulf g (Host.divf (broadcastInDim S8192x2048 ![] bcast_S_S8192x2048 (constant S_ .f32 0x3F800000#32))
    (addf (broadcastInDim S8192x2048 ![] bcast_S_S8192x2048 (constant S_ .f32 0x3F800000#32)) (Host.exp (Host.negf g))))
def centred (v : FVec Ideal S8192x2048 .f32) : FVec Ideal S8192x2048 .f32 :=
  subf v (broadcastInDim S8192x2048 ![0, 1] bcast_S8192x1_S8192x2048_0_1 (Host.divf
    (broadcastInDim S8192x1 ![0] bcast_S8192_S8192x1_0 (Host.reduceAdd v (constant S_ .f32 0x00000000#32) reducesTo_S8192x2048_S8192_d1 h_S_))
    (broadcastInDim S8192x1 ![] bcast_S_S8192x1 (constant S_ .f32 0x45000000#32))))
def layerOf (v : FVec Ideal S8192x2048 .f32) (G B : FVec Ideal S1x2048 .f32) : FVec Ideal S8192x2048 .f32 :=
  addf (mulf (mulf (centred v) (broadcastInDim S8192x2048 ![0, 1] bcast_S8192x1_S8192x2048_0_1 (Host.rsqrt (addf (Host.divf
      (broadcastInDim S8192x1 ![0] bcast_S8192_S8192x1_0 (Host.reduceAdd (mulf (centred v) (centred v)) (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 G)) (broadcastInDim S8192x2048 ![0, 1] bcast_S1x2048_S8192x2048_0_1 B)
/-- A row's chunk of 64. -/
def chunk : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))
def maskOf (S : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2
      (cmpi .sge (broadcastInDim S128x128 ![0, 1] bcast_S128x1_S128x128_0_1 (broadcastInDim S128x1 ![0] bcast_S128_S128x1_0 chunk))
        (broadcastInDim S128x128 ![0, 1] bcast_S1x128_S128x128_0_1 (broadcastInDim S1x128 ![1] bcast_S128_S1x128_1 chunk)))))
    S (broadcastInDim S8x128x128 ![] bcast_S_S8x128x128 (sitofp .f32 (constantI S_ 32 0#32)))
def mixOf (v : FVec Ideal S8192x2048 .f32) (s : FVec Ideal S8x128x128 .f32) (b : FVec Ideal S8x128 .f32) : FVec Ideal S8192x2048 .f32 :=
  shapeCast S8192x2048 (addf (transpose S64x128x8x256 [1, 3, 0, 2] (Host.dotGeneral dot_S64x128x8x256_S8x128x128_S8x64x256x128_1_2_03_1_2_0 none
      (shapeCast S64x128x8x256 v shapeCasts_S8192x2048_S64x128x8x256) s) transposes_S8x64x256x128_S64x128x8x256_1_3_0_2)
    (broadcastInDim S64x128x8x256 ![0, 1, 2, 3] bcast_S1x128x8x1_S64x128x8x256_0_1_2_3 (broadcastInDim S1x128x8x1 ![1, 2] bcast_S128x8_S1x128x8x1_1_2
      (transpose S128x8 [1, 0] b transposes_S8x128_S128x8_1_0)))) shapeCasts_S64x128x8x256_S8192x2048
def refMix (X : FVec Ideal S8192x2048 .f32) (N : FVec Ideal S2x2048 .f32) (W : FVec Ideal S12x2048x512 .bf16) (G B : FVec Ideal S1x2048 .f32)
    (S : FVec Ideal S8x128x128 .f32) (b : FVec Ideal S8x128 .f32) : FVec Ideal S8192x2048 .bf16 :=
  truncf .bf16 (mulf (mulf (geluOf (partU (proj X N W))) (mixOf (layerOf (geluOf (partV (proj X N W))) G B) (maskOf S) b)) (siluOf (partG (proj X N W)))) bitsLt_bf16_f32

variable (m : (l : Loc nD τ sig) → Buf (Elt Ideal) l) (c : Dev nD)

theorem ref_eq : res_main_v90 m c = refMix (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6)) (m ((c : Thread nD τ).loc main_arg7)) := rfl

theorem normed_at (X : FVec Ideal S8192x2048 .f32) (N : FVec Ideal S2x2048 .f32) (R : Fin 8192) (d : Fin 2048) :
    normed X N (ix2 R d) = rms (fun e => X (ix2 R e)) (fun e => N (ix2 (1 : Fin 2) e)) d := by
  unfold rms
  pointwise [normed]

theorem proj_at (X : FVec Ideal S8192x2048 .f32) (N : FVec Ideal S2x2048 .f32) (W : FVec Ideal S12x2048x512 .bf16) (R : Fin 8192) (q : Fin 6144) :
    proj X N W (ix2 R q) = into (fun n d j => W (ix3 n d j)) (rms (fun e => X (ix2 R e)) (fun e => N (ix2 (1 : Fin 2) e)))
      (⟨q.val / 512, by omega⟩ : Fin 12) (⟨q.val % 512, by omega⟩ : Fin 512) := by
  unfold into
  simp only [← normed_at]
  pointwise [proj]

theorem partU_at (P : FVec Ideal S8192x6144 .f32) (R : Fin 8192) (e : Fin 2048) : partU P (ix2 R e) = P (ix2 R (⟨e.val, by omega⟩ : Fin 6144)) := by
  pointwise [partU]
theorem partV_at (P : FVec Ideal S8192x6144 .f32) (R : Fin 8192) (e : Fin 2048) : partV P (ix2 R e) = P (ix2 R (⟨2048 + e.val, by omega⟩ : Fin 6144)) := by
  pointwise [partV]
theorem partG_at (P : FVec Ideal S8192x6144 .f32) (R : Fin 8192) (e : Fin 2048) : partG P (ix2 R e) = P (ix2 R (⟨4096 + e.val, by omega⟩ : Fin 6144)) := by
  pointwise [partG]
theorem geluOf_at (u : FVec Ideal S8192x2048 .f32) (R : Fin 8192) (e : Fin 2048) : geluOf u (ix2 R e) = gelu (u (ix2 R e)) := by
  rw [gelu_eq]
  pointwise [geluOf]
theorem siluOf_at (u : FVec Ideal S8192x2048 .f32) (R : Fin 8192) (e : Fin 2048) : siluOf u (ix2 R e) = silu (u (ix2 R e)) := by
  rw [silu_eq]
  pointwise [siluOf]
theorem layerOf_at (v : FVec Ideal S8192x2048 .f32) (G B : FVec Ideal S1x2048 .f32) (R : Fin 8192) (e : Fin 2048) :
    layerOf v G B (ix2 R e) = layer (fun e => v (ix2 R e)) (fun e => G (ix2 (0 : Fin 1) e)) (fun e => B (ix2 (0 : Fin 1) e)) e := by
  unfold layer mean
  pointwise [layerOf, centred]
theorem chunk_at (i : Fin 128) : chunk (ix1 i) = BitVec.ofNat 32 (i.val / 64) := by
  pointwise [chunk]
  revert i; decide +kernel
theorem maskOf_at (S : FVec Ideal S8x128x128 .f32) (g : Fin 8) (i j : Fin 128) :
    maskOf S (ix3 g i j) = masked (fun g i j => S (ix3 g i j)) g i j := by
  unfold masked
  pointwise [maskOf]
  rw [chunk_at, chunk_at]
  obtain hi | hi : i.val / 64 = 0 ∨ i.val / 64 = 1 := by omega
  · obtain hj | hj : j.val / 64 = 0 ∨ j.val / 64 = 1 := by omega
    · rw [hi, hj]; rfl
    · rw [hi, hj]
      show (((0#32 : BitVec 32).toInt : ℝ) : EReal) = 0
      simp
  · obtain hj | hj : j.val / 64 = 0 ∨ j.val / 64 = 1 := by omega
    · rw [hi, hj]; rfl
    · rw [hi, hj]; rfl
theorem mixOf_at (v : FVec Ideal S8192x2048 .f32) (s : FVec Ideal S8x128x128 .f32) (b : FVec Ideal S8x128 .f32) (R : Fin 8192) (e : Fin 2048) :
    mixOf v s b (ix2 R e) = (∑ j : Fin 128, s (ix3 (⟨e.val / 256, by omega⟩ : Fin 8) (⟨R.val % 128, by omega⟩ : Fin 128) j)
        * v (ix2 (⟨128 * (R.val / 128) + j.val, by omega⟩ : Fin 8192) e)) + b (ix2 (⟨e.val / 256, by omega⟩ : Fin 8) (⟨R.val % 128, by omega⟩ : Fin 128)) := by
  pointwise [mixOf]
  refine congrArg (· + _) (Finset.sum_congr rfl fun j _ => ?_)
  simp only [Nat.mul_comm (R.val / 128) 128]
  exact mul_comm _ _

/-- The reference's result at an index. -/
theorem refMix_at (X : FVec Ideal S8192x2048 .f32) (N : FVec Ideal S2x2048 .f32) (W : FVec Ideal S12x2048x512 .bf16) (G B : FVec Ideal S1x2048 .f32)
    (S : FVec Ideal S8x128x128 .f32) (b : FVec Ideal S8x128 .f32) (R : Fin 8192) (e : Fin 2048) :
    refMix X N W G B S b (ix2 R e) = mixed (fun n d j => W (ix3 n d j)) (fun e => N (ix2 (1 : Fin 2) e)) (fun e => G (ix2 (0 : Fin 1) e)) (fun e => B (ix2 (0 : Fin 1) e))
      (fun g i j => S (ix3 g i j)) (fun g i => b (ix2 g i)) (fun j e => X (ix2 (⟨128 * (R.val / 128) + j.val, by omega⟩ : Fin 8192) e)) (⟨R.val % 128, by omega⟩ : Fin 128) e := by
  have hr : (⟨128 * (R.val / 128) + R.val % 128, by omega⟩ : Fin 8192) = R := Fin.ext (by show 128 * (R.val / 128) + R.val % 128 = R.val; omega)
  have hu : ∀ (R : Fin 8192) (e : Fin 2048), geluOf (partU (proj X N W)) (ix2 R e)
      = first (fun n d j => W (ix3 n d j)) (rms (fun e => X (ix2 R e)) (fun e => N (ix2 (1 : Fin 2) e))) e := fun R e => by
    rw [geluOf_at, partU_at, proj_at]; rfl
  have hv : ∀ (R : Fin 8192) (e : Fin 2048), geluOf (partV (proj X N W)) (ix2 R e)
      = vals (fun n d j => W (ix3 n d j)) (rms (fun e => X (ix2 R e)) (fun e => N (ix2 (1 : Fin 2) e))) e := fun R e => by
    rw [geluOf_at, partV_at, proj_at]
    exact congrArg₂ (fun n j => gelu (into _ _ n j)) (Fin.ext (by show (2048 + e.val) / 512 = 4 + e.val / 512; omega)) (Fin.ext (by show (2048 + e.val) % 512 = e.val % 512; omega))
  have hg : ∀ (R : Fin 8192) (e : Fin 2048), siluOf (partG (proj X N W)) (ix2 R e)
      = gate (fun n d j => W (ix3 n d j)) (rms (fun e => X (ix2 R e)) (fun e => N (ix2 (1 : Fin 2) e))) e := fun R e => by
    rw [siluOf_at, partG_at, proj_at]
    exact congrArg₂ (fun n j => silu (into _ _ n j)) (Fin.ext (by show (4096 + e.val) / 512 = 8 + e.val / 512; omega)) (Fin.ext (by show (4096 + e.val) % 512 = e.val % 512; omega))
  show geluOf (partU (proj X N W)) (ix2 R e) * mixOf (layerOf (geluOf (partV (proj X N W))) G B) (maskOf S) b (ix2 R e) * siluOf (partG (proj X N W)) (ix2 R e) = _
  rw [hu, hg, mixOf_at]
  unfold mixed
  simp only [layerOf_at, maskOf_at, hv, hr]
  rw [mul_comm (first _ _ e), mul_assoc, mul_comm (first _ _ e)]

end Cert.Reference2Ideal.Mix

end
-- ==== Proof.Pair2.lean ====
module

public import proofs.«01_k».proof.Defs
public import proofs.«01_k».proof.Proof.MixFinal
public import proofs.«01_k».proof.Proof.MixRef

@[expose] public section

noncomputable section

namespace Cert.Proof

open Idealize.ShloMosaic Idealize.ShloMosaic.TcCoe Idealize.ShloMosaic.ValueKit Idealize.SL.Sem

/-- The spatial gating unit: the kernel and the reference leave the same two results. -/
theorem mix_pair : algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Mix.result m c, fun c => Cert.Kernel2Ideal.Mix.weight m c, ?_, ?_⟩
  · exact (θ_run _ _ _).mono (fun r h c => ⟨(h c).1.trans (Cert.Kernel2Ideal.Mix.final8 m c),
      (h c).2.1.trans (Cert.Kernel2Ideal.Mix.final9 m c), (h c).2.2⟩) (Cert.Kernel2Ideal.Value.run_blocks m g)
  · refine (θ_run _ _ _).mono (fun r h c => ⟨(h c).1.trans ?_, (h c).2.1.trans ?_, (h c).2.2⟩) (Cert.Reference2Ideal.Value.run m' g')
    · obtain ⟨h0, h1, h2, h3, h4, h5, h6, h7⟩ := hargs c
      rw [Cert.Reference2Ideal.Mix.ref_eq, h0, h1, h2, h4, h5, h6, h7]
      funext y
      have hy : y = (ix2 (y 0 : Fin 8192) (y 1 : Fin 2048) : Cert.Kernel2Ideal.S8192x2048.Idx) := Cert.Kernel2Ideal.Mix.idx2 (a := 8192) (b := 2048) y
      refine (congrArg _ hy).trans ?_
      exact Cert.Reference2Ideal.Mix.refMix_at _ _ _ _ _ _ _ (y 0 : Fin 8192) (y 1 : Fin 2048)
    · obtain ⟨h0, h1, h2, h3, h4, h5, h6, h7⟩ := hargs c
      rw [h3]
      rfl

end Cert.Proof

end
-- ==== Proof.Out3.lean ====
module

public import proofs.«01_k».proof.Proof.Gen.Kernel3Ideal.Value
public import proofs.«01_k».proof.Proof.Gen.Reference3Ideal
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Out

open Cert.Kernel3Ideal Cert.Kernel3Ideal.Gen Idealize.ShloMosaic Idealize.ShloMosaic.TcCoe Idealize.ShloMosaic.ValueKit

/-! The second layer's output projection: the kernel's result is the reference's. -/

section
open Cert.Reference3Ideal Cert.Reference3Ideal.Gen

/-- The reference's projection. -/
def proj (A : FVec Ideal S8192x2048 .bf16) (W : FVec Ideal S2048x2048 .bf16) : FVec Ideal S8192x2048 .f32 :=
  Host.dotGeneral dot_S8192x2048_S2048x2048_S8192x2048_1_0_0_1_n_n none (extf .f32 A bitsLt_bf16_f32) (extf .f32 W bitsLt_bf16_f32)

/-- The reference's result. -/
def refOut (A : FVec Ideal S8192x2048 .bf16) (W : FVec Ideal S2048x2048 .bf16) (N : FVec Ideal S2x2048 .f32) (X : FVec Ideal S8192x2048 .f32) : FVec Ideal S8192x2048 .f32 :=
  addf X (mulf (mulf (proj A W) (broadcastInDim S8192x2048 ![0, 1] bcast_S8192x1_S8192x2048_0_1 (Host.rsqrt (addf (Host.divf
      (broadcastInDim S8192x1 ![0] bcast_S8192_S8192x1_0 (Host.reduceAdd (mulf (proj A W) (proj A W)) (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast S2048 (extractStridedSlice S1x2048 ![1, 0] N slices_S2x2048_S1x2048_1_0) shapeCasts_S1x2048_S2048))))
end

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ t.val < 16 :=
  (by decide +kernel : ∀ t : Fin grid0.N, _)

variable (m : (l : Loc nD τ sig) → Buf (Elt Ideal) l)

/-- The result array after the run. -/
theorem final (c : Dev nD) : (dats m 0 c).arrAt 4 cfg0.N
    = refOut (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, refOut, proj]
  blk_point [iblk, V, idx t]

end Cert.Kernel3Ideal.Out

end
-- ==== Proof.Pair3.lean ====
module

public import proofs.«01_k».proof.Defs
public import proofs.«01_k».proof.Proof.Out3
public import proofs.«01_k».proof.Proof.Gen.Reference3Ideal.Run

@[expose] public section

noncomputable section

namespace Cert.Proof

open Idealize.ShloMosaic Idealize.SL.Sem

/-- The output projection: the kernel and the reference leave the same result. -/
theorem out_pair : algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 4 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  obtain ⟨h0, h1, h2, h3⟩ := hargs c
  rw [h0, h1, h2, h3]
  exact (Cert.Kernel3Ideal.Out.final m c).symm

end Cert.Proof

end
-- ==== Proof.InPieces.lean ====
module

public import proofs.«01_k».proof.Proof.InFrame

@[expose] public section

set_option maxRecDepth 65536

noncomputable section

namespace Cert.Kernel4Ideal.In

open Cert.Kernel4Ideal Cert.Kernel4Ideal.Gen Idealize.ShloMosaic Idealize.ShloMosaic.TcCoe

variable {F : FTy → Type} [FloatOps F]

/-! The writes a grid point makes, as families: column blocks of the projection, chunk rows of the decays, and rows of the weight. -/

theorem inbE (k : ℕ) : ∀ a, (![64 * (k % 8), 0] : Fin 2 → ℕ) a + S64x1024.size a ≤ S512x1024.size a := by
  refine Fin.forall_fin_succ.2 ⟨?_, Fin.forall_fin_succ.2 ⟨?_, fun a => a.elim0⟩⟩
  · show 64 * (k % 8) + 64 ≤ 512; omega
  · show 0 + 1024 ≤ 1024; omega
theorem inbD (k : ℕ) : ∀ a, (![k % 8, 0] : Fin 2 → ℕ) a + S1x1024.size a ≤ S8x1024.size a := by
  refine Fin.forall_fin_succ.2 ⟨?_, Fin.forall_fin_succ.2 ⟨?_, fun a => a.elim0⟩⟩
  · show k % 8 + 1 ≤ 8; omega
  · show 0 + 1024 ≤ 1024; omega
theorem inbO (n : ℕ) : ∀ a, (![0, 512 * (n % 12)] : Fin 2 → ℕ) a + S512x512.size a ≤ S512x6144.size a := by
  refine Fin.forall_fin_succ.2 ⟨?_, Fin.forall_fin_succ.2 ⟨?_, fun a => a.elim0⟩⟩
  · show 0 + 512 ≤ 512; omega
  · show 512 * (n % 12) + 512 ≤ 6144; omega
theorem inbW (n : ℕ) : ∀ a, (![512 * (n % 12), 0] : Fin 2 → ℕ) a + S512x2048.size a ≤ S6144x2048.size a := by
  refine Fin.forall_fin_succ.2 ⟨?_, Fin.forall_fin_succ.2 ⟨?_, fun a => a.elim0⟩⟩
  · show 512 * (n % 12) + 512 ≤ 6144; omega
  · show 0 + 2048 ≤ 2048; omega
theorem inbG (n : ℕ) : ∀ a, (![0, 512 * (n % 4)] : Fin 2 → ℕ) a + S1x512.size a ≤ S1x2048.size a := by
  refine Fin.forall_fin_succ.2 ⟨?_, Fin.forall_fin_succ.2 ⟨?_, fun a => a.elim0⟩⟩
  · show 0 + 1 ≤ 1; omega
  · show 512 * (n % 4) + 512 ≤ 2048; omega
theorem inbV (n : ℕ) : ∀ a, (![0, 512 * (n % 2)] : Fin 2 → ℕ) a + S512x512.size a ≤ S512x1024.size a := by
  refine Fin.forall_fin_succ.2 ⟨?_, Fin.forall_fin_succ.2 ⟨?_, fun a => a.elim0⟩⟩
  · show 0 + 512 ≤ 512; omega
  · show 512 * (n % 2) + 512 ≤ 1024; omega
theorem inbC (k : ℕ) : ∀ a, (![128 * (k % 48), 0] : Fin 2 → ℕ) a + S128x2048.size a ≤ S6144x2048.size a := by
  refine Fin.forall_fin_succ.2 ⟨?_, Fin.forall_fin_succ.2 ⟨?_, fun a => a.elim0⟩⟩
  · show 128 * (k % 48) + 128 ≤ 6144; omega
  · show 0 + 2048 ≤ 2048; omega
theorem inbH (k : ℕ) : ∀ a, (![128 * (k % 48), 0] : Fin 2 → ℕ) a + S128x2048.size a ≤ S6160x2048.size a := by
  refine Fin.forall_fin_succ.2 ⟨?_, Fin.forall_fin_succ.2 ⟨?_, fun a => a.elim0⟩⟩
  · show 128 * (k % 48) + 128 ≤ 6160; omega
  · show 0 + 2048 ≤ 2048; omega

abbrev rE (k : ℕ) : Rect S512x1024 := Rect.unit ![64 * (k % 8), 0] S64x1024.size (inbE k)
abbrev rD (k : ℕ) : Rect S8x1024 := Rect.unit ![k % 8, 0] S1x1024.size (inbD k)
abbrev rO (n : ℕ) : Rect S512x6144 := Rect.unit ![0, 512 * (n % 12)] S512x512.size (inbO n)
abbrev rW (n : ℕ) : Rect S6144x2048 := Rect.unit ![512 * (n % 12), 0] S512x2048.size (inbW n)
abbrev rG (n : ℕ) : Rect S1x2048 := Rect.unit ![0, 512 * (n % 4)] S1x512.size (inbG n)
abbrev rV (n : ℕ) : Rect S512x1024 := Rect.unit ![0, 512 * (n % 2)] S512x512.size (inbV n)
abbrev rC (k : ℕ) : Rect S6144x2048 := Rect.unit ![128 * (k % 48), 0] S128x2048.size (inbC k)
abbrev rH (k : ℕ) : Rect S6160x2048 := Rect.unit ![128 * (k % 48), 0] S128x2048.size (inbH k)

theorem slicesHalf (k : ℕ) : S256x1024.Slices ![64 * (k % 4), 0] S64x1024 := by
  have h : ∀ j : Fin 4, S256x1024.Slices ![64 * j.val, 0] S64x1024 := by decide
  exact h ⟨k % 4, Nat.mod_lt k (by omega)⟩

theorem map_step {s : Shape} {e : EltTy} (P : ℕ → View.Piece (Elt F) s e) (q : View.Piece (Elt F) s e) (L : List (View.Piece (Elt F) s e)) (n : ℕ) (ns : List ℕ)
    (hq : q = P n) (hL : L = ns.map P) : q :: L = (n :: ns).map P := by
  subst hL; subst hq; rfl

/-- The triangles of ones, one for each chunk. -/
def tri : FVec F S256x256 .bf16 := k0_pay121 (iota Kind.tc S256x256 32 [1] iota_S256x256_d1_w32) k0_pay118 k0_pay119 k0_pay120
/-- The summed log gates of the first or of the last four chunks. -/
def half (r : FVec F S512x16 .bf16) (w2 : Vec F S16x1024 .f32) (b : Vec F S1x1024 .f32) (k : ℕ) : FVec F S256x1024 .f32 :=
  bif Nat.blt k 4 then k0_pay129 tri r w2 b else k0_pay147 tri (k0_pay126 r w2 b) (k0_pay127 r w2 b)
def rowsOf (s : FVec F S256x1024 .f32) (k : ℕ) : FVec F S64x1024 .f32 := extractStridedSlice S64x1024 ![64 * (k % 4), 0] s (slicesHalf k)
def lastOf (s : FVec F S64x1024 .f32) : FVec F S1x1024 .f32 := extractStridedSlice S1x1024 ![63, 0] s slices_S64x1024_o63_0_S1x1024

def ePiece (r : FVec F S512x16 .bf16) (w2 : Vec F S16x1024 .f32) (b : Vec F S1x1024 .f32) (k : ℕ) : View.Piece (Elt F) S512x1024 .bf16 :=
  ⟨rE k, k0_pay132 (rowsOf (half r w2 b k) k) (lastOf (rowsOf (half r w2 b k) k))⟩
def dPiece (r : FVec F S512x16 .bf16) (w2 : Vec F S16x1024 .f32) (b : Vec F S1x1024 .f32) (k : ℕ) : View.Piece (Elt F) S8x1024 .f32 :=
  ⟨rD k, k0_pay133 (lastOf (rowsOf (half r w2 b k) k))⟩
def oPiece (h : FVec F S512x2048 .bf16) (sl : ℕ → Vec F S512x2048 .bf16) (ev : ℕ → Vec F S512x512 .bf16) (og : ℕ → Vec F S1x512 .f32) (n : ℕ) :
    View.Piece (Elt F) S512x6144 .bf16 :=
  ⟨rO n, bif Nat.blt n 2 then k0_pay122 h (sl n) else bif Nat.blt n 4 then k0_pay166 h (sl n) (ev (n - 2)) else
    bif Nat.blt n 8 then k0_pay122 h (sl n) else k0_pay169 h (sl n) (og (n - 8))⟩
/-- Rows of the weight, as copied in. -/
def rowsIn (c : Dev nD) (fh0 : HbBuf0 (F := F) c hbM0_0) (k : ℕ) : Vec F S128x2048 .f32 :=
  ReadAs.same.apply (View.read (Elt F) ((Memref.whole main_arg2).slice (rH k) (fun _ => rfl)).view fh0)
def cPiece (c : Dev nD) (fh0 : HbBuf0 (F := F) c hbM0_0) (k : ℕ) : View.Piece (Elt F) S6144x2048 .bf16 :=
  ⟨rC k, k0_pay13 (Cert.Slot.up (rowsIn c fh0 k))⟩
/-- The order the slabs are taken in. -/
def slabAt (m : ℕ) : ℕ := bif Nat.blt m 2 then m else bif Nat.blt m 5 then m + 2 else bif Nat.blt m 7 then m - 3 else m
def slabPos (n : ℕ) : ℕ := bif Nat.blt n 2 then n else bif Nat.blt n 4 then n + 3 else bif Nat.blt n 7 then n - 2 else n
def copied : ℕ → List ℕ
  | 0 => []
  | m + 1 => (4 * slabAt m + 3) :: (4 * slabAt m + 2) :: (4 * slabAt m + 1) :: (4 * slabAt m) :: copied m
def eights : List ℕ := [7, 6, 5, 4, 3, 2, 1, 0]
def slabs : List ℕ := [11, 10, 9, 8, 7, 3, 2, 6, 5, 4, 1, 0]

section
variable (c : Dev nD) (fh0 : HbBuf0 (F := F) c hbM0_0)

theorem cs4 : kernelRun0_A.sl.HS0_4 c fh0 = (copied 1).map (cPiece c fh0) := by
  iterate 4 refine map_step _ _ _ _ _ rfl ?_
  rfl
theorem cs8 : kernelRun0_A.sl.HS0_8 c fh0 = (copied 2).map (cPiece c fh0) := by
  iterate 4 refine map_step _ _ _ _ _ rfl ?_
  exact cs4 c fh0
theorem cs12 : kernelRun0_A.sl.HS0_12 c fh0 = (copied 3).map (cPiece c fh0) := by
  iterate 4 refine map_step _ _ _ _ _ rfl ?_
  exact cs8 c fh0
theorem cs16 : kernelRun0_A.sl.HS0_16 c fh0 = (copied 4).map (cPiece c fh0) := by
  iterate 4 refine map_step _ _ _ _ _ rfl ?_
  exact cs12 c fh0
theorem cs20 : kernelRun0_A.sl.HS0_20 c fh0 = (copied 5).map (cPiece c fh0) := by
  iterate 4 refine map_step _ _ _ _ _ rfl ?_
  exact cs16 c fh0
theorem cs24 : kernelRun0_A.sl.HS0_24 c fh0 = (copied 6).map (cPiece c fh0) := by
  iterate 4 refine map_step _ _ _ _ _ rfl ?_
  exact cs20 c fh0
theorem cs28 : kernelRun0_A.sl.HS0_28 c fh0 = (copied 7).map (cPiece c fh0) := by
  iterate 4 refine map_step _ _ _ _ _ rfl ?_
  exact cs24 c fh0
theorem cs32 : kernelRun0_A.sl.HS0_32 c fh0 = (copied 8).map (cPiece c fh0) := by
  iterate 4 refine map_step _ _ _ _ _ rfl ?_
  exact cs28 c fh0
theorem cs36 : kernelRun0_A.sl.HS0_36 c fh0 = (copied 9).map (cPiece c fh0) := by
  iterate 4 refine map_step _ _ _ _ _ rfl ?_
  exact cs32 c fh0
theorem cs40 : kernelRun0_A.sl.HS0_40 c fh0 = (copied 10).map (cPiece c fh0) := by
  iterate 4 refine map_step _ _ _ _ _ rfl ?_
  exact cs36 c fh0
theorem cs44 : kernelRun0_A.sl.HS0_44 c fh0 = (copied 11).map (cPiece c fh0) := by
  iterate 4 refine map_step _ _ _ _ _ rfl ?_
  exact cs40 c fh0
theorem cs48 : kernelRun0_A.sl.HS0_48 c fh0 = (copied 12).map (cPiece c fh0) := by
  iterate 4 refine map_step _ _ _ _ _ rfl ?_
  exact cs44 c fh0

variable (arg12 : Memref sig .tc .vmem S6144x2048 .bf16)
/-- A slab of the weight, read while the rows are still being copied. -/
def slabA (n : ℕ) : Vec F S512x2048 .bf16 := arg12.view.readCov ((copied (slabPos n + 1)).map (cPiece c fh0)) (rW n).toLoadRect

theorem sl0 : kernelRun0_A.sl.v168 c arg12 fh0 = slabA c fh0 arg12 0 := congrArg (fun L => arg12.view.readCov L (rW 0).toLoadRect) (cs4 c fh0)
theorem sl1 : kernelRun0_A.sl.v243 c arg12 fh0 = slabA c fh0 arg12 1 := congrArg (fun L => arg12.view.readCov L (rW 1).toLoadRect) (cs8 c fh0)
theorem sl4 : kernelRun0_A.sl.v327 c arg12 fh0 = slabA c fh0 arg12 4 := congrArg (fun L => arg12.view.readCov L (rW 4).toLoadRect) (cs12 c fh0)
theorem sl5 : kernelRun0_A.sl.v444 c arg12 fh0 = slabA c fh0 arg12 5 := congrArg (fun L => arg12.view.readCov L (rW 5).toLoadRect) (cs16 c fh0)
theorem sl6 : kernelRun0_A.sl.v561 c arg12 fh0 = slabA c fh0 arg12 6 := congrArg (fun L => arg12.view.readCov L (rW 6).toLoadRect) (cs20 c fh0)
theorem sl2 : kernelRun0_A.sl.v629 c arg12 fh0 = slabA c fh0 arg12 2 := congrArg (fun L => arg12.view.readCov L (rW 2).toLoadRect) (cs24 c fh0)
theorem sl3 : kernelRun0_A.sl.v700 c arg12 fh0 = slabA c fh0 arg12 3 := congrArg (fun L => arg12.view.readCov L (rW 3).toLoadRect) (cs28 c fh0)
theorem sl7 : kernelRun0_A.sl.v771 c arg12 fh0 = slabA c fh0 arg12 7 := congrArg (fun L => arg12.view.readCov L (rW 7).toLoadRect) (cs32 c fh0)
theorem sl8 : kernelRun0_A.sl.v839 c arg12 fh0 = slabA c fh0 arg12 8 := congrArg (fun L => arg12.view.readCov L (rW 8).toLoadRect) (cs36 c fh0)
theorem sl9 : kernelRun0_A.sl.v916 c arg12 fh0 = slabA c fh0 arg12 9 := congrArg (fun L => arg12.view.readCov L (rW 9).toLoadRect) (cs40 c fh0)
theorem sl10 : kernelRun0_A.sl.v993 c arg12 fh0 = slabA c fh0 arg12 10 := congrArg (fun L => arg12.view.readCov L (rW 10).toLoadRect) (cs44 c fh0)
theorem sl11 : kernelRun0_A.sl.v1050 c arg12 fh0 = slabA c fh0 arg12 11 := congrArg (fun L => arg12.view.readCov L (rW 11).toLoadRect) (cs48 c fh0)
end

section
variable (arg1 : Memref sig .tc .vmem S512x2048 .f32) (harg1 : arg1.IsWhole) (arg2 : Memref sig .tc .vmem S2x2048 .f32) (harg2 : arg2.IsWhole)
  (arg4 : Memref sig .tc .vmem S16x2048 .f32) (harg4 : arg4.IsWhole) (arg5 : Memref sig .tc .vmem S16x1024 .f32) (harg5 : arg5.IsWhole)
  (arg6 : Memref sig .tc .vmem S1x1024 .f32) (harg6 : arg6.IsWhole) (arg7 : Memref sig .tc .vmem S1x2048 .f32) (harg7 : arg7.IsWhole)
  (arg12 : Memref sig .tc .vmem S6144x2048 .bf16) (harg12 : arg12.IsWhole) (arg14 : Memref sig .tc .vmem S512x1024 .bf16)
  (x0 : Vec F S512x2048 .f32) (x1 : Vec F S2x2048 .f32) (x2 : Vec F S16x2048 .f32) (x3 : Vec F S16x1024 .f32) (x4 : Vec F S1x1024 .f32) (x5 : Vec F S1x2048 .f32)
  (xs0 : Vec F S6144x2048 .bf16)

/-- The normed rows. -/
def hid : FVec F S512x2048 .bf16 :=
  k0_pay117 (View.readAt (Elt F) arg1.view (Rect.unit (s := S512x2048) ![0, 0] S512x2048.size inb_S512x2048_S512x2048_0_0).toLoadRect (harg1.unread x0))
    (View.readAt (Elt F) arg2.view (Rect.unit (s := S2x2048) ![0, 0] S1x2048.size inb_S2x2048_S1x2048_0_0).toLoadRect (harg2.unread x1))
/-- The narrow projection. -/
def rank : FVec F S512x16 .bf16 :=
  k0_pay123 (hid arg1 harg1 arg2 harg2 x0 x1) (View.readAt (Elt F) arg4.view (Rect.unit (s := S16x2048) ![0, 0] S16x2048.size inb_S16x2048_S16x2048_0_0).toLoadRect (harg4.unread x2))
def gateW : Vec F S16x1024 .f32 := View.readAt (Elt F) arg5.view (Rect.unit (s := S16x1024) ![0, 0] S16x1024.size inb_S16x1024_S16x1024_0_0).toLoadRect (harg5.unread x3)
def gateB : Vec F S1x1024 .f32 := View.readAt (Elt F) arg6.view (Rect.unit (s := S1x1024) ![0, 0] S1x1024.size inb_S1x1024_S1x1024_0_0).toLoadRect (harg6.unread x4)
def ePieces (k : ℕ) : View.Piece (Elt F) S512x1024 .bf16 :=
  ePiece (rank arg1 harg1 arg2 harg2 arg4 harg4 x0 x1 x2) (gateW arg5 harg5 x3) (gateB arg6 harg6 x4) k
def dPieces (k : ℕ) : View.Piece (Elt F) S8x1024 .f32 :=
  dPiece (rank arg1 harg1 arg2 harg2 arg4 harg4 x0 x1 x2) (gateW arg5 harg5 x3) (gateB arg6 harg6 x4) k
def eBlk (n : ℕ) : Vec F S512x512 .bf16 :=
  arg14.view.readCov (eights.map (ePieces arg1 harg1 arg2 harg2 arg4 harg4 arg5 harg5 arg6 harg6 x0 x1 x2 x3 x4)) (rV n).toLoadRect
def gainAt (n : ℕ) : Vec F S1x512 .f32 := View.readAt (Elt F) arg7.view (rG n).toLoadRect (harg7.unread x5)
def slabB (n : ℕ) : Vec F S512x2048 .bf16 := View.readAt (Elt F) arg12.view (rW n).toLoadRect (harg12.unread xs0)
def oPieces (sl : ℕ → Vec F S512x2048 .bf16) (n : ℕ) : View.Piece (Elt F) S512x6144 .bf16 :=
  oPiece (hid arg1 harg1 arg2 harg2 x0 x1) sl (eBlk arg1 harg1 arg2 harg2 arg4 harg4 arg5 harg5 arg6 harg6 arg14 x0 x1 x2 x3 x4) (gainAt arg7 harg7 x5) n

variable (c : Dev nD)

theorem eB : kernelRun0_B.sl.HS2_8 c arg1 harg1 arg2 harg2 arg4 harg4 arg5 harg5 arg6 harg6 x0 x1 x2 x3 x4
    = eights.map (ePieces arg1 harg1 arg2 harg2 arg4 harg4 arg5 harg5 arg6 harg6 x0 x1 x2 x3 x4) := by
  iterate 8 refine map_step _ _ _ _ _ rfl ?_
  rfl
theorem eA : kernelRun0_A.sl.HS2_8 c arg1 harg1 arg2 harg2 arg4 harg4 arg5 harg5 arg6 harg6 x0 x1 x2 x3 x4
    = eights.map (ePieces arg1 harg1 arg2 harg2 arg4 harg4 arg5 harg5 arg6 harg6 x0 x1 x2 x3 x4) := by
  iterate 8 refine map_step _ _ _ _ _ rfl ?_
  rfl
theorem evB0 : kernelRun0_B.sl.v227 c arg1 harg1 arg2 harg2 arg4 harg4 arg5 harg5 arg6 harg6 arg14 x0 x1 x2 x3 x4
    = eBlk arg1 harg1 arg2 harg2 arg4 harg4 arg5 harg5 arg6 harg6 arg14 x0 x1 x2 x3 x4 0 :=
  congrArg (fun L => arg14.view.readCov L (rV 0).toLoadRect) (eB arg1 harg1 arg2 harg2 arg4 harg4 arg5 harg5 arg6 harg6 x0 x1 x2 x3 x4 c)
theorem evB1 : kernelRun0_B.sl.v234 c arg1 harg1 arg2 harg2 arg4 harg4 arg5 harg5 arg6 harg6 arg14 x0 x1 x2 x3 x4
    = eBlk arg1 harg1 arg2 harg2 arg4 harg4 arg5 harg5 arg6 harg6 arg14 x0 x1 x2 x3 x4 1 :=
  congrArg (fun L => arg14.view.readCov L (rV 1).toLoadRect) (eB arg1 harg1 arg2 harg2 arg4 harg4 arg5 harg5 arg6 harg6 x0 x1 x2 x3 x4 c)
theorem evA0 : kernelRun0_A.sl.v631 c arg1 harg1 arg2 harg2 arg4 harg4 arg5 harg5 arg6 harg6 arg14 x0 x1 x2 x3 x4
    = eBlk arg1 harg1 arg2 harg2 arg4 harg4 arg5 harg5 arg6 harg6 arg14 x0 x1 x2 x3 x4 0 :=
  congrArg (fun L => arg14.view.readCov L (rV 0).toLoadRect) (eA arg1 harg1 arg2 harg2 arg4 harg4 arg5 harg5 arg6 harg6 x0 x1 x2 x3 x4 c)
theorem evA1 : kernelRun0_A.sl.v702 c arg1 harg1 arg2 harg2 arg4 harg4 arg5 harg5 arg6 harg6 arg14 x0 x1 x2 x3 x4
    = eBlk arg1 harg1 arg2 harg2 arg4 harg4 arg5 harg5 arg6 harg6 arg14 x0 x1 x2 x3 x4 1 :=
  congrArg (fun L => arg14.view.readCov L (rV 1).toLoadRect) (eA arg1 harg1 arg2 harg2 arg4 harg4 arg5 harg5 arg6 harg6 x0 x1 x2 x3 x4 c)
end

end Cert.Kernel4Ideal.In

end
-- ==== Proof.InSpec.lean ====
module

public import proofs.«01_k».proof.Proof.MixSpec

@[expose] public section

set_option maxRecDepth 16384

noncomputable section

namespace Cert.Kernel4Ideal.In

open Idealize.ShloMosaic Idealize.ShloMosaic.TcCoe Idealize.ShloMosaic.ValueKit
open Cert.Kernel2Ideal.Mix (rms silu silu_eq one_eq)

/-! The gated layer's input projection of one chunk of 64 rows, in the ideal numbers. -/

/-- A row's projection on row `q` of the weight. -/
def into (w : Fin 6144 → Fin 2048 → EReal) (h : Fin 2048 → EReal) (q : Fin 6144) : EReal := ∑ d : Fin 2048, h d * w q d
/-- The gate before its log sigmoid: a projection of rank 16. -/
def pre (wl : Fin 16 → Fin 2048 → EReal) (w2 : Fin 16 → Fin 1024 → EReal) (b : Fin 1024 → EReal) (h : Fin 2048 → EReal) (j : Fin 1024) : EReal :=
  (∑ a : Fin 16, (∑ d : Fin 2048, h d * wl a d) * w2 a j) + b j
/-- The log sigmoid over 16. -/
def logGate (z : EReal) : EReal :=
  (min z 0 - Ideal.log (Ideal.ofBits .f32 0x3F800000#32 + Ideal.exp (0 - max z (-z)))) * Ideal.ofBits .f32 0x3D800000#32
/-- The running sum of a chunk. -/
def cum (l : Fin 64 → EReal) (i : Fin 64) : EReal := ∑ k : Fin 64, if k ≤ i then l k else 0
/-- A chunk's log gates of column `j`. -/
def gates (g : Fin 2048 → EReal) (wl : Fin 16 → Fin 2048 → EReal) (w2 : Fin 16 → Fin 1024 → EReal) (b : Fin 1024 → EReal)
    (x : Fin 64 → Fin 2048 → EReal) (j : Fin 1024) (k : Fin 64) : EReal := logGate (pre wl w2 b (rms (x k) g) j)
/-- The decay from a row to its chunk's end. -/
def fall (g : Fin 2048 → EReal) (wl : Fin 16 → Fin 2048 → EReal) (w2 : Fin 16 → Fin 1024 → EReal) (b : Fin 1024 → EReal)
    (x : Fin 64 → Fin 2048 → EReal) (i : Fin 64) (j : Fin 1024) : EReal :=
  Ideal.exp (cum (gates g wl w2 b x j) (63 : Fin 64) - cum (gates g wl w2 b x j) i)
/-- The decay of a whole chunk. -/
def whole (g : Fin 2048 → EReal) (wl : Fin 16 → Fin 2048 → EReal) (w2 : Fin 16 → Fin 1024 → EReal) (b : Fin 1024 → EReal)
    (x : Fin 64 → Fin 2048 → EReal) (j : Fin 1024) : EReal := Ideal.exp (cum (gates g wl w2 b x j) (63 : Fin 64))
/-- Row `i` of a chunk, column `c`: queries, decayed keys, values, gated outputs. -/
def wide (w : Fin 6144 → Fin 2048 → EReal) (g : Fin 2048 → EReal) (wl : Fin 16 → Fin 2048 → EReal) (w2 : Fin 16 → Fin 1024 → EReal) (b : Fin 1024 → EReal)
    (og : Fin 2048 → EReal) (x : Fin 64 → Fin 2048 → EReal) (i : Fin 64) (c : Fin 6144) : EReal :=
  if c.val / 1024 = 1 then into w (rms (x i) g) c * fall g wl w2 b x i (⟨c.val % 1024, by omega⟩ : Fin 1024)
  else if 4096 ≤ c.val then silu (into w (rms (x i) g) c) * og (⟨c.val % 2048, by omega⟩ : Fin 2048)
  else into w (rms (x i) g) c

/-! ### The log sigmoid -/

theorem sixteenth_eq : Ideal.ofBits .f32 0x3D800000#32 = ((1 / 16 : ℝ) : EReal) := by
  simp [Ideal.ofBits, Ideal.ieee, -EReal.coe_mul]; norm_num
theorem sixteen_eq : Ideal.ofBits .f32 0x41800000#32 = ((16 : ℝ) : EReal) := by
  simp [Ideal.ofBits, Ideal.ieee, -EReal.coe_mul]; norm_num

theorem log_one' : Ideal.log 1 = 0 := by
  rw [← EReal.coe_one, Ideal.log_coe, if_neg (by norm_num), Real.log_one, EReal.coe_zero]
theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min
theorem soft_coe (r : ℝ) : Ideal.log (1 + Ideal.exp (-max (r : EReal) (-(r : EReal)))) = ((Real.log (1 + Real.exp (-max r (-r))) : ℝ) : EReal) := by
  have hp : 0 < 1 + Real.exp (-max r (-r)) := by positivity
  rw [← EReal.coe_neg r, ← coe_max', ← EReal.coe_neg, Ideal.exp_coe, ← EReal.coe_one, ← EReal.coe_add, Ideal.log_coe, if_neg (by linarith)]

/-- The log sigmoid, as the reference forms it. -/
theorem logGate_eq (z : EReal) : Ideal.div (-(max (-z) 0 + Ideal.log1p (Ideal.exp (-max (-z - 0) (-(-z - 0)))))) (Ideal.ofBits .f32 0x41800000#32) = logGate z := by
  unfold logGate Ideal.log1p
  rw [sixteenth_eq, sixteen_eq, one_eq, Ideal.div_coe (by norm_num), EReal.coe_one, sub_zero, neg_neg, zero_sub, max_comm (-z) z]
  congr 1
  induction z using EReal.rec with
  | bot =>
    simp [log_one']
  | top =>
    simp [log_one']
  | coe r =>
    rw [soft_coe, ← EReal.coe_neg r, ← EReal.coe_zero, ← coe_max', ← coe_min', ← EReal.coe_add, ← EReal.coe_neg, ← EReal.coe_sub]
    congr 1
    rcases le_total r 0 with h | h
    · rw [max_eq_left (by linarith), min_eq_left h]; ring
    · rw [max_eq_right (by linarith), min_eq_right h]; ring

/-- The log gate is not above the reals. -/
theorem logGate_ne_top (z : EReal) : logGate z ≠ ⊤ := by
  unfold logGate
  rw [sixteenth_eq, one_eq, EReal.coe_one, zero_sub]
  induction z using EReal.rec with
  | bot =>
    simp [log_one', EReal.bot_mul_coe_of_pos]
  | top =>
    simp [log_one']
  | coe r =>
    rw [soft_coe, ← EReal.coe_zero, ← coe_min', ← EReal.coe_sub, ← EReal.coe_mul]
    exact EReal.coe_ne_top _

/-! ### The running sums -/

/-- A value and its remainder, weighted by zero or one, add to the value so weighted. -/
theorem split_mul (p : Prop) [Decidable p] (l : EReal) (h : l ≠ ⊤) : (if p then (1 : EReal) else 0) * l + (if p then (1 : EReal) else 0) * (l - l) = if p then l else 0 := by
  by_cases hp : p
  · simp only [if_pos hp, one_mul]
    induction l using EReal.rec with
    | bot => simp
    | top => exact absurd rfl h
    | coe r => rw [← EReal.coe_sub, ← EReal.coe_add]; congr 1; ring
  · simp only [if_neg hp, zero_mul, add_zero]

/-- The running sums of four chunks by one triangular product, of the values and of their remainders. -/
theorem tri_sum (l : Fin 256 → EReal) (h : ∀ k, l k ≠ ⊤) (r : Fin 256) :
    (∑ k : Fin 256, (if k.val ≤ r.val ∧ k.val / 64 = r.val / 64 then (1 : EReal) else 0) * l k)
        + ∑ k : Fin 256, (if k.val ≤ r.val ∧ k.val / 64 = r.val / 64 then (1 : EReal) else 0) * (l k - l k)
      = cum (fun k => l (⟨64 * (r.val / 64) + k.val, by omega⟩ : Fin 256)) (⟨r.val % 64, by omega⟩ : Fin 64) := by
  rw [← Finset.sum_add_distrib]
  unfold cum
  refine (Finset.sum_congr rfl fun k _ => split_mul _ (l k) (h k)).trans ?_
  rw [← Finset.sum_filter, ← Finset.sum_filter]
  refine Finset.sum_nbij' (fun k => (⟨k.val % 64, by omega⟩ : Fin 64)) (fun k => (⟨64 * (r.val / 64) + k.val, by omega⟩ : Fin 256)) ?_ ?_ ?_ ?_ ?_
  · intro k hk
    simp only [Finset.mem_filter, Finset.mem_univ, true_and, Fin.le_def] at hk ⊢
    omega
  · intro k hk
    simp only [Finset.mem_filter, Finset.mem_univ, true_and, Fin.le_def] at hk ⊢
    omega
  · intro k hk
    simp only [Finset.mem_filter, Finset.mem_univ, true_and] at hk
    apply Fin.ext
    show 64 * (r.val / 64) + k.val % 64 = k.val; omega
  · intro k hk
    apply Fin.ext
    show (64 * (r.val / 64) + k.val) % 64 = k.val; omega
  · intro k hk
    simp only [Finset.mem_filter, Finset.mem_univ, true_and] at hk
    refine congrArg l (Fin.ext ?_)
    show k.val = 64 * (r.val / 64) + k.val % 64; omega

end Cert.Kernel4Ideal.In

end
-- ==== Proof.InPay.lean ====
module

public import proofs.«01_k».proof.Proof.InPieces
public import proofs.«01_k».proof.Proof.InSpec

@[expose] public section

set_option maxRecDepth 65536

noncomputable section

namespace Cert.Kernel4Ideal.In

open Cert.Kernel4Ideal Cert.Kernel4Ideal.Gen Idealize.ShloMosaic Idealize.ShloMosaic.TcCoe Idealize.ShloMosaic.ValueKit
open Cert.Kernel2Ideal.Mix (rms silu)

/-! What the writes hold at an index, in the ideal numbers. -/

theorem norm_at (x : FVec Ideal S512x2048 .f32) (g : FVec Ideal S1x2048 .f32) (r : Fin 512) (d : Fin 2048) :
    k0_pay117 (F := Ideal) x g (ix2 r d) = rms (fun e => x (ix2 r e)) (fun e => g (ix2 (0 : Fin 1) e)) d := by
  unfold rms
  pointwise [k0_pay117]

theorem slab_mul (h w : FVec Ideal S512x2048 .bf16) (r j : Fin 512) :
    k0_pay122 (F := Ideal) h w (ix2 r j) = ∑ d : Fin 2048, h (ix2 r d) * w (ix2 j d) := by
  pointwise [k0_pay122]

theorem key_at (h w : FVec Ideal S512x2048 .bf16) (e : FVec Ideal S512x512 .bf16) (r j : Fin 512) :
    k0_pay166 (F := Ideal) h w e (ix2 r j) = (∑ d : Fin 2048, h (ix2 r d) * w (ix2 j d)) * e (ix2 r j) := by
  pointwise [k0_pay166]

theorem gain_at (h w : FVec Ideal S512x2048 .bf16) (g : FVec Ideal S1x512 .f32) (r j : Fin 512) :
    k0_pay169 (F := Ideal) h w g (ix2 r j) = silu (∑ d : Fin 2048, h (ix2 r d) * w (ix2 j d)) * g (ix2 (0 : Fin 1) j) := by
  unfold silu
  pointwise [k0_pay169]

theorem rank_at (h : FVec Ideal S512x2048 .bf16) (w : FVec Ideal S16x2048 .f32) (r : Fin 512) (a : Fin 16) :
    k0_pay123 (F := Ideal) h w (ix2 r a) = ∑ d : Fin 2048, h (ix2 r d) * w (ix2 a d) := by
  pointwise [k0_pay123]

theorem gate_at (p : FVec Ideal S512x16 .bf16) (w2 : FVec Ideal S16x1024 .f32) (b : FVec Ideal S1x1024 .f32) (r : Fin 512) (j : Fin 1024) :
    k0_pay125 (F := Ideal) p w2 b (ix2 r j) = logGate ((∑ a : Fin 16, p (ix2 r a) * w2 (ix2 a j)) + b (ix2 (0 : Fin 1) j)) := by
  unfold logGate
  pointwise [k0_pay125]
  rfl

theorem high_at (p : FVec Ideal S512x16 .bf16) (w2 : FVec Ideal S16x1024 .f32) (b : FVec Ideal S1x1024 .f32) (r : Fin 512) (j : Fin 1024) :
    k0_pay126 (F := Ideal) p w2 b (ix2 r j) = k0_pay125 (F := Ideal) p w2 b (ix2 r j) := rfl
theorem low_at (p : FVec Ideal S512x16 .bf16) (w2 : FVec Ideal S16x1024 .f32) (b : FVec Ideal S1x1024 .f32) (r : Fin 512) (j : Fin 1024) :
    k0_pay127 (F := Ideal) p w2 b (ix2 r j) = (k0_pay125 (F := Ideal) p w2 b (ix2 r j) - k0_pay125 (F := Ideal) p w2 b (ix2 r j) : EReal) := rfl

/-- The triangular product on the first rows. -/
theorem first_at (t : FVec Ideal S256x256 .bf16) (p : FVec Ideal S512x16 .bf16) (w2 : FVec Ideal S16x1024 .f32) (b : FVec Ideal S1x1024 .f32) (r : Fin 256) (j : Fin 1024) :
    k0_pay129 (F := Ideal) t p w2 b (ix2 r j)
      = (∑ k : Fin 256, t (ix2 r k) * k0_pay126 (F := Ideal) p w2 b (ix2 (⟨0 + k.val, by omega⟩ : Fin 512) j))
        + ∑ k : Fin 256, t (ix2 r k) * k0_pay127 (F := Ideal) p w2 b (ix2 (⟨0 + k.val, by omega⟩ : Fin 512) j) := by
  pointwise [k0_pay129]
/-- The triangular product on the last rows. -/
theorem second_at (t : FVec Ideal S256x256 .bf16) (u v : FVec Ideal S512x1024 .bf16) (r : Fin 256) (j : Fin 1024) :
    k0_pay147 (F := Ideal) t u v (ix2 r j)
      = (∑ k : Fin 256, t (ix2 r k) * u (ix2 (⟨256 + k.val, by omega⟩ : Fin 512) j))
        + ∑ k : Fin 256, t (ix2 r k) * v (ix2 (⟨256 + k.val, by omega⟩ : Fin 512) j) := by
  pointwise [k0_pay147]

theorem rows_at (s : FVec Ideal S256x1024 .f32) (k : ℕ) (i : Fin 64) (j : Fin 1024) :
    rowsOf (F := Ideal) s k (ix2 i j) = s (ix2 (⟨64 * (k % 4) + i.val, by omega⟩ : Fin 256) j) := by
  pointwise [rowsOf]
theorem last_at (s : FVec Ideal S64x1024 .f32) (i : Fin 1) (j : Fin 1024) : lastOf (F := Ideal) s (ix2 i j) = s (ix2 (63 : Fin 64) j) := by
  obtain rfl : i = 0 := Subsingleton.elim _ _
  pointwise [lastOf]
theorem fall_at (s : FVec Ideal S64x1024 .f32) (l : FVec Ideal S1x1024 .f32) (i : Fin 64) (j : Fin 1024) :
    k0_pay132 (F := Ideal) s l (ix2 i j) = Ideal.exp (l (ix2 (0 : Fin 1) j) - s (ix2 i j)) := by
  pointwise [k0_pay132]
theorem whole_at (l : FVec Ideal S1x1024 .f32) (i : Fin 1) (j : Fin 1024) : k0_pay133 (F := Ideal) l (ix2 i j) = Ideal.exp (l (ix2 i j)) := by
  pointwise [k0_pay133]
theorem copy_at (v : FVec Ideal S128x2048 .f32) (i : Fin 128) (d : Fin 2048) : k0_pay13 (F := Ideal) (Cert.Slot.up v) (ix2 i d) = v (ix2 i d) := by
  unfold Cert.Slot.up
  pointwise [k0_pay13]

/-! The triangles. -/

/-- The quotient by 64, rounded down. -/
theorem quot_at : ∀ r : Fin 256, Scalar.select
    (IntOp.andi
      (IntOp.cmpi CmpIPredicate.ne
        (IntOp.subi (BitVec.setWidth 32 (IntOp.cmpi CmpIPredicate.sgt (BitVec.ofNat 32 r.val) 0#32))
          (BitVec.setWidth 32 (IntOp.cmpi CmpIPredicate.slt (BitVec.ofNat 32 r.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 r.val) 64#32) 0#32))
    (IntOp.subi (IntOp.divsi ArithUnit.vector (BitVec.ofNat 32 r.val) 64#32) 1#32)
    (IntOp.divsi ArithUnit.vector (BitVec.ofNat 32 r.val) 64#32) = BitVec.ofNat 32 (r.val / 64) := by decide +kernel
theorem ge_at : ∀ r k : Fin 256, IntOp.cmpi CmpIPredicate.sge (BitVec.ofNat 32 r.val) (BitVec.ofNat 32 k.val) = if k.val ≤ r.val then 1#1 else 0#1 := by
  decide +kernel
theorem same_at : ∀ a b : Fin 4, IntOp.cmpi CmpIPredicate.eq (BitVec.ofNat 32 a.val) (BitVec.ofNat 32 b.val) = if b.val = a.val then 1#1 else 0#1 := by
  decide +kernel

theorem tri_at (r k : Fin 256) : tri (F := Ideal) (ix2 r k) = if k.val ≤ r.val ∧ k.val / 64 = r.val / 64 then (1 : EReal) else 0 := by
  pointwise [tri, k0_pay121, k0_pay118, k0_pay119, k0_pay120]
  rw [quot_at r, quot_at k, ge_at r k, same_at ⟨r.val / 64, by omega⟩ ⟨k.val / 64, by omega⟩]
  by_cases h1 : k.val ≤ r.val
  · by_cases h2 : k.val / 64 = r.val / 64
    · rw [if_pos h1, if_pos h2, if_pos ⟨h1, h2⟩]; rfl
    · rw [if_pos h1, if_neg h2, if_neg fun h => h2 h.2]; rfl
  · by_cases h2 : k.val / 64 = r.val / 64
    · rw [if_neg h1, if_pos h2, if_neg fun h => h1 h.1]; rfl
    · rw [if_neg h1, if_neg h2, if_neg fun h => h1 h.1]; rfl

/-! The running sums and the decays. -/

section
variable (p : FVec Ideal S512x16 .bf16) (w2 : FVec Ideal S16x1024 .f32) (b : FVec Ideal S1x1024 .f32)

/-- A row's log gate. -/
def gateOf (r : Fin 512) (j : Fin 1024) : EReal := logGate ((∑ a : Fin 16, p (ix2 r a) * w2 (ix2 a j)) + b (ix2 (0 : Fin 1) j))

theorem sum_rows (o : ℕ) (ho : o + 256 ≤ 512) (r : Fin 256) (j : Fin 1024) :
    (∑ k : Fin 256, tri (F := Ideal) (ix2 r k) * k0_pay126 (F := Ideal) p w2 b (ix2 (⟨o + k.val, by omega⟩ : Fin 512) j))
        + ∑ k : Fin 256, tri (F := Ideal) (ix2 r k) * k0_pay127 (F := Ideal) p w2 b (ix2 (⟨o + k.val, by omega⟩ : Fin 512) j)
      = cum (fun k => gateOf p w2 b (⟨o + (64 * (r.val / 64) + k.val), by omega⟩ : Fin 512) j) (⟨r.val % 64, by omega⟩ : Fin 64) := by
  refine Eq.trans ?_ (tri_sum (fun k => gateOf p w2 b (⟨o + k.val, by omega⟩ : Fin 512) j) (fun k => logGate_ne_top _) r)
  refine congrArg₂ (fun a b : EReal => a + b) (Finset.sum_congr rfl fun k _ => congrArg₂ (fun a b : EReal => a * b) (tri_at r k) ?_)
    (Finset.sum_congr rfl fun k _ => congrArg₂ (fun a b : EReal => a * b) (tri_at r k) ?_)
  · exact (high_at p w2 b _ j).trans (gate_at p w2 b _ j)
  · exact (low_at p w2 b _ j).trans (congrArg (fun z : EReal => z - z) (gate_at p w2 b _ j))

theorem half_at (k : ℕ) (hk : k < 8) (i : Fin 64) (j : Fin 1024) :
    rowsOf (F := Ideal) (half (F := Ideal) p w2 b k) k (ix2 i j) = cum (fun q => gateOf p w2 b (⟨64 * k + q.val, by omega⟩ : Fin 512) j) i := by
  rw [rows_at]
  unfold half
  by_cases h : k < 4
  · rw [show Nat.blt k 4 = true from by rw [Nat.blt_eq]; exact h, cond_true]
    refine ((first_at _ p w2 b _ j).trans (sum_rows p w2 b 0 (by omega) _ j)).trans ?_
    refine congrArg₂ cum (funext fun q => congrArg (fun r => gateOf p w2 b r j) (Fin.ext ?_)) (Fin.ext ?_)
    · show 0 + (64 * ((64 * (k % 4) + i.val) / 64) + q.val) = 64 * k + q.val; omega
    · show (64 * (k % 4) + i.val) % 64 = i.val; omega
  · rw [show Nat.blt k 4 = false from by rw [← Bool.not_eq_true, Nat.blt_eq]; exact h, cond_false]
    refine ((second_at _ _ _ _ j).trans (sum_rows p w2 b 256 (by omega) _ j)).trans ?_
    refine congrArg₂ cum (funext fun q => congrArg (fun r => gateOf p w2 b r j) (Fin.ext ?_)) (Fin.ext ?_)
    · show 256 + (64 * ((64 * (k % 4) + i.val) / 64) + q.val) = 64 * k + q.val; omega
    · show (64 * (k % 4) + i.val) % 64 = i.val; omega
end

end Cert.Kernel4Ideal.In

end
-- ==== Proof.InPoint.lean ====
module

public import proofs.«01_k».proof.Proof.InPay
public import Idealize.ShloMosaic.Lib.Pipeline.ReadBack
public import Idealize.ShloMosaic.Lib.Pipeline.CanonAppend

@[expose] public section

set_option maxRecDepth 65536

noncomputable section

namespace Cert.Kernel4Ideal.In

open Cert.Kernel4Ideal Cert.Kernel4Ideal.Gen Idealize.ShloMosaic Idealize.ShloMosaic.TcCoe Idealize.ShloMosaic.ValueKit
open Cert.Kernel2Ideal.Mix (rms silu)

/-! What a grid point's writes read back as. -/

/-- Pieces that agree with one array, read back where one of them covers. -/
theorem canon_map {s : Shape} {e : EltTy} (P : ℕ → View.Piece (Elt Ideal) s e) (ns : List ℕ) (G : s.Idx → Elt Ideal e)
    (hP : ∀ n ∈ ns, ∀ x : (P n).1.shape.Idx, (P n).2 x = G ((P n).1.emb x)) (y : s.Idx) (n : ℕ) (hn : n ∈ ns) (hy : y ∈ (P n).1.set) :
    View.canon (ns.map P) y = G y := by
  refine (congrArg (fun L => View.canon L y) (List.append_nil (ns.map P)).symm).trans
    (View.canon_append_of_pieces G [] (ns.map P) (fun p hp x => ?_) y ⟨P n, List.mem_map_of_mem hn, hy⟩)
  obtain ⟨k, hk, rfl⟩ := List.mem_map.1 hp
  exact hP k hk x

theorem of_ix2 {a b : ℕ} (y : (⟨2, ![a, b]⟩ : Shape).Idx) : ∃ (i : Fin a) (j : Fin b), y = ix2 i j := by
  refine ⟨(y 0 : Fin a), (y 1 : Fin b), funext fun k => ?_⟩
  obtain ⟨_ | _ | k, hk⟩ := k
  · rfl
  · rfl
  · exact absurd hk (by simp)

theorem emb_E (k : ℕ) (i : Fin 64) (j : Fin 1024) : (rE k).emb (ix2 i j) = (ix2 (⟨64 * (k % 8) + i.val, by omega⟩ : Fin 512) j : S512x1024.Idx) := by
  funext a; apply Fin.ext
  obtain ⟨_ | _ | a, ha⟩ := a
  · show 64 * (k % 8) + 1 * i.val = 64 * (k % 8) + i.val; omega
  · show 0 + 1 * j.val = j.val; omega
  · exact absurd ha (by simp)
theorem emb_D (k : ℕ) (i : Fin 1) (j : Fin 1024) : (rD k).emb (ix2 i j) = (ix2 (⟨k % 8, by omega⟩ : Fin 8) j : S8x1024.Idx) := by
  funext a; apply Fin.ext
  obtain ⟨_ | _ | a, ha⟩ := a
  · show k % 8 + 1 * i.val = k % 8; omega
  · show 0 + 1 * j.val = j.val; omega
  · exact absurd ha (by simp)
theorem emb_O (n : ℕ) (r j : Fin 512) : (rO n).emb (ix2 r j) = (ix2 r (⟨512 * (n % 12) + j.val, by omega⟩ : Fin 6144) : S512x6144.Idx) := by
  funext a; apply Fin.ext
  obtain ⟨_ | _ | a, ha⟩ := a
  · show 0 + 1 * r.val = r.val; omega
  · show 512 * (n % 12) + 1 * j.val = 512 * (n % 12) + j.val; omega
  · exact absurd ha (by simp)
theorem emb_W (n : ℕ) (j : Fin 512) (d : Fin 2048) : (rW n).emb (ix2 j d) = (ix2 (⟨512 * (n % 12) + j.val, by omega⟩ : Fin 6144) d : S6144x2048.Idx) := by
  funext a; apply Fin.ext
  obtain ⟨_ | _ | a, ha⟩ := a
  · show 512 * (n % 12) + 1 * j.val = 512 * (n % 12) + j.val; omega
  · show 0 + 1 * d.val = d.val; omega
  · exact absurd ha (by simp)
theorem emb_V (n : ℕ) (r j : Fin 512) : (rV n).emb (ix2 r j) = (ix2 r (⟨512 * (n % 2) + j.val, by omega⟩ : Fin 1024) : S512x1024.Idx) := by
  funext a; apply Fin.ext
  obtain ⟨_ | _ | a, ha⟩ := a
  · show 0 + 1 * r.val = r.val; omega
  · show 512 * (n % 2) + 1 * j.val = 512 * (n % 2) + j.val; omega
  · exact absurd ha (by simp)
theorem emb_G (n : ℕ) (i : Fin 1) (j : Fin 512) : (rG n).emb (ix2 i j) = (ix2 (0 : Fin 1) (⟨512 * (n % 4) + j.val, by omega⟩ : Fin 2048) : S1x2048.Idx) := by
  funext a; apply Fin.ext
  obtain ⟨_ | _ | a, ha⟩ := a
  · show 0 + 1 * i.val = 0; omega
  · show 512 * (n % 4) + 1 * j.val = 512 * (n % 4) + j.val; omega
  · exact absurd ha (by simp)
theorem emb_C (k : ℕ) (i : Fin 128) (d : Fin 2048) : (rC k).emb (ix2 i d) = (ix2 (⟨128 * (k % 48) + i.val, by omega⟩ : Fin 6144) d : S6144x2048.Idx) := by
  funext a; apply Fin.ext
  obtain ⟨_ | _ | a, ha⟩ := a
  · show 128 * (k % 48) + 1 * i.val = 128 * (k % 48) + i.val; omega
  · show 0 + 1 * d.val = d.val; omega
  · exact absurd ha (by simp)
theorem emb_H (k : ℕ) (i : Fin 128) (d : Fin 2048) : (rH k).emb (ix2 i d) = (ix2 (⟨128 * (k % 48) + i.val, by omega⟩ : Fin 6160) d : S6160x2048.Idx) := by
  funext a; apply Fin.ext
  obtain ⟨_ | _ | a, ha⟩ := a
  · show 128 * (k % 48) + 1 * i.val = 128 * (k % 48) + i.val; omega
  · show 0 + 1 * d.val = d.val; omega
  · exact absurd ha (by simp)

theorem mem_E (k : ℕ) (r : Fin 512) (j : Fin 1024) (h : k % 8 = r.val / 64) : (ix2 r j : S512x1024.Idx) ∈ (rE k).set := by
  refine Rect.mem_set_unit.2 fun a => ?_
  obtain ⟨_ | _ | a, ha⟩ := a
  · show 64 * (k % 8) ≤ r.val ∧ r.val < 64 * (k % 8) + 64; omega
  · show 0 ≤ j.val ∧ j.val < 0 + 1024; omega
  · exact absurd ha (by simp)
theorem mem_D (k : ℕ) (r : Fin 8) (j : Fin 1024) (h : k % 8 = r.val) : (ix2 r j : S8x1024.Idx) ∈ (rD k).set := by
  refine Rect.mem_set_unit.2 fun a => ?_
  obtain ⟨_ | _ | a, ha⟩ := a
  · show k % 8 ≤ r.val ∧ r.val < k % 8 + 1; omega
  · show 0 ≤ j.val ∧ j.val < 0 + 1024; omega
  · exact absurd ha (by simp)
theorem mem_O (n : ℕ) (r : Fin 512) (c : Fin 6144) (h : n % 12 = c.val / 512) : (ix2 r c : S512x6144.Idx) ∈ (rO n).set := by
  refine Rect.mem_set_unit.2 fun a => ?_
  obtain ⟨_ | _ | a, ha⟩ := a
  · show 0 ≤ r.val ∧ r.val < 0 + 512; omega
  · show 512 * (n % 12) ≤ c.val ∧ c.val < 512 * (n % 12) + 512; omega
  · exact absurd ha (by simp)
theorem mem_C (k : ℕ) (q : Fin 6144) (d : Fin 2048) (h : k % 48 = q.val / 128) : (ix2 q d : S6144x2048.Idx) ∈ (rC k).set := by
  refine Rect.mem_set_unit.2 fun a => ?_
  obtain ⟨_ | _ | a, ha⟩ := a
  · show 128 * (k % 48) ≤ q.val ∧ q.val < 128 * (k % 48) + 128; omega
  · show 0 ≤ d.val ∧ d.val < 0 + 2048; omega
  · exact absurd ha (by simp)

theorem in_eights : ∀ k : Fin 8, k.val ∈ eights := by decide
theorem of_eights : ∀ k ∈ eights, k < 8 := by decide
theorem in_slabs : ∀ k : Fin 12, k.val ∈ slabs := by decide
theorem of_slabs : ∀ k ∈ slabs, k < 12 := by decide
theorem in_copied : ∀ k : Fin 12, ∀ j : Fin 4, 4 * k.val + j.val ∈ copied (slabPos k.val + 1) := by decide +kernel
theorem in_all : ∀ k : Fin 48, k.val ∈ copied 12 := by decide +kernel

abbrev chunkRows (x0 : FVec Ideal S512x2048 .f32) (n : ℕ) (hn : n < 8) : Fin 64 → Fin 2048 → EReal := fun k e => x0 (ix2 (⟨64 * n + k.val, by omega⟩ : Fin 512) e)
abbrev gainRow (x1 : FVec Ideal S2x2048 .f32) : Fin 2048 → EReal := fun e => x1 (ix2 (0 : Fin 2) e)
abbrev thinRows (x2 : FVec Ideal S16x2048 .f32) : Fin 16 → Fin 2048 → EReal := fun a d => x2 (ix2 a d)
abbrev rankRows (x3 : FVec Ideal S16x1024 .f32) : Fin 16 → Fin 1024 → EReal := fun a j => x3 (ix2 a j)
abbrev biasRow (x4 : FVec Ideal S1x1024 .f32) : Fin 1024 → EReal := fun j => x4 (ix2 (0 : Fin 1) j)
abbrev flatRow (x5 : FVec Ideal S1x2048 .f32) : Fin 2048 → EReal := fun e => x5 (ix2 (0 : Fin 1) e)

section
variable (arg1 : Memref sig .tc .vmem S512x2048 .f32) (harg1 : arg1.IsWhole) (arg2 : Memref sig .tc .vmem S2x2048 .f32) (harg2 : arg2.IsWhole)
  (arg4 : Memref sig .tc .vmem S16x2048 .f32) (harg4 : arg4.IsWhole) (arg5 : Memref sig .tc .vmem S16x1024 .f32) (harg5 : arg5.IsWhole)
  (arg6 : Memref sig .tc .vmem S1x1024 .f32) (harg6 : arg6.IsWhole) (arg7 : Memref sig .tc .vmem S1x2048 .f32) (harg7 : arg7.IsWhole)
  (arg12 : Memref sig .tc .vmem S6144x2048 .bf16) (harg12 : arg12.IsWhole) (arg14 : Memref sig .tc .vmem S512x1024 .bf16)
  (x0 : FVec Ideal S512x2048 .f32) (x1 : FVec Ideal S2x2048 .f32) (x2 : FVec Ideal S16x2048 .f32) (x3 : FVec Ideal S16x1024 .f32) (x4 : FVec Ideal S1x1024 .f32)
  (x5 : FVec Ideal S1x2048 .f32) (xs0 : FVec Ideal S6144x2048 .bf16)

theorem hid_at (r : Fin 512) (d : Fin 2048) : hid (F := Ideal) arg1 harg1 arg2 harg2 x0 x1 (ix2 r d) = rms (fun e => x0 (ix2 r e)) (gainRow x1) d := by
  refine (norm_at _ _ r d).trans ?_
  rw [View.readAt_eq_ld, View.readAt_eq_ld, harg1.read_unread, harg2.read_unread]
  refine congrArg₂ (fun a b => rms a b d) (funext fun e => congrArg x0 ?_) (funext fun e => congrArg x1 ?_)
  · funext a; apply Fin.ext
    obtain ⟨_ | _ | a, ha⟩ := a
    · show 0 + 1 * r.val = r.val; omega
    · show 0 + 1 * e.val = e.val; omega
    · exact absurd ha (by simp)
  · funext a; apply Fin.ext
    obtain ⟨_ | _ | a, ha⟩ := a
    · rfl
    · show 0 + 1 * e.val = e.val; omega
    · exact absurd ha (by simp)

theorem thin_at (r : Fin 512) (a : Fin 16) : rank (F := Ideal) arg1 harg1 arg2 harg2 arg4 harg4 x0 x1 x2 (ix2 r a)
    = ∑ d : Fin 2048, rms (fun e => x0 (ix2 r e)) (gainRow x1) d * thinRows x2 a d := by
  refine (rank_at _ _ r a).trans (Finset.sum_congr rfl fun d _ => congrArg₂ (fun a b : EReal => a * b) (hid_at arg1 harg1 arg2 harg2 x0 x1 r d) ?_)
  rw [View.readAt_eq_ld, harg4.read_unread]
  refine congrArg x2 ?_
  funext b; apply Fin.ext
  obtain ⟨_ | _ | b, hb⟩ := b
  · show 0 + 1 * a.val = a.val; omega
  · show 0 + 1 * d.val = d.val; omega
  · exact absurd hb (by simp)

theorem gateW_at (a : Fin 16) (j : Fin 1024) : gateW (F := Ideal) arg5 harg5 x3 (ix2 a j) = x3 (ix2 a j) := by
  unfold gateW
  rw [View.readAt_eq_ld, harg5.read_unread]
  refine congrArg x3 ?_
  funext b; apply Fin.ext
  obtain ⟨_ | _ | b, hb⟩ := b
  · show 0 + 1 * a.val = a.val; omega
  · show 0 + 1 * j.val = j.val; omega
  · exact absurd hb (by simp)
theorem gateB_at (j : Fin 1024) : gateB (F := Ideal) arg6 harg6 x4 (ix2 (0 : Fin 1) j) = x4 (ix2 (0 : Fin 1) j) := by
  unfold gateB
  rw [View.readAt_eq_ld, harg6.read_unread]
  refine congrArg x4 ?_
  funext b; apply Fin.ext
  obtain ⟨_ | _ | b, hb⟩ := b
  · rfl
  · show 0 + 1 * j.val = j.val; omega
  · exact absurd hb (by simp)
theorem gainAt_at (n : ℕ) (j : Fin 512) : gainAt (F := Ideal) arg7 harg7 x5 n (ix2 (0 : Fin 1) j) = flatRow x5 (⟨512 * (n % 4) + j.val, by omega⟩ : Fin 2048) := by
  unfold gainAt
  rw [View.readAt_eq_ld, harg7.read_unread]
  exact congrArg x5 (emb_G n 0 j)
theorem slabB_at (n : ℕ) (j : Fin 512) (d : Fin 2048) : slabB (F := Ideal) arg12 harg12 xs0 n (ix2 j d) = xs0 (ix2 (⟨512 * (n % 12) + j.val, by omega⟩ : Fin 6144) d) := by
  unfold slabB
  rw [View.readAt_eq_ld, harg12.read_unread]
  exact congrArg xs0 (emb_W n j d)

theorem gateOf_at (r : Fin 512) (j : Fin 1024) :
    gateOf (rank (F := Ideal) arg1 harg1 arg2 harg2 arg4 harg4 x0 x1 x2) (gateW (F := Ideal) arg5 harg5 x3) (gateB (F := Ideal) arg6 harg6 x4) r j
      = logGate (pre (thinRows x2) (rankRows x3) (biasRow x4) (rms (fun e => x0 (ix2 r e)) (gainRow x1)) j) := by
  unfold gateOf pre
  refine congrArg logGate (congrArg₂ (fun a b : EReal => a + b) (Finset.sum_congr rfl fun a _ => congrArg₂ (fun a b : EReal => a * b) ?_ ?_) ?_)
  · exact thin_at arg1 harg1 arg2 harg2 arg4 harg4 x0 x1 x2 r a
  · exact gateW_at arg5 harg5 x3 a j
  · exact gateB_at arg6 harg6 x4 j

/-- The summed log gates of a chunk. -/
theorem sums_at (k : ℕ) (hk : k < 8) (i : Fin 64) (j : Fin 1024) :
    rowsOf (F := Ideal) (half (F := Ideal) (rank arg1 harg1 arg2 harg2 arg4 harg4 x0 x1 x2) (gateW arg5 harg5 x3) (gateB arg6 harg6 x4) k) k (ix2 i j)
      = cum (gates (gainRow x1) (thinRows x2) (rankRows x3) (biasRow x4) (chunkRows x0 k hk) j) i := by
  refine (half_at _ _ _ k hk i j).trans (congrArg (fun l => cum l i) (funext fun q => ?_))
  exact gateOf_at arg1 harg1 arg2 harg2 arg4 harg4 arg5 harg5 arg6 harg6 x0 x1 x2 x3 x4 _ j

/-- The decays to the chunks' ends. -/
def fallsRow (r : Fin 512) (j : Fin 1024) : EReal :=
  fall (gainRow x1) (thinRows x2) (rankRows x3) (biasRow x4) (chunkRows x0 (r.val / 64) (by omega)) (⟨r.val % 64, by omega⟩ : Fin 64) j
def falls : Vec Ideal S512x1024 .bf16 := fun y => fallsRow x0 x1 x2 x3 x4 (y 0 : Fin 512) (y 1 : Fin 1024)
/-- The decays of the chunks. -/
def wholesRow (n : Fin 8) (j : Fin 1024) : EReal := whole (gainRow x1) (thinRows x2) (rankRows x3) (biasRow x4) (chunkRows x0 n.val n.isLt) j
def wholes : Vec Ideal S8x1024 .f32 := fun y => wholesRow x0 x1 x2 x3 x4 (y 0 : Fin 8) (y 1 : Fin 1024)

theorem falls_at (k : ℕ) (hk : k < 8) (i : Fin 64) (j : Fin 1024) (r : Fin 512) (hr : r.val = 64 * k + i.val) :
    falls x0 x1 x2 x3 x4 (ix2 r j) = fall (gainRow x1) (thinRows x2) (rankRows x3) (biasRow x4) (chunkRows x0 k hk) i j := by
  have h1 : r.val / 64 = k := by omega
  have h2 : (⟨r.val % 64, by omega⟩ : Fin 64) = i := Fin.ext (by show r.val % 64 = i.val; omega)
  subst h1
  show fall _ _ _ _ (chunkRows x0 (r.val / 64) _) (⟨r.val % 64, _⟩ : Fin 64) j = _
  rw [h2]

theorem e_read (r : Fin 512) (j : Fin 1024) :
    View.canon (eights.map (ePieces (F := Ideal) arg1 harg1 arg2 harg2 arg4 harg4 arg5 harg5 arg6 harg6 x0 x1 x2 x3 x4)) (ix2 r j) = falls x0 x1 x2 x3 x4 (ix2 r j) := by
  refine canon_map (e := .bf16) (ePieces (F := Ideal) arg1 harg1 arg2 harg2 arg4 harg4 arg5 harg5 arg6 harg6 x0 x1 x2 x3 x4) eights (falls x0 x1 x2 x3 x4) (fun k hk x => ?_) (ix2 r j) (r.val / 64) (in_eights ⟨r.val / 64, by omega⟩) ?_
  swap
  · exact mem_E (r.val / 64) r j (by omega)
  have h8 := of_eights k hk
  obtain ⟨i, j, rfl⟩ := of_ix2 (a := 64) (b := 1024) x
  refine Eq.trans ?_ (congrArg (falls x0 x1 x2 x3 x4) (emb_E k i j)).symm
  refine Eq.trans ?_ (falls_at x0 x1 x2 x3 x4 k h8 i j _ (by show 64 * (k % 8) + i.val = 64 * k + i.val; omega)).symm
  refine (fall_at _ _ i j).trans (congrArg Ideal.exp (congrArg₂ (fun a b : EReal => a - b) ?_ ?_))
  · exact (last_at _ 0 j).trans (sums_at arg1 harg1 arg2 harg2 arg4 harg4 arg5 harg5 arg6 harg6 x0 x1 x2 x3 x4 k h8 63 j)
  · exact sums_at arg1 harg1 arg2 harg2 arg4 harg4 arg5 harg5 arg6 harg6 x0 x1 x2 x3 x4 k h8 i j

theorem d_read (n : Fin 8) (j : Fin 1024) :
    View.canon (eights.map (dPieces (F := Ideal) arg1 harg1 arg2 harg2 arg4 harg4 arg5 harg5 arg6 harg6 x0 x1 x2 x3 x4)) (ix2 n j)
      = whole (gainRow x1) (thinRows x2) (rankRows x3) (biasRow x4) (chunkRows x0 n.val n.isLt) j := by
  refine (canon_map (e := .f32) (dPieces (F := Ideal) arg1 harg1 arg2 harg2 arg4 harg4 arg5 harg5 arg6 harg6 x0 x1 x2 x3 x4) eights (wholes x0 x1 x2 x3 x4) (fun k hk x => ?_) (ix2 n j) n.val (in_eights n) ?_).trans rfl
  swap
  · exact mem_D n.val n j (by omega)
  have h8 := of_eights k hk
  obtain ⟨i, j, rfl⟩ := of_ix2 (a := 1) (b := 1024) x
  refine Eq.trans ?_ (congrArg (wholes x0 x1 x2 x3 x4) (emb_D k i j)).symm
  have hk' : (⟨k % 8, by omega⟩ : Fin 8) = ⟨k, h8⟩ := Fin.ext (Nat.mod_eq_of_lt h8)
  rw [hk']
  show _ = whole (gainRow x1) (thinRows x2) (rankRows x3) (biasRow x4) (chunkRows x0 k h8) j
  refine (whole_at _ i j).trans (congrArg Ideal.exp ((last_at _ i j).trans ?_))
  exact sums_at arg1 harg1 arg2 harg2 arg4 harg4 arg5 harg5 arg6 harg6 x0 x1 x2 x3 x4 k h8 63 j

theorem eBlk_at (n : ℕ) (hn : n < 2) (r j : Fin 512) (c : Fin 1024) (hc : c.val = 512 * n + j.val) :
    eBlk (F := Ideal) arg1 harg1 arg2 harg2 arg4 harg4 arg5 harg5 arg6 harg6 arg14 x0 x1 x2 x3 x4 n (ix2 r j) = falls x0 x1 x2 x3 x4 (ix2 r c) := by
  unfold eBlk
  rw [View.readCov_eq_canon']
  refine ((congrArg (View.canon _) (emb_V n r j)).trans (e_read arg1 harg1 arg2 harg2 arg4 harg4 arg5 harg5 arg6 harg6 x0 x1 x2 x3 x4 r _)).trans ?_
  exact congrArg (fun c : Fin 1024 => falls x0 x1 x2 x3 x4 (ix2 r c)) (Fin.ext (by show 512 * (n % 2) + j.val = c.val; omega))

/-- A row's wide result. -/
def widesRow (w : Fin 6144 → Fin 2048 → EReal) (r : Fin 512) (c : Fin 6144) : EReal :=
  wide w (gainRow x1) (thinRows x2) (rankRows x3) (biasRow x4) (flatRow x5) (chunkRows x0 (r.val / 64) (by omega)) (⟨r.val % 64, by omega⟩ : Fin 64) c
def wides (w : Fin 6144 → Fin 2048 → EReal) : Vec Ideal S512x6144 .bf16 := fun y => widesRow x0 x1 x2 x3 x4 x5 w (y 0 : Fin 512) (y 1 : Fin 6144)

theorem row_of (r : Fin 512) : chunkRows x0 (r.val / 64) (by omega) (⟨r.val % 64, by omega⟩ : Fin 64) = fun e => x0 (ix2 r e) :=
  funext fun e => congrArg (fun r : Fin 512 => x0 (ix2 r e)) (Fin.ext (by show 64 * (r.val / 64) + r.val % 64 = r.val; omega))

theorem into_at (w : Fin 6144 → Fin 2048 → EReal) (v : FVec Ideal S512x2048 .bf16) (n : ℕ) (hn : n < 12)
    (hv : ∀ (j : Fin 512) (d : Fin 2048), v (ix2 j d) = w (⟨512 * n + j.val, by omega⟩ : Fin 6144) d) (r j : Fin 512) :
    ∑ d : Fin 2048, hid (F := Ideal) arg1 harg1 arg2 harg2 x0 x1 (ix2 r d) * v (ix2 j d)
      = into w (rms (fun e => x0 (ix2 r e)) (gainRow x1)) (⟨512 * n + j.val, by omega⟩ : Fin 6144) :=
  Finset.sum_congr rfl fun d _ => congrArg₂ (fun a b : EReal => a * b) (hid_at arg1 harg1 arg2 harg2 x0 x1 r d) (hv j d)

theorem o_read (w : Fin 6144 → Fin 2048 → EReal) (sl : ℕ → FVec Ideal S512x2048 .bf16)
    (hsl : ∀ (n : ℕ) (hn : n < 12) (j : Fin 512) (d : Fin 2048), sl n (ix2 j d) = w (⟨512 * n + j.val, by omega⟩ : Fin 6144) d) (r : Fin 512) (c : Fin 6144) :
    View.canon (slabs.map (oPieces (F := Ideal) arg1 harg1 arg2 harg2 arg4 harg4 arg5 harg5 arg6 harg6 arg7 harg7 arg14 x0 x1 x2 x3 x4 x5 sl)) (ix2 r c)
      = wides x0 x1 x2 x3 x4 x5 w (ix2 r c) := by
  refine canon_map (e := .bf16) (oPieces (F := Ideal) arg1 harg1 arg2 harg2 arg4 harg4 arg5 harg5 arg6 harg6 arg7 harg7 arg14 x0 x1 x2 x3 x4 x5 sl) slabs (wides x0 x1 x2 x3 x4 x5 w) (fun n hn x => ?_) (ix2 r c) (c.val / 512) (in_slabs ⟨c.val / 512, by omega⟩) ?_
  swap
  · exact mem_O (c.val / 512) r c (by omega)
  have h12 := of_slabs n hn
  obtain ⟨r, j, rfl⟩ := of_ix2 (a := 512) (b := 512) x
  refine Eq.trans ?_ (congrArg (wides x0 x1 x2 x3 x4 x5 w) (emb_O n r j)).symm
  have hn' : (⟨512 * (n % 12) + j.val, by omega⟩ : Fin 6144) = ⟨512 * n + j.val, by omega⟩ := Fin.ext (by show 512 * (n % 12) + j.val = 512 * n + j.val; omega)
  rw [hn']
  have hi := into_at arg1 harg1 arg2 harg2 x0 x1 w (sl n) n h12 (hsl n h12) r j
  show _ = wide w (gainRow x1) (thinRows x2) (rankRows x3) (biasRow x4) (flatRow x5) (chunkRows x0 (r.val / 64) _) (⟨r.val % 64, _⟩ : Fin 64) (⟨512 * n + j.val, _⟩ : Fin 6144)
  unfold oPieces oPiece
  dsimp only
  unfold wide
  rw [row_of]
  have hb : ∀ k, n < k → Nat.blt n k = true := fun k h => by rw [Nat.blt_eq]; exact h
  have hf : ∀ k, ¬n < k → Nat.blt n k = false := fun k h => by rw [← Bool.not_eq_true, Nat.blt_eq]; exact h
  by_cases h2 : n < 2
  · rw [hb 2 h2, cond_true, if_neg (by show ¬(512 * n + j.val) / 1024 = 1; omega), if_neg (by show ¬4096 ≤ 512 * n + j.val; omega)]
    exact (slab_mul _ _ r j).trans hi
  · rw [hf 2 h2, cond_false]
    by_cases h4 : n < 4
    · rw [hb 4 h4, cond_true, if_pos (by show (512 * n + j.val) / 1024 = 1; omega)]
      refine (key_at _ _ _ r j).trans (congrArg₂ (fun a b : EReal => a * b) hi ?_)
      refine (eBlk_at arg1 harg1 arg2 harg2 arg4 harg4 arg5 harg5 arg6 harg6 arg14 x0 x1 x2 x3 x4 (n - 2) (by omega) r j
        (⟨(512 * n + j.val) % 1024, by omega⟩ : Fin 1024) (by show (512 * n + j.val) % 1024 = 512 * (n - 2) + j.val; omega)).trans ?_
      exact falls_at x0 x1 x2 x3 x4 (r.val / 64) (by omega) (⟨r.val % 64, by omega⟩ : Fin 64) _ r (by show r.val = 64 * (r.val / 64) + r.val % 64; omega)
    · rw [hf 4 h4, cond_false, if_neg (by show ¬(512 * n + j.val) / 1024 = 1; omega)]
      by_cases h8 : n < 8
      · rw [hb 8 h8, cond_true, if_neg (by show ¬4096 ≤ 512 * n + j.val; omega)]
        exact (slab_mul _ _ r j).trans hi
      · rw [hf 8 h8, cond_false, if_pos (by show 4096 ≤ 512 * n + j.val; omega)]
        refine (gain_at _ _ _ r j).trans (congrArg₂ (fun a b : EReal => a * b) (congrArg silu hi) ?_)
        refine (gainAt_at arg7 harg7 x5 (n - 8) j).trans (congrArg (flatRow x5) (Fin.ext ?_))
        show 512 * ((n - 8) % 4) + j.val = (512 * n + j.val) % 2048; omega
end

section
variable (c : Dev nD) (fh0 : HbBuf0 (F := Ideal) c hbM0_0) (arg12 : Memref sig .tc .vmem S6144x2048 .bf16)

/-- The weight, whole. -/
abbrev allRows : FVec Ideal S6160x2048 .f32 := fh0

theorem rowsIn_at (k : ℕ) (i : Fin 128) (d : Fin 2048) :
    rowsIn (F := Ideal) c fh0 k (ix2 i d) = allRows c fh0 (ix2 (⟨128 * (k % 48) + i.val, by omega⟩ : Fin 6160) d) :=
  congrArg (allRows c fh0) (emb_H k i d)

def topRow (q : Fin 6144) (d : Fin 2048) : EReal := allRows c fh0 (ix2 (⟨q.val, by omega⟩ : Fin 6160) d)
def topRows : Vec Ideal S6144x2048 .bf16 := fun y => topRow c fh0 (y 0 : Fin 6144) (y 1 : Fin 2048)

theorem c_read (m : ℕ) (q : Fin 6144) (d : Fin 2048) (hm : q.val / 128 ∈ copied m) :
    View.canon ((copied m).map (cPiece (F := Ideal) c fh0)) (ix2 q d) = allRows c fh0 (ix2 (⟨q.val, by omega⟩ : Fin 6160) d) := by
  refine (canon_map (e := .bf16) (cPiece (F := Ideal) c fh0) (copied m) (topRows c fh0) (fun k hk x => ?_) (ix2 q d) (q.val / 128) hm ?_).trans rfl
  swap
  · exact mem_C (q.val / 128) q d (by omega)
  obtain ⟨i, d, rfl⟩ := of_ix2 (a := 128) (b := 2048) x
  refine Eq.trans ?_ (congrArg (topRows c fh0) (emb_C k i d)).symm
  show _ = topRow c fh0 (⟨128 * (k % 48) + i.val, by omega⟩ : Fin 6144) d
  unfold topRow
  refine Eq.trans ?_ (rowsIn_at c fh0 k i d)
  unfold cPiece
  exact copy_at (rowsIn (F := Ideal) c fh0 k) i d

theorem slabA_at (n : ℕ) (hn : n < 12) (j : Fin 512) (d : Fin 2048) :
    slabA (F := Ideal) c fh0 arg12 n (ix2 j d) = allRows c fh0 (ix2 (⟨512 * n + j.val, by omega⟩ : Fin 6160) d) := by
  unfold slabA
  rw [View.readCov_eq_canon']
  refine ((congrArg (View.canon _) (emb_W n j d)).trans (c_read c fh0 _ _ d ?_)).trans ?_
  · have h := in_copied ⟨n, hn⟩ ⟨j.val / 128, by omega⟩
    have e : (⟨512 * (n % 12) + j.val, by omega⟩ : Fin 6144).val / 128 = 4 * n + j.val / 128 := by show (512 * (n % 12) + j.val) / 128 = _; omega
    rw [e]; exact h
  · exact congrArg (fun q : Fin 6160 => allRows c fh0 (ix2 q d)) (Fin.ext (by show 512 * (n % 12) + j.val = 512 * n + j.val; omega))
end

end Cert.Kernel4Ideal.In

end
-- ==== Proof.InTiles.lean ====
module

public import proofs.«01_k».proof.Proof.InPoint

@[expose] public section

set_option maxRecDepth 65536

noncomputable section

namespace Cert.Kernel4Ideal.In

open Cert.Kernel4Ideal Cert.Kernel4Ideal.Gen Idealize.ShloMosaic Idealize.ShloMosaic.TcCoe Idealize.ShloMosaic.ValueKit
open Cert.Kernel2Ideal.Mix (rms silu)

/-! What a grid point leaves. -/

section
variable {F : FTy → Type} [FloatOps F]
  (c : Dev nD) (i : grid0.Coords) (arg1 : Memref sig .tc .vmem S512x2048 .f32) (harg1 : arg1.IsWhole) (arg2 : Memref sig .tc .vmem S2x2048 .f32) (harg2 : arg2.IsWhole)
  (arg4 : Memref sig .tc .vmem S16x2048 .f32) (harg4 : arg4.IsWhole) (arg5 : Memref sig .tc .vmem S16x1024 .f32) (harg5 : arg5.IsWhole)
  (arg6 : Memref sig .tc .vmem S1x1024 .f32) (harg6 : arg6.IsWhole) (arg7 : Memref sig .tc .vmem S1x2048 .f32) (harg7 : arg7.IsWhole)
  (arg8 : Memref sig .tc .vmem S128x2048 .f32) (harg8 : arg8.IsWhole) (arg9 : Memref sig .tc .vmem S512x6144 .bf16) (harg9 : arg9.IsWhole)
  (arg10 : Memref sig .tc .vmem S8x1024 .f32) (harg10 : arg10.IsWhole) (arg11 : Memref sig .tc .vmem S128x2048 .bf16) (harg11 : arg11.IsWhole)
  (arg12 : Memref sig .tc .vmem S6144x2048 .bf16) (harg12 : arg12.IsWhole) (arg13 : Memref sig .tc .vmem S4x128x2048 .f32) (harg13 : arg13.IsWhole)
  (arg14 : Memref sig .tc .vmem S512x1024 .bf16) (harg14 : arg14.IsWhole)
  (x0 : Vec F S512x2048 .f32) (x1 : Vec F S2x2048 .f32) (x2 : Vec F S16x2048 .f32) (x3 : Vec F S16x1024 .f32) (x4 : Vec F S1x1024 .f32) (x5 : Vec F S1x2048 .f32)
  (x6 : Vec F S128x2048 .f32) (xs0 : Vec F S6144x2048 .bf16) (fh0 : HbBuf0 (F := F) c hbM0_0)

set_option maxHeartbeats 2000000 in
theorem tilesB7 (hc0 : ¬cond0_0 i) (hc1 : cond0_1 i) :
    (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).1
    = slabs.map (oPieces arg1 harg1 arg2 harg2 arg4 harg4 arg5 harg5 arg6 harg6 arg7 harg7 arg14 x0 x1 x2 x3 x4 x5 (slabB arg12 harg12 xs0)) := by
  iterate 5 refine map_step _ _ _ _ _ rfl ?_
  refine map_step _ _ _ _ _ (congrArg (fun e => (⟨rO 3, k0_pay166 (hid arg1 harg1 arg2 harg2 x0 x1) (slabB arg12 harg12 xs0 3) e⟩ : View.Piece (Elt F) S512x6144 .bf16))
    (evB1 arg1 harg1 arg2 harg2 arg4 harg4 arg5 harg5 arg6 harg6 arg14 x0 x1 x2 x3 x4 c)) ?_
  refine map_step _ _ _ _ _ (congrArg (fun e => (⟨rO 2, k0_pay166 (hid arg1 harg1 arg2 harg2 x0 x1) (slabB arg12 harg12 xs0 2) e⟩ : View.Piece (Elt F) S512x6144 .bf16))
    (evB0 arg1 harg1 arg2 harg2 arg4 harg4 arg5 harg5 arg6 harg6 arg14 x0 x1 x2 x3 x4 c)) ?_
  iterate 5 refine map_step _ _ _ _ _ rfl ?_
  rfl

set_option maxHeartbeats 2000000 in
theorem tilesB8 (hc0 : ¬cond0_0 i) (hc1 : cond0_1 i) :
    (kernelRun0_B c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0).2.1
    = eights.map (dPieces arg1 harg1 arg2 harg2 arg4 harg4 arg5 harg5 arg6 harg6 x0 x1 x2 x3 x4) := by
  iterate 8 refine map_step _ _ _ _ _ rfl ?_
  rfl

set_option maxHeartbeats 2000000 in
theorem tilesA8 (hc0 : cond0_0 i) (hc1 : ¬cond0_1 i) :
    (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.1
    = eights.map (dPieces arg1 harg1 arg2 harg2 arg4 harg4 arg5 harg5 arg6 harg6 x0 x1 x2 x3 x4) := by
  iterate 8 refine map_step _ _ _ _ _ rfl ?_
  rfl

set_option maxHeartbeats 2000000 in
theorem keptA (hc0 : cond0_0 i) (hc1 : ¬cond0_1 i) :
    (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).2.2.2.1
    = (copied 12).map (cPiece c fh0) := cs48 c fh0

/-- One slab's write, of the slab's value. -/
def plain (n : ℕ) (v : Vec F S512x2048 .bf16) : View.Piece (Elt F) S512x6144 .bf16 := ⟨rO n, k0_pay122 (hid arg1 harg1 arg2 harg2 x0 x1) v⟩
def gated (n : ℕ) (v : Vec F S512x2048 .bf16) : View.Piece (Elt F) S512x6144 .bf16 :=
  ⟨rO n, k0_pay169 (hid arg1 harg1 arg2 harg2 x0 x1) v (gainAt arg7 harg7 x5 (n - 8))⟩
def faded (n : ℕ) (v : Vec F S512x2048 .bf16) (e : Vec F S512x512 .bf16) : View.Piece (Elt F) S512x6144 .bf16 :=
  ⟨rO n, k0_pay166 (hid arg1 harg1 arg2 harg2 x0 x1) v e⟩

set_option maxHeartbeats 2000000 in
theorem tilesA7 (hc0 : cond0_0 i) (hc1 : ¬cond0_1 i) :
    (kernelRun0_A c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0).1
    = slabs.map (oPieces arg1 harg1 arg2 harg2 arg4 harg4 arg5 harg5 arg6 harg6 arg7 harg7 arg14 x0 x1 x2 x3 x4 x5 (slabA c fh0 arg12)) := by
  refine map_step _ _ _ _ _ (congrArg (gated arg1 harg1 arg2 harg2 arg7 harg7 x0 x1 x5 11) (sl11 c fh0 arg12)) ?_
  refine map_step _ _ _ _ _ (congrArg (gated arg1 harg1 arg2 harg2 arg7 harg7 x0 x1 x5 10) (sl10 c fh0 arg12)) ?_
  refine map_step _ _ _ _ _ (congrArg (gated arg1 harg1 arg2 harg2 arg7 harg7 x0 x1 x5 9) (sl9 c fh0 arg12)) ?_
  refine map_step _ _ _ _ _ (congrArg (gated arg1 harg1 arg2 harg2 arg7 harg7 x0 x1 x5 8) (sl8 c fh0 arg12)) ?_
  refine map_step _ _ _ _ _ (congrArg (plain arg1 harg1 arg2 harg2 x0 x1 7) (sl7 c fh0 arg12)) ?_
  refine map_step _ _ _ _ _ (congrArg₂ (faded arg1 harg1 arg2 harg2 x0 x1 3) (sl3 c fh0 arg12) (evA1 arg1 harg1 arg2 harg2 arg4 harg4 arg5 harg5 arg6 harg6 arg14 x0 x1 x2 x3 x4 c)) ?_
  refine map_step _ _ _ _ _ (congrArg₂ (faded arg1 harg1 arg2 harg2 x0 x1 2) (sl2 c fh0 arg12) (evA0 arg1 harg1 arg2 harg2 arg4 harg4 arg5 harg5 arg6 harg6 arg14 x0 x1 x2 x3 x4 c)) ?_
  refine map_step _ _ _ _ _ (congrArg (plain arg1 harg1 arg2 harg2 x0 x1 6) (sl6 c fh0 arg12)) ?_
  refine map_step _ _ _ _ _ (congrArg (plain arg1 harg1 arg2 harg2 x0 x1 5) (sl5 c fh0 arg12)) ?_
  refine map_step _ _ _ _ _ (congrArg (plain arg1 harg1 arg2 harg2 x0 x1 4) (sl4 c fh0 arg12)) ?_
  refine map_step _ _ _ _ _ (congrArg (plain arg1 harg1 arg2 harg2 x0 x1 1) (sl1 c fh0 arg12)) ?_
  refine map_step _ _ _ _ _ (congrArg (plain arg1 harg1 arg2 harg2 x0 x1 0) (sl0 c fh0 arg12)) ?_
  rfl
end

end Cert.Kernel4Ideal.In

end
-- ==== Proof.InOut.lean ====
module

public import proofs.«01_k».proof.Proof.InTiles

@[expose] public section

set_option maxRecDepth 65536

noncomputable section

namespace Cert.Kernel4Ideal.In

open Cert.Kernel4Ideal Cert.Kernel4Ideal.Gen Idealize.ShloMosaic Idealize.ShloMosaic.TcCoe Idealize.ShloMosaic.ValueKit
open Cert.Kernel2Ideal.Mix (rms silu)

/-! What a grid point leaves. -/

theorem slabB_of (arg12 : Memref sig .tc .vmem S6144x2048 .bf16) (harg12 : arg12.IsWhole) (xs0 : FVec Ideal S6144x2048 .bf16) (w : Fin 6144 → Fin 2048 → EReal)
    (hw : ∀ q d, xs0 (ix2 q d) = w q d) (n : ℕ) (hn : n < 12) (j : Fin 512) (d : Fin 2048) :
    slabB (F := Ideal) arg12 harg12 xs0 n (ix2 j d) = w (⟨512 * n + j.val, by omega⟩ : Fin 6144) d := by
  refine (slabB_at arg12 harg12 xs0 n j d).trans ((hw _ d).trans (congrArg (fun q => w q d) (Fin.ext ?_)))
  show 512 * (n % 12) + j.val = 512 * n + j.val
  omega

section
variable
  (c : Dev nD) (i : grid0.Coords) (arg1 : Memref sig .tc .vmem S512x2048 .f32) (harg1 : arg1.IsWhole) (arg2 : Memref sig .tc .vmem S2x2048 .f32) (harg2 : arg2.IsWhole)
  (arg4 : Memref sig .tc .vmem S16x2048 .f32) (harg4 : arg4.IsWhole) (arg5 : Memref sig .tc .vmem S16x1024 .f32) (harg5 : arg5.IsWhole)
  (arg6 : Memref sig .tc .vmem S1x1024 .f32) (harg6 : arg6.IsWhole) (arg7 : Memref sig .tc .vmem S1x2048 .f32) (harg7 : arg7.IsWhole)
  (arg8 : Memref sig .tc .vmem S128x2048 .f32) (harg8 : arg8.IsWhole) (arg9 : Memref sig .tc .vmem S512x6144 .bf16) (harg9 : arg9.IsWhole)
  (arg10 : Memref sig .tc .vmem S8x1024 .f32) (harg10 : arg10.IsWhole) (arg11 : Memref sig .tc .vmem S128x2048 .bf16) (harg11 : arg11.IsWhole)
  (arg12 : Memref sig .tc .vmem S6144x2048 .bf16) (harg12 : arg12.IsWhole) (arg13 : Memref sig .tc .vmem S4x128x2048 .f32) (harg13 : arg13.IsWhole)
  (arg14 : Memref sig .tc .vmem S512x1024 .bf16) (harg14 : arg14.IsWhole)
  (x0 : FVec Ideal S512x2048 .f32) (x1 : FVec Ideal S2x2048 .f32) (x2 : FVec Ideal S16x2048 .f32) (x3 : FVec Ideal S16x1024 .f32) (x4 : FVec Ideal S1x1024 .f32) (x5 : FVec Ideal S1x2048 .f32)
  (x6 : FVec Ideal S128x2048 .f32) (xs0 : FVec Ideal S6144x2048 .bf16) (fh0 : HbBuf0 (F := Ideal) c hbM0_0)

set_option maxHeartbeats 400000 in
theorem outA_7 (hc0 : cond0_0 i) (hc1 : ¬cond0_1 i) (r : Fin 512) (q : Fin 6144) :
    out0_A_7 (F := Ideal) c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0 (ix2 r q) = widesRow x0 x1 x2 x3 x4 x5 (topRow c fh0) r q := by
  refine (View.read_writes_junk_apply_eq_canon VO0_7 _ _).trans ?_
  rw [tilesA7]
  exact o_read arg1 harg1 arg2 harg2 arg4 harg4 arg5 harg5 arg6 harg6 arg7 harg7 arg14 x0 x1 x2 x3 x4 x5 (topRow c fh0) (slabA c fh0 arg12) (fun n hn j d => slabA_at c fh0 arg12 n hn j d) r q
set_option maxHeartbeats 400000 in
theorem outB_7 (hc0 : ¬cond0_0 i) (hc1 : cond0_1 i) (w : Fin 6144 → Fin 2048 → EReal) (hw : ∀ q d, xs0 (ix2 q d) = w q d) (r : Fin 512) (q : Fin 6144) :
    out0_B_7 (F := Ideal) c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0 (ix2 r q) = widesRow x0 x1 x2 x3 x4 x5 w r q := by
  refine (View.read_writes_junk_apply_eq_canon VO0_7 _ _).trans ?_
  rw [tilesB7]
  have e := o_read arg1 harg1 arg2 harg2 arg4 harg4 arg5 harg5 arg6 harg6 arg7 harg7 arg14 x0 x1 x2 x3 x4 x5 w (slabB (F := Ideal) arg12 harg12 xs0) (slabB_of arg12 harg12 xs0 w hw) r q
  exact e
set_option maxHeartbeats 400000 in
theorem outA_8 (hc0 : cond0_0 i) (hc1 : ¬cond0_1 i) (n : Fin 8) (j : Fin 1024) :
    out0_A_8 (F := Ideal) c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0 (ix2 n j) = wholesRow x0 x1 x2 x3 x4 n j := by
  refine (View.read_writes_junk_apply_eq_canon VO0_8 _ _).trans ?_
  rw [tilesA8]
  exact d_read arg1 harg1 arg2 harg2 arg4 harg4 arg5 harg5 arg6 harg6 x0 x1 x2 x3 x4 n j
set_option maxHeartbeats 400000 in
theorem outB_8 (hc0 : ¬cond0_0 i) (hc1 : cond0_1 i) (n : Fin 8) (j : Fin 1024) :
    out0_B_8 (F := Ideal) c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0 (ix2 n j) = wholesRow x0 x1 x2 x3 x4 n j := by
  refine (View.read_writes_junk_apply_eq_canon VO0_8 _ _).trans ?_
  rw [tilesB8]
  exact d_read arg1 harg1 arg2 harg2 arg4 harg4 arg5 harg5 arg6 harg6 x0 x1 x2 x3 x4 n j
set_option maxHeartbeats 400000 in
theorem outA_9 (hc0 : cond0_0 i) (hc1 : ¬cond0_1 i) : out0_A_9 (F := Ideal) c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0 = fun y => x6 y := by
  funext y
  frame_out
  rfl
set_option maxHeartbeats 400000 in
theorem outB_9 (hc0 : ¬cond0_0 i) (hc1 : cond0_1 i) : out0_B_9 (F := Ideal) c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 xs0 fh0 = fun y => x6 y := by
  funext y
  frame_out
  rfl
set_option maxHeartbeats 400000 in
theorem soutA_0 (hc0 : cond0_0 i) (hc1 : ¬cond0_1 i) (q : Fin 6144) (d : Fin 2048) :
    sout0_A_0 (F := Ideal) c i arg1 harg1 arg2 harg2 arg4 harg4 arg5 harg5 arg6 harg6 arg7 harg7 arg8 harg8 arg9 harg9 arg10 harg10 arg11 harg11 arg12 harg12 arg13 harg13 arg14 harg14 hc0 hc1 x0 x1 x2 x3 x4 x5 x6 fh0 (ix2 q d) = topRow c fh0 q d := by
  refine (View.read_writes_junk_apply_eq_canon VS0_0 _ _).trans ?_
  rw [keptA]
  exact c_read c fh0 12 q d (in_all ⟨q.val / 128, by omega⟩)
end

end Cert.Kernel4Ideal.In

end
-- ==== Proof.InValue.lean ====
module

public import proofs.«01_k».proof.Proof.InFrame
public import Idealize.ShloMosaic.Lib.Pipeline.Value

@[expose] public section

noncomputable section

namespace Cert.Kernel4Ideal.In

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) (h1 : ¬1 ≤ t.val) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg2)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) (h1 : 1 ≤ t.val) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2)) := by
  simp only [flushed7, outsAt0_B m c t h0 h1]

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8192x6144.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 16 = 0) (h1 : ¬1 ≤ t.val) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg2)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 16 = 0) (h1 : 1 ≤ t.val) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2)) := by
  simp only [flushed8, outsAt0_B m c t h0 h1]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S128x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 16 = 0) (h1 : ¬1 ≤ t.val) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg2)) := by
  simp only [flushed9, outsAt0_A m c t h0 h1]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 16 = 0) (h1 : 1 ≤ t.val) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2)) := by
  simp only [flushed9, outsAt0_B m c t h0 h1]

/-- The index map sends distinct grid points to distinct block indices (decided over the 16 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2048x2048.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: input window 5 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S6144x2048 .bf16) : Vec F S6144x2048 .bf16 :=
  if h0 : n % 16 = 0 then
    if h1 : 1 ≤ n then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (V m c main_arg2)
  else
    if h1 : 1 ≤ n then
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc (V m c main_arg2)
    else
      acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.2) 16 (fun n h => scAt0_0 m c n h (VS0_0.read (Elt F) VS0_0.junk)) (scAt0_0 m c)
    (fun n h hn => by
      have hN := lt_of_lt_of_eq h (show cfg0.N = 16 from N_0)
      by_cases h0 : n % 16 = 0 <;> by_cases h1 : 1 ≤ n
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_pos h1] <;> try rfl))
    (fun n h hn => by
      have hN := lt_of_lt_of_eq h (show cfg0.N = 16 from N_0)
      by_cases h0 : (n + 1) % 16 = 0 <;> by_cases h1 : 1 ≤ (n + 1)
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.Kernel4Ideal.In

end
-- ==== Proof.InFinal.lean ====
module

public import proofs.«01_k».proof.Proof.InOut
public import proofs.«01_k».proof.Proof.InValue

@[expose] public section

set_option maxRecDepth 16384

noncomputable section

namespace Cert.Kernel4Ideal.In

open Cert.Kernel4Ideal Cert.Kernel4Ideal.Gen Idealize.ShloMosaic Idealize.ShloMosaic.TcCoe Idealize.ShloMosaic.ValueKit

/-! The kernel's three result arrays, of its arguments. -/

theorem idx : ∀ t : Fin cfg0.N, win0_0.index t = ![t.val, 0] ∧ win0_1.index t = ![0, 0] ∧ win0_2.index t = ![384, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ t.val < 16 :=
  (by decide +kernel : ∀ t : Fin grid0.N, _)

theorem lt16 (t : Fin cfg0.N) : t.val < 16 := (idx t).2.2.2.2.2.2.2.2.2.2

variable (m : (l : Loc nD τ sig) → Buf (Elt Ideal) l) (c : Dev nD)

abbrev aX : FVec Ideal S8192x2048 .f32 := m ((c : Thread nD τ).loc main_arg0)
abbrev aN : FVec Ideal S2x2048 .f32 := m ((c : Thread nD τ).loc main_arg1)
abbrev aW : FVec Ideal S6160x2048 .f32 := m ((c : Thread nD τ).loc main_arg2)
abbrev aL : FVec Ideal S6160x2048 .f32 := m ((c : Thread nD τ).loc main_arg3)
abbrev aR : FVec Ideal S16x1024 .f32 := m ((c : Thread nD τ).loc main_arg4)
abbrev aB : FVec Ideal S1x1024 .f32 := m ((c : Thread nD τ).loc main_arg5)
abbrev aO : FVec Ideal S1x2048 .f32 := m ((c : Thread nD τ).loc main_arg6)
abbrev aU : FVec Ideal S2048x2048 .f32 := m ((c : Thread nD τ).loc main_arg7)

theorem blk0 (t : Fin cfg0.N) (r : Fin 512) (e : Fin 2048) : (iblk m c 0 t : FVec Ideal S512x2048 .f32) (ix2 r e)
    = aX m c (ix2 (⟨512 * t.val + r.val, by have := lt16 t; omega⟩ : Fin 8192) e) := by
  blk_ext [iblk, V, idx t]
theorem blk1 (t : Fin cfg0.N) (r : Fin 2) (e : Fin 2048) : (iblk m c 1 t : FVec Ideal S2x2048 .f32) (ix2 r e) = aN m c (ix2 r e) := by
  blk_ext [iblk, V, idx t]
theorem blk2 (t : Fin cfg0.N) (a : Fin 16) (d : Fin 2048) : (iblk m c 2 t : FVec Ideal S16x2048 .f32) (ix2 a d)
    = aL m c (ix2 (⟨6144 + a.val, by omega⟩ : Fin 6160) d) := by
  blk_ext [iblk, V, idx t]
theorem blk3 (t : Fin cfg0.N) (a : Fin 16) (j : Fin 1024) : (iblk m c 3 t : FVec Ideal S16x1024 .f32) (ix2 a j) = aR m c (ix2 a j) := by
  blk_ext [iblk, V, idx t]
theorem blk4 (t : Fin cfg0.N) (r : Fin 1) (e : Fin 1024) : (iblk m c 4 t : FVec Ideal S1x1024 .f32) (ix2 r e) = aB m c (ix2 r e) := by
  blk_ext [iblk, V, idx t]
theorem blk5 (t : Fin cfg0.N) (r : Fin 1) (e : Fin 2048) : (iblk m c 5 t : FVec Ideal S1x2048 .f32) (ix2 r e) = aO m c (ix2 r e) := by
  blk_ext [iblk, V, idx t]
theorem blk6 (t : Fin cfg0.N) (r : Fin 128) (e : Fin 2048) : (iblk m c 6 t : FVec Ideal S128x2048 .f32) (ix2 r e)
    = aU m c (ix2 (⟨128 * t.val + r.val, by have := lt16 t; omega⟩ : Fin 2048) e) := by
  blk_ext [iblk, V, idx t]

/-- The slabs of the wide weight, the thin rows, and the rows of a chunk. -/
def wideRows (q : Fin 6144) (d : Fin 2048) : EReal := aW m c (ix2 (⟨q.val, by omega⟩ : Fin 6160) d)
def lowRows (a : Fin 16) (d : Fin 2048) : EReal := aL m c (ix2 (⟨6144 + a.val, by omega⟩ : Fin 6160) d)
def chunk (n : Fin 128) (k : Fin 64) (e : Fin 2048) : EReal := aX m c (ix2 (⟨64 * n.val + k.val, by omega⟩ : Fin 8192) e)

/-- The wide result at row `R`, column `q`. -/
def resultAt (R : Fin 8192) (q : Fin 6144) : EReal :=
  wide (wideRows m c) (gainRow (aN m c)) (lowRows m c) (rankRows (aR m c)) (biasRow (aB m c)) (flatRow (aO m c)) (chunk m c (⟨R.val / 64, by omega⟩ : Fin 128))
    (⟨R.val % 64, by omega⟩ : Fin 64) q
/-- The decay of chunk `n` at column `j`. -/
def decayAt (n : Fin 128) (j : Fin 1024) : EReal := whole (gainRow (aN m c)) (lowRows m c) (rankRows (aR m c)) (biasRow (aB m c)) (chunk m c n) j

def result : FVec Ideal S8192x6144 .bf16 := fun y => resultAt m c (y 0 : Fin 8192) (y 1 : Fin 6144)
def decays : FVec Ideal S128x1024 .f32 := fun y => decayAt m c (y 0 : Fin 128) (y 1 : Fin 1024)
theorem result_at (R : Fin 8192) (q : Fin 6144) : result m c (ix2 R q) = resultAt m c R q := rfl
theorem decays_at (n : Fin 128) (j : Fin 1024) : decays m c (ix2 n j) = decayAt m c n j := rfl
def weight : FVec Ideal S2048x2048 .bf16 := fun y => aU m c y

theorem gain_eq (t : Fin cfg0.N) : gainRow (iblk m c 1 t) = gainRow (aN m c) := funext fun e => blk1 m c t 0 e
theorem low_eq (t : Fin cfg0.N) : thinRows (iblk m c 2 t) = lowRows m c := funext fun a => funext fun d => blk2 m c t a d
theorem rank_eq (t : Fin cfg0.N) : rankRows (iblk m c 3 t) = rankRows (aR m c) := funext fun a => funext fun j => blk3 m c t a j
theorem bias_eq (t : Fin cfg0.N) : biasRow (iblk m c 4 t) = biasRow (aB m c) := funext fun j => blk4 m c t 0 j
theorem flat_eq (t : Fin cfg0.N) : flatRow (iblk m c 5 t) = flatRow (aO m c) := funext fun e => blk5 m c t 0 e
theorem chunk_eq (t : Fin cfg0.N) (n : ℕ) (hn : n < 8) :
    chunkRows (iblk m c 0 t) n hn = chunk m c (⟨8 * t.val + n, by have := lt16 t; omega⟩ : Fin 128) := funext fun k => funext fun e =>
  (blk0 m c t _ e).trans (congrArg (fun R : Fin 8192 => aX m c (ix2 R e)) (Fin.ext (by
    show 512 * t.val + (64 * n + k.val) = 64 * (8 * t.val + n) + k.val; omega)))

/-- What a grid point's blocks give is the result there. -/
theorem wide_eq (t : Fin cfg0.N) (r : Fin 512) (q : Fin 6144) :
    widesRow (iblk m c 0 t) (iblk m c 1 t) (iblk m c 2 t) (iblk m c 3 t) (iblk m c 4 t) (iblk m c 5 t) (wideRows m c) r q
      = resultAt m c (⟨512 * t.val + r.val, by have := lt16 t; omega⟩ : Fin 8192) q := by
  have ht := lt16 t
  unfold widesRow resultAt
  rw [gain_eq, low_eq, rank_eq, bias_eq, flat_eq, chunk_eq]
  have e1 : (⟨8 * t.val + r.val / 64, by omega⟩ : Fin 128) = ⟨(512 * t.val + r.val) / 64, by omega⟩ := Fin.ext (by
    show 8 * t.val + r.val / 64 = (512 * t.val + r.val) / 64; omega)
  have e2 : (⟨r.val % 64, by omega⟩ : Fin 64) = ⟨(512 * t.val + r.val) % 64, by omega⟩ := Fin.ext (by show r.val % 64 = (512 * t.val + r.val) % 64; omega)
  rw [e1, e2]
theorem whole_eq (t : Fin cfg0.N) (n : Fin 8) (j : Fin 1024) :
    wholesRow (iblk m c 0 t) (iblk m c 1 t) (iblk m c 2 t) (iblk m c 3 t) (iblk m c 4 t) n j
      = decayAt m c (⟨8 * t.val + n.val, by have := lt16 t; omega⟩ : Fin 128) j := by
  unfold wholesRow decayAt
  rw [gain_eq, low_eq, rank_eq, bias_eq, chunk_eq]

/-- What a grid point leaves. -/
def Left (t : Fin cfg0.N) (o : FVec Ideal S512x6144 .bf16 × FVec Ideal S8x1024 .f32 × FVec Ideal S128x2048 .bf16 × FVec Ideal S6144x2048 .bf16) : Prop :=
  (∀ (r : Fin 512) (q : Fin 6144), o.1 (ix2 r q) = resultAt m c (⟨512 * t.val + r.val, by have := lt16 t; omega⟩ : Fin 8192) q)
    ∧ (∀ (n : Fin 8) (j : Fin 1024), o.2.1 (ix2 n j) = decayAt m c (⟨8 * t.val + n.val, by have := lt16 t; omega⟩ : Fin 128) j)
    ∧ (∀ (r : Fin 128) (e : Fin 2048), o.2.2.1 (ix2 r e) = aU m c (ix2 (⟨128 * t.val + r.val, by have := lt16 t; omega⟩ : Fin 2048) e))
    ∧ ∀ (q : Fin 6144) (d : Fin 2048), o.2.2.2 (ix2 q d) = wideRows m c q d

set_option maxHeartbeats 1000000 in
theorem leftA (t : Fin cfg0.N) (h0 : t.val % 16 = 0) (h1 : ¬1 ≤ t.val) : Left m c t (outsAt0 m c t.val t.isLt) := by
  have ht := outsAt0_A m c t h0 h1
  refine ⟨fun r q => ?_, fun n j => ?_, fun r e => ?_, fun q d => ?_⟩
  · have e1 := congrFun (congrArg (fun o => o.1) ht) (ix2 r q)
    dsimp only at e1
    exact e1.trans ((outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (V m c main_arg2) ((hcond0_0 t).mpr h0) (fun h => h1 ((hcond0_1 t).mp h)) r q).trans (wide_eq m c t r q))
  · have e1 := congrFun (congrArg (fun o => o.2.1) ht) (ix2 n j)
    dsimp only at e1
    exact e1.trans ((outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (V m c main_arg2) ((hcond0_0 t).mpr h0) (fun h => h1 ((hcond0_1 t).mp h)) n j).trans (whole_eq m c t n j))
  · have e1 := congrFun (congrArg (fun o => o.2.2.1) ht) (ix2 r e)
    dsimp only at e1
    exact e1.trans ((congrFun (outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (V m c main_arg2) ((hcond0_0 t).mpr h0) (fun h => h1 ((hcond0_1 t).mp h))) (ix2 r e)).trans (blk6 m c t r e))
  · have e1 := congrFun (congrArg (fun o => o.2.2.2) ht) (ix2 q d)
    dsimp only at e1
    exact e1.trans ((soutA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (V m c main_arg2) ((hcond0_0 t).mpr h0) (fun h => h1 ((hcond0_1 t).mp h)) q d).trans rfl)

set_option maxHeartbeats 1000000 in
theorem leftB (t : Fin cfg0.N) (h0 : ¬t.val % 16 = 0) (h1 : 1 ≤ t.val) (s : Fin cfg0.N) (hp : Left m c s (outsAt0 m c (t.val - 1) (Nat.lt_of_le_of_lt (Nat.sub_le _ _) t.isLt))) :
    Left m c t (outsAt0 m c t.val t.isLt) := by
  have ht := outsAt0_B m c t h0 h1
  refine ⟨fun r q => ?_, fun n j => ?_, fun r e => ?_, fun q d => ?_⟩
  · have e1 := congrFun (congrArg (fun o => o.1) ht) (ix2 r q)
    dsimp only at e1
    exact e1.trans ((outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2) (fun h => h0 ((hcond0_0 t).mp h)) ((hcond0_1 t).mpr h1) (wideRows m c) hp.2.2.2 r q).trans (wide_eq m c t r q))
  · have e1 := congrFun (congrArg (fun o => o.2.1) ht) (ix2 n j)
    dsimp only at e1
    exact e1.trans ((outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2) (fun h => h0 ((hcond0_0 t).mp h)) ((hcond0_1 t).mpr h1) n j).trans (whole_eq m c t n j))
  · have e1 := congrFun (congrArg (fun o => o.2.2.1) ht) (ix2 r e)
    dsimp only at e1
    exact e1.trans ((congrFun (outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 (V m c main_arg2) (fun h => h0 ((hcond0_0 t).mp h)) ((hcond0_1 t).mpr h1)) (ix2 r e)).trans (blk6 m c t r e))
  · have e1 := congrFun (congrArg (fun o => o.2.2.2) ht) (ix2 q d)
    dsimp only at e1
    exact e1.trans (hp.2.2.2 q d)

/-- Every point leaves that. -/
theorem left (n : ℕ) : ∀ hn : n < cfg0.N, Left m c ⟨n, hn⟩ (outsAt0 m c n hn) := by
  induction n with
  | zero => exact fun hn => leftA m c ⟨0, hn⟩ rfl (Nat.not_succ_le_zero 0)
  | succ n ih =>
    intro hn
    have h16 := lt16 ⟨n + 1, hn⟩
    have h16' : n + 1 < 16 := h16
    exact leftB m c ⟨n + 1, hn⟩ (by show ¬(n + 1) % 16 = 0; omega) (Nat.le_add_left 1 n) ⟨n, Nat.lt_of_succ_lt hn⟩ (ih (Nat.lt_of_succ_lt hn))

theorem idx2 {a b : ℕ} (y : (⟨2, ![a, b]⟩ : Shape).Idx) : y = ix2 (y 0 : Fin a) (y 1 : Fin b) := by
  obtain ⟨i, j, h⟩ := of_ix2 y
  subst h
  rfl

set_option maxHeartbeats 2000000 in
/-- The wide result array after the run. -/
theorem final7 : (dats m 0 c).arrAt 7 cfg0.N = result m c := by
  refine (dats m 0 c).arrAt_eq_of_covers 7 _ (by decide +kernel) fun t hf y => ?_
  blk_simp
  rw [after0_7]
  have ht := lt16 t
  have h0 : (y 0 : Fin 512).val < 512 := (y 0 : Fin 512).isLt
  have hy : y = (ix2 (y 0 : Fin 512) (y 1 : Fin 6144) : S512x6144.Idx) := idx2 (a := 512) (b := 6144) y
  have he : ((cfg0.win 7).blk t).view.emb y = (ix2 (⟨512 * t.val + (y 0 : Fin 512).val, by omega⟩ : Fin 8192) (y 1 : Fin 6144) : S8192x6144.Idx) := by
    blk_ext [idx t]
  refine Eq.trans (congrArg (outsAt0 m c t.val t.isLt).1 hy) (((left m c t.val t.isLt).1 (y 0) (y 1)).trans ?_)
  rw [he]
  exact (result_at m c _ _).symm

set_option maxHeartbeats 400000 in
/-- The decays after the run. -/
theorem final8 : (dats m 0 c).arrAt 8 cfg0.N = decays m c := by
  refine (dats m 0 c).arrAt_eq_of_covers 8 _ (by decide +kernel) fun t hf y => ?_
  blk_simp
  rw [after0_8]
  have ht := lt16 t
  have h0 : (y 0 : Fin 8).val < 8 := (y 0 : Fin 8).isLt
  have hy : y = (ix2 (y 0 : Fin 8) (y 1 : Fin 1024) : S8x1024.Idx) := idx2 (a := 8) (b := 1024) y
  have he : ((cfg0.win 8).blk t).view.emb y = (ix2 (⟨8 * t.val + (y 0 : Fin 8).val, by omega⟩ : Fin 128) (y 1 : Fin 1024) : S128x1024.Idx) := by
    blk_ext [idx t]
  refine Eq.trans (congrArg (outsAt0 m c t.val t.isLt).2.1 hy) (((left m c t.val t.isLt).2.1 (y 0) (y 1)).trans ?_)
  rw [he]
  exact (decays_at m c _ _).symm

set_option maxHeartbeats 400000 in
/-- The converted weight after the run. -/
theorem final9 : (dats m 0 c).arrAt 9 cfg0.N = weight m c := by
  refine (dats m 0 c).arrAt_eq_of_covers 9 _ (by decide +kernel) fun t hf y => ?_
  blk_simp
  rw [after0_9]
  have ht := lt16 t
  have h0 : (y 0 : Fin 128).val < 128 := (y 0 : Fin 128).isLt
  have hy : y = (ix2 (y 0 : Fin 128) (y 1 : Fin 2048) : S128x2048.Idx) := idx2 (a := 128) (b := 2048) y
  have he : ((cfg0.win 9).blk t).view.emb y = (ix2 (⟨128 * t.val + (y 0 : Fin 128).val, by omega⟩ : Fin 2048) (y 1 : Fin 2048) : S2048x2048.Idx) := by
    blk_ext [idx t]
  refine Eq.trans (congrArg (outsAt0 m c t.val t.isLt).2.2.1 hy) (((left m c t.val t.isLt).2.2.1 (y 0) (y 1)).trans ?_)
  rw [he]
  rfl

end Cert.Kernel4Ideal.In

end
-- ==== Proof.InRef.lean ====
module

public import proofs.«01_k».proof.Proof.InSpec
public import proofs.«01_k».proof.Proof.Gen.Reference4Ideal.Run

@[expose] public section

set_option maxRecDepth 16384

noncomputable section

namespace Cert.Reference4Ideal.In

open Cert.Reference4Ideal Cert.Reference4Ideal.Gen Cert.Reference4Ideal.Value Cert.Kernel4Ideal.In
open Cert.Kernel2Ideal.Mix (rms silu silu_eq)
open Idealize.ShloMosaic Idealize.ShloMosaic.TcCoe Idealize.ShloMosaic.ValueKit

/-! The reference's results, in stages, each at an index. -/

def normed (X : FVec Ideal S8192x2048 .f32) (N : FVec Ideal S2x2048 .f32) : FVec Ideal S8192x2048 .f32 :=
  mulf (mulf X (broadcastInDim S8192x2048 ![0, 1] bcast_S8192x1_S8192x2048_0_1 (Host.rsqrt (addf (Host.divf
      (broadcastInDim S8192x1 ![0] bcast_S8192_S8192x1_0 (Host.reduceAdd (mulf X X) (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast S2048 (extractStridedSlice S1x2048 ![0, 0] N slices_S2x2048_S1x2048_0_0) shapeCasts_S1x2048_S2048)))
/-- The two weights, one under the other. -/
def joined (W L : FVec Ideal S6160x2048 .f32) : FVec Ideal S6160x2048 .f32 :=
  concatenate S6160x2048 0 [⟨S6144x2048, extractStridedSlice S6144x2048 ![0, 0] W slices_S6160x2048_S6144x2048_0_0⟩,
    ⟨S16x2048, extractStridedSlice S16x2048 ![6144, 0] L slices_S6160x2048_S16x2048_6144_0⟩] concatenates_S6144x2048_S16x2048_S6160x2048_d0
def proj (H : FVec Ideal S8192x2048 .f32) (J : FVec Ideal S6160x2048 .f32) : FVec Ideal S8192x6160 .f32 :=
  Host.dotGeneral dot_S8192x2048_S2048x6160_S8192x6160_1_0_0_1_n_n none H (transpose S2048x6160 [1, 0] J transposes_S6160x2048_S2048x6160_1_0)
def preOf (P : FVec Ideal S8192x6160 .f32) (W2 : FVec Ideal S16x1024 .f32) (B : FVec Ideal S1x1024 .f32) : FVec Ideal S8192x1024 .f32 :=
  addf (Host.dotGeneral dot_S8192x16_S16x1024_S8192x1024_1_0_0_1_n_n none (extractStridedSlice S8192x16 ![0, 6144] P slices_S8192x6160_S8192x16_0_6144) W2)
    (broadcastInDim S8192x1024 ![0, 1] bcast_S1x1024_S8192x1024_0_1 B)
def zeros : FVec Ideal S8192x1024 .f32 := broadcastInDim S8192x1024 ![] bcast_S_S8192x1024 (constant S_ .f32 0x00000000#32)
def softOf (Z : FVec Ideal S8192x1024 .f32) : FVec Ideal S8192x1024 .f32 :=
  Host.negf (select (cmpf .une (subf (Host.negf Z) zeros) (subf (Host.negf Z) zeros)) (addf (Host.negf Z) zeros)
    (addf (maximumf (Host.negf Z) zeros) (Host.log1p (Host.exp (Host.negf (Host.absf (subf (Host.negf Z) zeros)))))))
def gateOf (Z : FVec Ideal S8192x1024 .f32) : FVec Ideal S8192x1024 .f32 :=
  Host.divf (softOf Z) (broadcastInDim S8192x1024 ![] bcast_S_S8192x1024 (constant S_ .f32 0x41800000#32))
def cumOf (A : FVec Ideal S8192x1024 .f32) : FVec Ideal S128x64x1024 .f32 :=
  Host.reduceWindowAdd ![1, 64, 1] ![1, 1, 1] ![0, 63, 0] ![0, 0, 0] (shapeCast S128x64x1024 A shapeCasts_S8192x1024_S128x64x1024)
    (broadcastInDim S_ ![] bcast_S_S_ (constant S_ .f32 0x00000000#32)) reduceWindows_S128x64x1024_S128x64x1024_w1s1p0_0_w64s1p63_0_w1s1p0_0 h_S_
def fallOf (C : FVec Ideal S128x64x1024 .f32) : FVec Ideal S8192x1024 .f32 :=
  shapeCast S8192x1024 (Host.exp (subf (broadcastInDim S128x64x1024 ![0, 1, 2] bcast_S128x1x1024_S128x64x1024_0_1_2
    (extractStridedSlice S128x1x1024 ![0, 63, 0] C slices_S128x64x1024_S128x1x1024_0_63_0)) C)) shapeCasts_S128x64x1024_S8192x1024
def wholeOf (C : FVec Ideal S128x64x1024 .f32) : FVec Ideal S128x1024 .f32 :=
  Host.exp (shapeCast S128x1024 (extractStridedSlice S128x1x1024 ![0, 63, 0] C slices_S128x64x1024_S128x1x1024_0_63_0) shapeCasts_S128x1x1024_S128x1024)
def siluOf (g : FVec Ideal S8192x2048 .f32) : FVec Ideal S8192x2048 .f32 :=
  mulf g (Host.divf (broadcastInDim S8192x2048 ![] bcast_S_S8192x2048 (constant S_ .f32 0x3F800000#32))
    (addf (broadcastInDim S8192x2048 ![] bcast_S_S8192x2048 (constant S_ .f32 0x3F800000#32)) (Host.exp (Host.negf g))))
def partQ (P : FVec Ideal S8192x6160 .f32) : FVec Ideal S8192x1024 .f32 := extractStridedSlice S8192x1024 ![0, 0] P slices_S8192x6160_S8192x1024_0_0
def partK (P : FVec Ideal S8192x6160 .f32) (C : FVec Ideal S128x64x1024 .f32) : FVec Ideal S8192x1024 .f32 :=
  mulf (extractStridedSlice S8192x1024 ![0, 1024] P slices_S8192x6160_S8192x1024_0_1024) (fallOf C)
def partV (P : FVec Ideal S8192x6160 .f32) : FVec Ideal S8192x2048 .f32 := extractStridedSlice S8192x2048 ![0, 2048] P slices_S8192x6160_S8192x2048_0_2048
def partG (P : FVec Ideal S8192x6160 .f32) (O : FVec Ideal S1x2048 .f32) : FVec Ideal S8192x2048 .f32 :=
  mulf (siluOf (extractStridedSlice S8192x2048 ![0, 4096] P slices_S8192x6160_S8192x2048_0_4096)) (broadcastInDim S8192x2048 ![0, 1] bcast_S1x2048_S8192x2048_0_1 O)
def sideOf (Q K : FVec Ideal S8192x1024 .f32) (V G : FVec Ideal S8192x2048 .f32) : FVec Ideal S8192x6144 .f32 :=
  concatenate S8192x6144 1 [⟨S8192x1024, Q⟩, ⟨S8192x1024, K⟩, ⟨S8192x2048, V⟩, ⟨S8192x2048, G⟩] concatenates_S8192x1024_S8192x1024_S8192x2048_S8192x2048_S8192x6144_d1

section
variable (X : FVec Ideal S8192x2048 .f32) (N : FVec Ideal S2x2048 .f32) (W L : FVec Ideal S6160x2048 .f32) (W2 : FVec Ideal S16x1024 .f32) (B : FVec Ideal S1x1024 .f32)
  (O : FVec Ideal S1x2048 .f32)
def projOf : FVec Ideal S8192x6160 .f32 := proj (normed X N) (joined W L)
def sums : FVec Ideal S128x64x1024 .f32 := cumOf (gateOf (preOf (projOf X N W L) W2 B))
def refOut : FVec Ideal S8192x6144 .bf16 :=
  truncf .bf16 (sideOf (partQ (projOf X N W L)) (partK (projOf X N W L) (sums X N W L W2 B)) (partV (projOf X N W L)) (partG (projOf X N W L) O)) bitsLt_bf16_f32
def refDec : FVec Ideal S128x1024 .f32 := wholeOf (sums X N W L W2 B)
end

section
variable (m : (l : Loc nD τ sig) → Buf (Elt Ideal) l) (c : Dev nD)
theorem out_eq : res_main_v45 m c = refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := rfl
theorem dec_eq : res_main_v40 m c = refDec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := rfl
end

theorem normed_at (X : FVec Ideal S8192x2048 .f32) (N : FVec Ideal S2x2048 .f32) (R : Fin 8192) (d : Fin 2048) :
    normed X N (ix2 R d) = rms (fun e => X (ix2 R e)) (fun e => N (ix2 (0 : Fin 2) e)) d := by
  unfold rms
  pointwise [normed]
theorem joined_top (W L : FVec Ideal S6160x2048 .f32) (q : Fin 6144) (d : Fin 2048) :
    joined W L (ix2 (⟨q.val, by omega⟩ : Fin 6160) d) = W (ix2 (⟨q.val, by omega⟩ : Fin 6160) d) := by
  have := q.isLt
  pointwise [joined]
theorem joined_bottom (W L : FVec Ideal S6160x2048 .f32) (a : Fin 16) (d : Fin 2048) :
    joined W L (ix2 (⟨6144 + a.val, by omega⟩ : Fin 6160) d) = L (ix2 (⟨6144 + a.val, by omega⟩ : Fin 6160) d) := by
  pointwise [joined]
theorem proj_at (H : FVec Ideal S8192x2048 .f32) (J : FVec Ideal S6160x2048 .f32) (R : Fin 8192) (q : Fin 6160) :
    proj H J (ix2 R q) = ∑ d : Fin 2048, H (ix2 R d) * J (ix2 q d) := by
  pointwise [proj]
theorem preOf_at (P : FVec Ideal S8192x6160 .f32) (W2 : FVec Ideal S16x1024 .f32) (B : FVec Ideal S1x1024 .f32) (R : Fin 8192) (j : Fin 1024) :
    preOf P W2 B (ix2 R j) = (∑ a : Fin 16, P (ix2 R (⟨6144 + a.val, by omega⟩ : Fin 6160)) * W2 (ix2 a j)) + B (ix2 (0 : Fin 1) j) := by
  pointwise [preOf]
theorem gateOf_at (Z : FVec Ideal S8192x1024 .f32) (R : Fin 8192) (j : Fin 1024) : gateOf Z (ix2 R j) = logGate (Z (ix2 R j)) := by
  rw [← logGate_eq]
  pointwise [gateOf, softOf, zeros]
  rw [if_neg (by simp)]
  rfl
/-- One position of a padded window, the initial value being zero. -/
def inWindow {s t : Shape} (window strides lo hi : Fin s.rank → ℕ) (h : s.ReduceWindows window strides lo hi t) (x : s.Idx → EReal) (j : t.Idx)
    (w : (⟨s.rank, window⟩ : Shape).Idx) : EReal :=
  let p : Fin s.rank → ℕ := fun a => (j (a.cast h.1.symm)).val * strides a + (w a).val
  if hin : ∀ a, lo a ≤ p a ∧ p a - lo a < s.size a then x (fun a => ⟨p a - lo a, (hin a).2⟩) else 0
theorem window_sum {s t : Shape} (window strides lo hi : Fin s.rank → ℕ) (h : s.ReduceWindows window strides lo hi t) (x : s.Idx → EReal) (j : t.Idx) :
    Ideal.hostReduceWindowAdd window strides lo hi h x 0 j = ∑ w, inWindow window strides lo hi h x j w := by
  rw [sum_idx_eq_foldl]
  unfold Ideal.hostReduceWindowAdd Host.reduceWindow inWindow
  exact congrArg (fun f => List.foldl f 0 _) (funext fun r => funext fun i => congrArg (fun e => r + e) (dite_congr rfl (fun _ => rfl) fun _ => rfl))
/-- The padded window's sum is the running sum. -/
theorem window_at (x : S128x64x1024.Idx → EReal) (h : S128x64x1024.ReduceWindows ![1, 64, 1] ![1, 1, 1] ![0, 63, 0] ![0, 0, 0] S128x64x1024)
    (n : Fin 128) (i : Fin 64) (j : Fin 1024) :
    Ideal.hostReduceWindowAdd ![1, 64, 1] ![1, 1, 1] ![0, 63, 0] ![0, 0, 0] h x 0 (ix3 n i j) = cum (fun k => x (ix3 n k j)) i := by
  rw [window_sum]
  let G : (⟨3, ![1, 64, 1]⟩ : Shape).Idx → EReal := inWindow (s := S128x64x1024) ![1, 64, 1] ![1, 1, 1] ![0, 63, 0] ![0, 0, 0] h x (ix3 n i j : S128x64x1024.Idx)
  show ∑ w, G w = _
  have hG : ∀ b : Fin 64, G (ix3 (0 : Fin 1) b (0 : Fin 1)) = if hb : 63 ≤ i.val + b.val then x (ix3 n (⟨i.val + b.val - 63, by omega⟩ : Fin 64) j) else 0 := fun b => by
    by_cases hb : 63 ≤ i.val + b.val
    · rw [dif_pos hb]
      refine (dif_pos fun a => ?_).trans (congrArg x (funext fun a => Fin.ext ?_))
      · match a with
        | ⟨0, _⟩ => exact ⟨Nat.zero_le _, by show n.val * 1 + 0 - 0 < 128; omega⟩
        | ⟨1, _⟩ => exact ⟨by show 63 ≤ i.val * 1 + b.val; omega, by show i.val * 1 + b.val - 63 < 64; omega⟩
        | ⟨2, _⟩ => exact ⟨Nat.zero_le _, by show j.val * 1 + 0 - 0 < 1024; omega⟩
      · match a with
        | ⟨0, _⟩ => show n.val * 1 + 0 - 0 = n.val; omega
        | ⟨1, _⟩ => show i.val * 1 + b.val - 63 = i.val + b.val - 63; omega
        | ⟨2, _⟩ => show j.val * 1 + 0 - 0 = j.val; omega
    · rw [dif_neg hb]
      refine dif_neg fun hin => hb ?_
      have h1 : 63 ≤ i.val * 1 + b.val := (hin 1).1
      omega
  have hs : ∑ w, G w = ∑ b : Fin 64, G (ix3 (0 : Fin 1) b (0 : Fin 1)) := by
    refine Fintype.sum_equiv ⟨fun w => (w 1 : Fin 64), fun b => ix3 (0 : Fin 1) b (0 : Fin 1), fun w => ?_, fun b => rfl⟩ _ _ fun w => congrArg G ?_
    · rw [eq_ix3 w]
      exact congrArg₂ (fun (a c : Fin 1) => (ix3 a _ c : (⟨3, ![1, 64, 1]⟩ : Shape).Idx)) (Subsingleton.elim _ _) (Subsingleton.elim _ _)
    · refine (eq_ix3 w).trans ?_
      exact congrArg₂ (fun (a c : Fin 1) => (ix3 a _ c : (⟨3, ![1, 64, 1]⟩ : Shape).Idx)) (Subsingleton.elim _ _) (Subsingleton.elim _ _)
  rw [hs]
  unfold cum
  rw [← Finset.sum_filter]
  have hz : ∑ b : Fin 64, G (ix3 (0 : Fin 1) b (0 : Fin 1)) = ∑ b ∈ Finset.univ.filter (fun b : Fin 64 => 63 ≤ i.val + b.val), G (ix3 (0 : Fin 1) b (0 : Fin 1)) :=
    (Finset.sum_filter_of_ne fun b _ hb => by
      by_contra hn
      exact hb ((hG b).trans (dif_neg hn))).symm
  rw [hz]
  refine Finset.sum_nbij' (fun b => (⟨i.val + b.val - 63, by omega⟩ : Fin 64)) (fun k => (⟨(k.val + 63 - i.val) % 64, by omega⟩ : Fin 64)) ?_ ?_ ?_ ?_ ?_
  · intro b hb
    simp only [Finset.mem_filter, Finset.mem_univ, true_and, Fin.le_def] at hb ⊢
    omega
  · intro k hk
    simp only [Finset.mem_filter, Finset.mem_univ, true_and, Fin.le_def] at hk ⊢
    omega
  · intro b hb
    simp only [Finset.mem_filter, Finset.mem_univ, true_and] at hb
    apply Fin.ext
    show (i.val + b.val - 63 + 63 - i.val) % 64 = b.val; omega
  · intro k hk
    simp only [Finset.mem_filter, Finset.mem_univ, true_and, Fin.le_def] at hk
    apply Fin.ext
    show i.val + (k.val + 63 - i.val) % 64 - 63 = k.val; omega
  · intro b hb
    simp only [Finset.mem_filter, Finset.mem_univ, true_and] at hb
    exact (hG b).trans (dif_pos hb)
theorem cumOf_at (A : FVec Ideal S8192x1024 .f32) (n : Fin 128) (i : Fin 64) (j : Fin 1024) :
    cumOf A (ix3 n i j) = cum (fun k => A (ix2 (⟨64 * n.val + k.val, by omega⟩ : Fin 8192) j)) i := by
  have hi : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  show Ideal.hostReduceWindowAdd ![1, 64, 1] ![1, 1, 1] ![0, 63, 0] ![0, 0, 0] reduceWindows_S128x64x1024_S128x64x1024_w1s1p0_0_w64s1p63_0_w1s1p0_0
    (shapeCast S128x64x1024 A shapeCasts_S8192x1024_S128x64x1024) _ (ix3 n i j) = _
  rw [hi, window_at]
  refine congrArg (fun l => cum l i) (funext fun k => ?_)
  have e : (⟨64 * n.val + k.val, by omega⟩ : Fin 8192) = (⟨n.val * 64 + k.val, by omega⟩ : Fin 8192) := Fin.ext (by show 64 * n.val + k.val = n.val * 64 + k.val; omega)
  rw [e]
  pointwise
theorem fallOf_at (C : FVec Ideal S128x64x1024 .f32) (R : Fin 8192) (j : Fin 1024) :
    fallOf C (ix2 R j) = Ideal.exp (C (ix3 (⟨R.val / 64, by omega⟩ : Fin 128) (63 : Fin 64) j) - C (ix3 (⟨R.val / 64, by omega⟩ : Fin 128) (⟨R.val % 64, by omega⟩ : Fin 64) j)) := by
  pointwise [fallOf]
theorem wholeOf_at (C : FVec Ideal S128x64x1024 .f32) (n : Fin 128) (j : Fin 1024) : wholeOf C (ix2 n j) = Ideal.exp (C (ix3 n (63 : Fin 64) j)) := by
  pointwise [wholeOf]
theorem siluOf_at (u : FVec Ideal S8192x2048 .f32) (R : Fin 8192) (e : Fin 2048) : siluOf u (ix2 R e) = silu (u (ix2 R e)) := by
  rw [silu_eq]
  pointwise [siluOf]
theorem partQ_at (P : FVec Ideal S8192x6160 .f32) (R : Fin 8192) (e : Fin 1024) : partQ P (ix2 R e) = P (ix2 R (⟨e.val, by omega⟩ : Fin 6160)) := by
  pointwise [partQ]
theorem partK_at (P : FVec Ideal S8192x6160 .f32) (C : FVec Ideal S128x64x1024 .f32) (R : Fin 8192) (e : Fin 1024) :
    partK P C (ix2 R e) = P (ix2 R (⟨1024 + e.val, by omega⟩ : Fin 6160)) * fallOf C (ix2 R e) := by
  pointwise [partK]
theorem partV_at (P : FVec Ideal S8192x6160 .f32) (R : Fin 8192) (e : Fin 2048) : partV P (ix2 R e) = P (ix2 R (⟨2048 + e.val, by omega⟩ : Fin 6160)) := by
  pointwise [partV]
theorem partG_at (P : FVec Ideal S8192x6160 .f32) (O : FVec Ideal S1x2048 .f32) (R : Fin 8192) (e : Fin 2048) :
    partG P O (ix2 R e) = silu (P (ix2 R (⟨4096 + e.val, by omega⟩ : Fin 6160))) * O (ix2 (0 : Fin 1) e) := by
  have h : siluOf (extractStridedSlice S8192x2048 ![0, 4096] P slices_S8192x6160_S8192x2048_0_4096) (ix2 R e) = silu (P (ix2 R (⟨4096 + e.val, by omega⟩ : Fin 6160))) := by
    rw [siluOf_at]
    pointwise
  rw [← h]
  pointwise [partG]

section
variable (X : FVec Ideal S8192x2048 .f32) (N : FVec Ideal S2x2048 .f32) (W L : FVec Ideal S6160x2048 .f32) (W2 : FVec Ideal S16x1024 .f32) (B : FVec Ideal S1x1024 .f32)
  (O : FVec Ideal S1x2048 .f32)

/-- The chunk's 64 rows at a row's chunk. -/
abbrev chunkOf (n : Fin 128) : Fin 64 → Fin 2048 → EReal := fun k e => X (ix2 (⟨64 * n.val + k.val, by omega⟩ : Fin 8192) e)
abbrev gainOf : Fin 2048 → EReal := fun e => N (ix2 (0 : Fin 2) e)
abbrev wideOf : Fin 6144 → Fin 2048 → EReal := fun q d => W (ix2 (⟨q.val, by omega⟩ : Fin 6160) d)
abbrev thinOf : Fin 16 → Fin 2048 → EReal := fun a d => L (ix2 (⟨6144 + a.val, by omega⟩ : Fin 6160) d)
abbrev rankOf : Fin 16 → Fin 1024 → EReal := fun a j => W2 (ix2 a j)
abbrev biasOf : Fin 1024 → EReal := fun j => B (ix2 (0 : Fin 1) j)
abbrev flatOf : Fin 2048 → EReal := fun e => O (ix2 (0 : Fin 1) e)

theorem proj_top (R : Fin 8192) (q : Fin 6144) :
    projOf X N W L (ix2 R (⟨q.val, by omega⟩ : Fin 6160)) = into (wideOf W) (rms (fun e => X (ix2 R e)) (gainOf N)) q :=
  (proj_at _ _ R _).trans (Finset.sum_congr rfl fun d _ => congrArg₂ (· * ·) (normed_at X N R d) (joined_top W L q d))
theorem proj_bottom (R : Fin 8192) (a : Fin 16) :
    projOf X N W L (ix2 R (⟨6144 + a.val, by omega⟩ : Fin 6160)) = ∑ d : Fin 2048, rms (fun e => X (ix2 R e)) (gainOf N) d * thinOf L a d :=
  (proj_at _ _ R _).trans (Finset.sum_congr rfl fun d _ => congrArg₂ (· * ·) (normed_at X N R d) (joined_bottom W L a d))
theorem pre_at (R : Fin 8192) (j : Fin 1024) :
    preOf (projOf X N W L) W2 B (ix2 R j) = pre (thinOf L) (rankOf W2) (biasOf B) (rms (fun e => X (ix2 R e)) (gainOf N)) j := by
  rw [preOf_at]
  simp only [proj_bottom]
  rfl
theorem sums_at (n : Fin 128) (i : Fin 64) (j : Fin 1024) :
    sums X N W L W2 B (ix3 n i j) = cum (gates (gainOf N) (thinOf L) (rankOf W2) (biasOf B) (chunkOf X n) j) i := by
  refine (cumOf_at _ n i j).trans (congrArg (fun l => cum l i) (funext fun k => ?_))
  rw [gateOf_at, pre_at]
  rfl
theorem refDec_at (n : Fin 128) (j : Fin 1024) : refDec X N W L W2 B (ix2 n j) = whole (gainOf N) (thinOf L) (rankOf W2) (biasOf B) (chunkOf X n) j := by
  refine (wholeOf_at _ n j).trans ?_
  rw [sums_at]
  rfl
theorem fall_at (R : Fin 8192) (j : Fin 1024) : fallOf (sums X N W L W2 B) (ix2 R j)
    = fall (gainOf N) (thinOf L) (rankOf W2) (biasOf B) (chunkOf X (⟨R.val / 64, by omega⟩ : Fin 128)) (⟨R.val % 64, by omega⟩ : Fin 64) j := by
  refine (fallOf_at _ R j).trans ?_
  rw [sums_at, sums_at]
  rfl

theorem side_q (Q K : FVec Ideal S8192x1024 .f32) (V G : FVec Ideal S8192x2048 .f32) (R : Fin 8192) (e : Fin 1024) :
    sideOf Q K V G (ix2 R (⟨e.val, by omega⟩ : Fin 6144)) = Q (ix2 R e) := by
  have := e.isLt
  pointwise [sideOf]
theorem side_k (Q K : FVec Ideal S8192x1024 .f32) (V G : FVec Ideal S8192x2048 .f32) (R : Fin 8192) (e : Fin 1024) :
    sideOf Q K V G (ix2 R (⟨1024 + e.val, by omega⟩ : Fin 6144)) = K (ix2 R e) := by
  have := e.isLt
  pointwise [sideOf]
theorem side_v (Q K : FVec Ideal S8192x1024 .f32) (V G : FVec Ideal S8192x2048 .f32) (R : Fin 8192) (e : Fin 2048) :
    sideOf Q K V G (ix2 R (⟨2048 + e.val, by omega⟩ : Fin 6144)) = V (ix2 R e) := by
  have := e.isLt
  pointwise [sideOf]
  rw [dif_neg (by omega), dif_neg (by omega), dif_pos (by omega)]
  exact congrArg (fun e : Fin 2048 => V (ix2 R e)) (Fin.ext (by show 2048 + e.val - 1024 - 1024 = e.val; omega))
theorem side_g (Q K : FVec Ideal S8192x1024 .f32) (V G : FVec Ideal S8192x2048 .f32) (R : Fin 8192) (e : Fin 2048) :
    sideOf Q K V G (ix2 R (⟨4096 + e.val, by omega⟩ : Fin 6144)) = G (ix2 R e) := by
  have := e.isLt
  pointwise [sideOf]
  rw [dif_neg (by omega), dif_neg (by omega), dif_neg (by omega)]
  exact congrArg (fun e : Fin 2048 => G (ix2 R e)) (Fin.ext (by show 4096 + e.val - 1024 - 1024 - 2048 = e.val; omega))

theorem lt_k (e : Fin 1024) : 1024 + e.val < 6144 := by omega
theorem lt_v (e : Fin 2048) : 2048 + e.val < 6144 := by omega
theorem lt_g (e : Fin 2048) : 4096 + e.val < 6144 := by omega

/-- The reference's wide result at an index. -/
theorem refOut_at (R : Fin 8192) (c : Fin 6144) : refOut X N W L W2 B O (ix2 R c)
    = wide (wideOf W) (gainOf N) (thinOf L) (rankOf W2) (biasOf B) (flatOf O) (chunkOf X (⟨R.val / 64, by omega⟩ : Fin 128)) (⟨R.val % 64, by omega⟩ : Fin 64) c := by
  have hr : (⟨64 * (R.val / 64) + R.val % 64, by omega⟩ : Fin 8192) = R := Fin.ext (by show 64 * (R.val / 64) + R.val % 64 = R.val; omega)
  show sideOf _ _ _ _ (ix2 R c) = _
  unfold wide
  rw [show chunkOf X (⟨R.val / 64, by omega⟩ : Fin 128) (⟨R.val % 64, by omega⟩ : Fin 64) = fun e => X (ix2 R e) from funext fun e => congrArg (fun R : Fin 8192 => X (ix2 R e)) hr]
  obtain h | h | h | h : c.val < 1024 ∨ (1024 ≤ c.val ∧ c.val < 2048) ∨ (2048 ≤ c.val ∧ c.val < 4096) ∨ 4096 ≤ c.val := by omega
  · rw [if_neg (by omega), if_neg (by omega)]
    exact (side_q _ _ _ _ R (⟨c.val, h⟩ : Fin 1024)).trans ((partQ_at _ R _).trans (proj_top X N W L R c))
  · obtain ⟨e, rfl⟩ : ∃ e : Fin 1024, c = (⟨1024 + e.val, lt_k e⟩ : Fin 6144) := ⟨⟨c.val - 1024, by omega⟩, Fin.ext (by show c.val = 1024 + (c.val - 1024); omega)⟩
    rw [if_pos (by show (1024 + e.val) / 1024 = 1; omega)]
    refine (side_k _ _ _ _ R e).trans ((partK_at _ _ R e).trans (congrArg₂ (· * ·) (proj_top X N W L R (⟨1024 + e.val, by omega⟩ : Fin 6144)) ?_))
    refine (fall_at X N W L W2 B R e).trans (congrArg _ (Fin.ext ?_))
    show e.val = (1024 + e.val) % 1024; omega
  · obtain ⟨e, rfl⟩ : ∃ e : Fin 2048, c = (⟨2048 + e.val, lt_v e⟩ : Fin 6144) := ⟨⟨c.val - 2048, by omega⟩, Fin.ext (by show c.val = 2048 + (c.val - 2048); omega)⟩
    rw [if_neg (by show ¬(2048 + e.val) / 1024 = 1; omega), if_neg (by show ¬4096 ≤ 2048 + e.val; omega)]
    exact (side_v _ _ _ _ R e).trans ((partV_at _ R e).trans (proj_top X N W L R (⟨2048 + e.val, by omega⟩ : Fin 6144)))
  · obtain ⟨e, rfl⟩ : ∃ e : Fin 2048, c = (⟨4096 + e.val, lt_g e⟩ : Fin 6144) := ⟨⟨c.val - 4096, by omega⟩, Fin.ext (by show c.val = 4096 + (c.val - 4096); omega)⟩
    rw [if_neg (by show ¬(4096 + e.val) / 1024 = 1; omega), if_pos (by show 4096 ≤ 4096 + e.val; omega)]
    refine (side_g _ _ _ _ R e).trans ((partG_at _ _ R e).trans (congrArg₂ (· * ·) (congrArg silu (proj_top X N W L R (⟨4096 + e.val, by omega⟩ : Fin 6144))) ?_))
    refine congrArg (fun e : Fin 2048 => O (ix2 (0 : Fin 1) e)) (Fin.ext ?_)
    show e.val = (4096 + e.val) % 2048; omega
end

end Cert.Reference4Ideal.In

end
-- ==== Proof.Pair4.lean ====
module

public import proofs.«01_k».proof.Defs
public import proofs.«01_k».proof.Proof.InFinal
public import proofs.«01_k».proof.Proof.InRef

@[expose] public section

noncomputable section

namespace Cert.Proof

open Idealize.ShloMosaic Idealize.ShloMosaic.TcCoe Idealize.ShloMosaic.ValueKit Idealize.SL.Sem

/-- The gated linear attention's input projection: the kernel and the reference leave the same three results. -/
theorem in_pair : algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.In.result m c, fun c => Cert.Kernel4Ideal.In.decays m c, fun c => Cert.Kernel4Ideal.In.weight m c, ?_, ?_⟩
  · exact (θ_run _ _ _).mono (fun r h c => ⟨(h c).1.trans (Cert.Kernel4Ideal.In.final7 m c), (h c).2.1.trans (Cert.Kernel4Ideal.In.final8 m c),
      (h c).2.2.1.trans (Cert.Kernel4Ideal.In.final9 m c), (h c).2.2.2⟩) (Cert.Kernel4Ideal.In.run_blocks m g)
  · refine (θ_run _ _ _).mono (fun r h c => ⟨(h c).1.trans ?_, (h c).2.1.trans ?_, (h c).2.2.1.trans ?_, (h c).2.2.2⟩) (Cert.Reference4Ideal.Value.run m' g')
    · obtain ⟨h0, h1, h2, h3, h4, h5, h6, h7⟩ := hargs c
      rw [Cert.Reference4Ideal.In.out_eq, h0, h1, h2, h3, h4, h5, h6]
      funext y
      obtain ⟨R, q, rfl⟩ := Cert.Kernel4Ideal.In.of_ix2 (a := 8192) (b := 6144) y
      exact (Cert.Reference4Ideal.In.refOut_at _ _ _ _ _ _ _ R q).trans (Cert.Kernel4Ideal.In.result_at m c R q).symm
    · obtain ⟨h0, h1, h2, h3, h4, h5, h6, h7⟩ := hargs c
      rw [Cert.Reference4Ideal.In.dec_eq, h0, h1, h2, h3, h4, h5]
      funext y
      obtain ⟨n, j, rfl⟩ := Cert.Kernel4Ideal.In.of_ix2 (a := 128) (b := 1024) y
      exact (Cert.Reference4Ideal.In.refDec_at _ _ _ _ _ _ n j).trans (Cert.Kernel4Ideal.In.decays_at m c n j).symm
    · obtain ⟨h0, h1, h2, h3, h4, h5, h6, h7⟩ := hargs c
      rw [h7]
      rfl

end Cert.Proof

end
-- ==== Proof.lean ====
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.InFFrame
public import proofs.«01_k».proof.Proof.InFrame
public import proofs.«01_k».proof.Proof.Pair
public import proofs.«01_k».proof.Proof.Pair2
public import proofs.«01_k».proof.Proof.Pair3
public import proofs.«01_k».proof.Proof.Pair4
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ,
  fun m ρ _ => Cert.KernelIdeal.Gen.frame m ρ,
  fun m ρ _ => (θ_run _ _ _).mono (fun r h => ⟨fun c => (h c).2.2, sem_eq_zero_of_no_sems (by decide) _⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2.2, sem_eq_zero_of_no_sems (by decide) _⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2, sem_eq_zero_of_no_sems (by decide) _⟩) (Cert.Reference3Ideal.Value.run m ρ),
  fun m ρ _ => Cert.Kernel4.In.frame m ρ,
  fun m ρ _ => Cert.Kernel4Ideal.In.frame m ρ,
  fun m ρ _ => (θ_run _ _ _).mono (fun r h => ⟨fun c => (h c).2.2.2, sem_eq_zero_of_no_sems (by decide) _⟩) (Cert.Reference4Ideal.Value.run m ρ),
  trivial,
  scan_pair,
  IdealRules.named_const.statement _ _ _ _ _ rfl,
  mix_pair,
  trivial,
  out_pair,
  trivial,
  in_pair⟩

end Cert.Proof

end
